-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v343) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S10000x128 : Shape := ⟨2, ![10000, 128]⟩
abbrev S2x320000 : Shape := ⟨2, ![2, 320000]⟩
abbrev S2048 : Shape := ⟨1, ![2048]⟩
abbrev S128x128 : Shape := ⟨2, ![128, 128]⟩
abbrev S128 : Shape := ⟨1, ![128]⟩
abbrev S4x12 : Shape := ⟨2, ![4, 12]⟩
abbrev S_ : Shape := ⟨0, ![]⟩
abbrev S4x4 : Shape := ⟨2, ![4, 4]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S2048 : S_.BroadcastsInDim S2048 (![] : Fin 0 → Fin S2048.rank)
  reducesTo_S2048_S_d0 : S2048.ReducesTo [0] S_
  slicesBy_S4x12_S4x4_0s1_1s2 : S4x12.SlicesBy (![0, 1] : Fin 2 → Nat) ![1, 2] S4x4
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_arg8 : FVec F S4x12 .f32) (main_arg9 : FVec F S4x12 .f32) (main_v12 : IVec S_ 1) (main_v15 : IVec S4x4 1) (main_c_5 : IVec S_ 1) : IVec S_ 1 :=
  let main_v16 : IVec S_ 1 := (fun x v => Host.reduce IntOp.andi x v reducesTo_S4x4_S_d0_1 h_S_) main_v15 main_c_5
  let main_v17 : IVec S_ 1 := andi main_v12 main_v16
  let main_v18 : FVec F S4x4 .f32 := (Host.slice S4x4 ![0, 1] ![1, 2] · slicesBy_S4x12_S4x4_0s1_1s2) main_arg8
  let main_cst_6 : FVec F S_ .f32 := constant S_ .f32 0x00000000#32
  let main_v19 : FVec F S4x4 .f32 := broadcastInDim S4x4 ![] bcast_S_S4x4 main_cst_6
  let main_v20 : IVec S4x4 1 := cmpf .oge main_v18 main_v19
  let main_c_7 : IVec S_ 1 := constantI S_ 1 1#1
  let main_v21 : IVec S_ 1 := (fun x v => Host.reduce IntOp.andi x v reducesTo_S4x4_S_d0_1 h_S_) main_v20 main_c_7
  let main_v22 : IVec S_ 1 := andi main_v17 main_v21
  let main_v23 : FVec F S4x4 .f32 := (Host.slice S4x4 ![0, 1] ![1, 2] · slicesBy_S4x12_S4x4_0s1_1s2) main_arg9
  let main_cst_8 : FVec F S_ .f32 := constant S_ .f32 0x00000000#32
  let main_v24 : FVec F S4x4 .f32 := broadcastInDim S4x4 ![] bcast_S_S4x4 main_cst_8
  let main_v25 : IVec S4x4 1 := cmpf .oge main_v23 main_v24
  let main_c_9 : IVec S_ 1 := constantI S_ 1 1#1
  let main_v26 : IVec S_ 1 := (fun x v => Host.reduce IntOp.andi x v reducesTo_S4x4_S_d0_1 h_S_) main_v25 main_c_9
  let main_v27 : IVec S_ 1 := andi main_v22 main_v26
  main_v27

def fn {F : FTy → Type} [FloatOps F] (main_arg0 : FVec F S10000x128 .f32) (main_arg1 : IVec S2x320000 32) (main_arg2 : IVec S2048 32) (main_arg3 : FVec F S128x128 .f32) (main_arg4 : FVec F S128 .f32) (main_arg5 : FVec F S128x128 .f32) (main_arg6 : FVec F S128x128 .f32) (main_arg7 : FVec F S4x12 .f32) (main_arg8 : FVec F S4x12 .f32) (main_arg9 : FVec F S4x12 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_c_2 : IVec S_ 32 := constantI S_ 32 0#32
  let main_v6 : IVec S2048 32 := broadcastInDim S2048 ![] bcast_S_S2048 main_c_2
  let main_v7 : IVec S2048 1 := cmpi .sge main_arg2 main_v6
  let main_c_3 : IVec S_ 32 := constantI S_ 32 10000#32
  let main_v8 : IVec S2048 32 := broadcastInDim S2048 ![] bcast_S_S2048 main_c_3
  let main_v9 : IVec S2048 1 := cmpi .slt main_arg2 main_v8
  let main_v10 : IVec S2048 1 := andi main_v7 main_v9
  let main_c_4 : IVec S_ 1 := constantI S_ 1 1#1
  let main_v11 : IVec S_ 1 := (fun x v => Host.reduce IntOp.andi x v reducesTo_S2048_S_d0 h_S_) main_v10 main_c_4
  let main_v12 : IVec S_ 1 := andi main_v5 main_v11
  let main_v13 : FVec F S4x4 .f32 := (Host.slice S4x4 ![0, 1] ![1, 2] · slicesBy_S4x12_S4x4_0s1_1s2) main_arg7
  let main_cst : FVec F S_ .f32 := constant S_ .f32 0x00000000#32
  let main_v14 : FVec F S4x4 .f32 := broadcastInDim S4x4 ![] bcast_S_S4x4 main_cst
  let main_v15 : IVec S4x4 1 := cmpf .oge main_v13 main_v14
  let main_c_5 : IVec S_ 1 := constantI S_ 1 1#1
  fn_part1 (F := F) main_arg8 main_arg9 main_v12 main_v15 main_c_5
-- ==== Kernel.lean ====
abbrev S10000x128 : Shape := ⟨2, ![10000, 128]⟩
abbrev S2x320000 : Shape := ⟨2, ![2, 320000]⟩
abbrev S2048 : Shape := ⟨1, ![2048]⟩
abbrev S128x128 : Shape := ⟨2, ![128, 128]⟩
abbrev S128 : Shape := ⟨1, ![128]⟩
abbrev S4x12 : Shape := ⟨2, ![4, 12]⟩
abbrev S1x320000 : Shape := ⟨2, ![1, 320000]⟩
abbrev S320000 : Shape := ⟨1, ![320000]⟩
abbrev S_ : Shape := ⟨0, ![]⟩
abbrev S10240x10240 : Shape := ⟨2, ![10240, 10240]⟩
abbrev S320000x1 : Shape := ⟨2, ![320000, 1]⟩
abbrev S320000x2 : Shape := ⟨2, ![320000, 2]⟩
abbrev S10240x128 : Shape := ⟨2, ![10240, 128]⟩
abbrev S1x128 : Shape := ⟨2, ![1, 128]⟩
abbrev S10240x2048 : Shape := ⟨2, ![10240, 2048]⟩
abbrev S1024x128 : Shape := ⟨2, ![1024, 128]⟩
abbrev S1024x2048 : Shape := ⟨2, ![1024, 2048]⟩
abbrev S1x1 : Shape := ⟨2, ![1, 1]⟩
abbrev S2048x2048 : Shape := ⟨2, ![2048, 2048]⟩
abbrev S2048x1 : Shape := ⟨2, ![2048, 1]⟩
abbrev S1 : Shape := ⟨1, ![1]⟩
abbrev S2048x128 : Shape := ⟨2, ![2048, 128]⟩

abbrev nBuf : Space → Nat
  | .hbm => 83
  | .vmem => 36
  | .smem => 6
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S2048, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S4x12, .f32⟩
  | .hbm, ⟨8, _⟩ => ⟨S4x12, .f32⟩
  | .hbm, ⟨9, _⟩ => ⟨S4x12, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S_, .f32⟩
  | .hbm, ⟨22, _⟩ => ⟨S10240x10240, .f32⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x1, .i32⟩
  | .hbm, ⟨39, _⟩ => ⟨S320000x2, .i32⟩
  | .hbm, ⟨40, _⟩ => ⟨S_, .f32⟩
  | .hbm, ⟨41, _⟩ => ⟨S320000, .f32⟩
  | .hbm, ⟨42, _⟩ => ⟨S10240x10240, .f32⟩
  | .hbm, ⟨43, _⟩ => ⟨S10240x10240, .bf16⟩
  | .hbm, ⟨44, _⟩ => ⟨S_, .i32⟩
  | .hbm, ⟨45, _⟩ => ⟨S_, .f32⟩
  | .hbm, ⟨46, _⟩ => ⟨S10240x128, .f32⟩
  | .hbm, ⟨47, _⟩ => ⟨S1x128, .f32⟩
  | .hbm, ⟨48, _⟩ => ⟨S10240x2048, .bf16⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S10240x2048, .bf16⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S10240x2048, .bf16⟩
  | .hbm, ⟨57, _⟩ => ⟨S1x128, .f32⟩
  | .hbm, ⟨58, _⟩ => ⟨S10240x128, .f32⟩
  | .hbm, ⟨59, _⟩ => ⟨S10000x128, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S2048x1, .i32⟩
  | .hbm, ⟨68, _⟩ => ⟨S1, .i32⟩
  | .hbm, ⟨69, _⟩ => ⟨S_, .i32⟩
  | .hbm, ⟨70, _⟩ => ⟨S2048x1, .i32⟩
  | .hbm, ⟨71, _⟩ => ⟨S2048x1, .i1⟩
  | .hbm, ⟨72, _⟩ => ⟨S1x1, .i32⟩
  | .hbm, ⟨73, _⟩ => ⟨S2048x1, .i32⟩
  | .hbm, ⟨74, _⟩ => ⟨S2048x1, .i1⟩
  | .hbm, ⟨75, _⟩ => ⟨S2048x1, .i1⟩
  | .hbm, ⟨76, _⟩ => ⟨S_, .i1⟩
  | .hbm, ⟨77, _⟩ => ⟨S2048, .i1⟩
  | .hbm, ⟨78, _⟩ => ⟨S2048x128, .f32⟩
  | .hbm, ⟨79, _⟩ => ⟨S2048x128, .i1⟩
  | .hbm, ⟨80, _⟩ => ⟨S_, .f32⟩
  | .hbm, ⟨81, _⟩ => ⟨S2048x128, .f32⟩
  | .hbm, ⟨82, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x2048, .bf16⟩
  | .local _ .vmem, ⟨9, _⟩ => ⟨S2048x2048, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S2048x2048, .bf16⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1024x2048, .bf16⟩
  | .local _ .vmem, ⟨26, _⟩ => ⟨S1024x2048, .bf16⟩
  | .local _ .vmem, ⟨27, _⟩ => ⟨S1024x2048, .f32⟩
  | .local _ .vmem, ⟨28, _⟩ => ⟨S1024x2048, .bf16⟩
  | .local _ .vmem, ⟨29, _⟩ => ⟨S1024x2048, .bf16⟩
  | .local _ .vmem, ⟨30, _⟩ => ⟨S2048x2048, .bf16⟩
  | .local _ .vmem, ⟨31, _⟩ => ⟨S2048x2048, .bf16⟩
  | .local _ .vmem, ⟨32, _⟩ => ⟨S1x128, .f32⟩
  | .local _ .vmem, ⟨33, _⟩ => ⟨S1024x128, .f32⟩
  | .local _ .vmem, ⟨34, _⟩ => ⟨S1024x128, .f32⟩
  | .local _ .vmem, ⟨35, _⟩ => ⟨S1024x2048, .f32⟩
  | .local _ .smem, ⟨0, _⟩ => ⟨S4x12, .f32⟩
  | .local _ .smem, ⟨1, _⟩ => ⟨S4x12, .f32⟩
  | .local _ .smem, ⟨2, _⟩ => ⟨S4x12, .f32⟩
  | .local _ .smem, ⟨3, _⟩ => ⟨S4x12, .f32⟩
  | .local _ .smem, ⟨4, _⟩ => ⟨S4x12, .f32⟩
  | .local _ .smem, ⟨5, _⟩ => ⟨S4x12, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_call0_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v35 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg8_0 : Ref sig .tc := ⟨.vmem, 14, rfl⟩
abbrev cc1_stg8_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg8_0 : Ref sig .tc := ⟨.vmem, 25, rfl⟩
abbrev cc2_stg8_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc0_stg3_0 : Ref sig .tc := ⟨.smem, 0, rfl⟩
abbrev cc1_stg2_0 : Ref sig .tc := ⟨.smem, 1, rfl⟩
abbrev cc1_stg7_0 : Ref sig .tc := ⟨.smem, 2, rfl⟩
abbrev cc2_stg2_0 : Ref sig .tc := ⟨.smem, 3, rfl⟩
abbrev cc2_stg7_0 : Ref sig .tc := ⟨.smem, 4, rfl⟩
abbrev cc3_stg2_0 : Ref sig .tc := ⟨.smem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem8_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .smem S4x12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .smem S4x12 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![10, 5], ![false, false]⟩

def k2_cond2 (i : grid2.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .smem S4x12 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .smem S4x12 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1024x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![10, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .smem S4x12 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]
-- ==== ReferenceIdeal.lean ====
abbrev S10000x128 : Shape := ⟨2, ![10000, 128]⟩
abbrev S2x320000 : Shape := ⟨2, ![2, 320000]⟩
abbrev S2048 : Shape := ⟨1, ![2048]⟩
abbrev S128x128 : Shape := ⟨2, ![128, 128]⟩
abbrev S128 : Shape := ⟨1, ![128]⟩
abbrev S4x12 : Shape := ⟨2, ![4, 12]⟩
abbrev S1x320000 : Shape := ⟨2, ![1, 320000]⟩
abbrev S320000 : Shape := ⟨1, ![320000]⟩
abbrev S1x128 : Shape := ⟨2, ![1, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x1x128 : Shape := ⟨3, ![320000, 1, 128]⟩
abbrev S4x1 : Shape := ⟨2, ![4, 1]⟩
abbrev S4 : Shape := ⟨1, ![4]⟩
abbrev S1x4x1 : Shape := ⟨3, ![1, 4, 1]⟩
abbrev S320000x4x128 : Shape := ⟨3, ![320000, 4, 128]⟩
abbrev S10000x4x128 : Shape := ⟨3, ![10000, 4, 128]⟩
abbrev S2048x1 : Shape := ⟨2, ![2048, 1]⟩
abbrev S2048x128 : Shape := ⟨2, ![2048, 128]⟩

abbrev nBuf : Space → Nat
  | .hbm => 497
  | .vmem => 0
  | .smem => 0
  | _ => 0

abbrev hbmTy0_0 (i : Nat) : BufTy := match i % 128 with
  | 0 => ⟨S10000x128, .f32⟩
  | 1 => ⟨S2x320000, .i32⟩
  | 2 => ⟨S2048, .i32⟩
  | 3 => ⟨S128x128, .f32⟩
  | 4 => ⟨S128, .f32⟩
  | 5 => ⟨S128x128, .f32⟩
  | 6 => ⟨S128x128, .f32⟩
  | 7 => ⟨S4x12, .f32⟩
  | 8 => ⟨S4x12, .f32⟩
  | 9 => ⟨S4x12, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x320000, .i32⟩
  | 18 => ⟨S320000, .i32⟩
  | 19 => ⟨S1x320000, .i32⟩
  | 20 => ⟨S320000, .i32⟩
  | 21 => ⟨S10000x128, .f32⟩
  | 22 => ⟨S1x128, .f32⟩
  | 23 => ⟨S10000x128, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S1, .i32⟩
  | 42 => ⟨S_, .i32⟩
  | 43 => ⟨S320000x1, .i32⟩
  | 44 => ⟨S320000x1, .i1⟩
  | 45 => ⟨S1x1, .i32⟩
  | 46 => ⟨S320000x1, .i32⟩
  | 47 => ⟨S320000x1, .i1⟩
  | 48 => ⟨S320000x1, .i1⟩
  | 49 => ⟨S_, .i1⟩
  | 50 => ⟨S320000, .i1⟩
  | 51 => ⟨S320000x128, .f32⟩
  | 52 => ⟨S320000x128, .i1⟩
  | 53 => ⟨S_, .f32⟩
  | 54 => ⟨S320000x128, .f32⟩
  | 55 => ⟨S320000x128, .f32⟩
  | 56 => ⟨S320000x1x128, .f32⟩
  | 57 => ⟨S_, .f32⟩
  | 58 => ⟨S320000x1x128, .f32⟩
  | 59 => ⟨S320000x1x128, .f32⟩
  | 60 => ⟨S4x1, .f32⟩
  | 61 => ⟨S4, .f32⟩
  | 62 => ⟨S1x4x1, .f32⟩
  | 63 => ⟨S4x1, .f32⟩
  | 64 => ⟨S4, .f32⟩
  | 65 => ⟨S1x4x1, .f32⟩
  | 66 => ⟨S4x1, .f32⟩
  | 67 => ⟨S4, .f32⟩
  | 68 => ⟨S1x4x1, .f32⟩
  | 69 => ⟨S4x1, .f32⟩
  | 70 => ⟨S4, .f32⟩
  | 71 => ⟨S1x4x1, .f32⟩
  | 72 => ⟨S4x1, .f32⟩
  | 73 => ⟨S4, .f32⟩
  | 74 => ⟨S1x4x1, .f32⟩
  | 75 => ⟨S4x1, .f32⟩
  | 76 => ⟨S4, .f32⟩
  | 77 => ⟨S1x4x1, .f32⟩
  | 78 => ⟨S4x1, .f32⟩
  | 79 => ⟨S4, .f32⟩
  | 80 => ⟨S1x4x1, .f32⟩
  | 81 => ⟨S4x1, .f32⟩
  | 82 => ⟨S4, .f32⟩
  | 83 => ⟨S1x4x1, .f32⟩
  | 84 => ⟨S4x1, .f32⟩
  | 85 => ⟨S4, .f32⟩
  | 86 => ⟨S1x4x1, .f32⟩
  | 87 => ⟨S4x1, .f32⟩
  | 88 => ⟨S4, .f32⟩
  | 89 => ⟨S1x4x1, .f32⟩
  | 90 => ⟨S4x1, .f32⟩
  | 91 => ⟨S4, .f32⟩
  | 92 => ⟨S1x4x1, .f32⟩
  | 93 => ⟨S4x1, .f32⟩
  | 94 => ⟨S4, .f32⟩
  | 95 => ⟨S1x4x1, .f32⟩
  | 96 => ⟨S320000x4x128, .f32⟩
  | 97 => ⟨S320000x4x128, .f32⟩
  | 98 => ⟨S320000x4x128, .f32⟩
  | 99 => ⟨S_, .f32⟩
  | 100 => ⟨S10000x4x128, .f32⟩
  | 101 => ⟨S320000x1, .i32⟩
  | 102 => ⟨S10000x4x128, .f32⟩
  | 103 => ⟨S320000x4x128, .f32⟩
  | 104 => ⟨S320000x4x128, .f32⟩
  | 105 => ⟨S320000x4x128, .f32⟩
  | 106 => ⟨S_, .f32⟩
  | 107 => ⟨S10000x4x128, .f32⟩
  | 108 => ⟨S320000x1, .i32⟩
  | 109 => ⟨S10000x4x128, .f32⟩
  | 110 => ⟨S320000x4x128, .f32⟩
  | 111 => ⟨S320000x4x128, .f32⟩
  | 112 => ⟨S320000x4x128, .f32⟩
  | 113 => ⟨S_, .f32⟩
  | 114 => ⟨S10000x4x128, .f32⟩
  | 115 => ⟨S320000x1, .i32⟩
  | 116 => ⟨S10000x4x128, .f32⟩
  | 117 => ⟨S320000x4x128, .f32⟩
  | 118 => ⟨S320000x4x128, .f32⟩
  | 119 => ⟨S320000x4x128, .f32⟩
  | 120 => ⟨S_, .f32⟩
  | 121 => ⟨S10000x4x128, .f32⟩
  | 122 => ⟨S320000x1, .i32⟩
  | 123 => ⟨S10000x4x128, .f32⟩
  | 124 => ⟨S_, .f32⟩
  | 125 => ⟨S10000x4x128, .f32⟩
  | 126 => ⟨S10000x4x128, .f32⟩
  | 127 => ⟨S10000x4x128, .f32⟩
  | _ => ⟨S10000x128, .f32⟩

abbrev hbmTy0_1 (i : Nat) : BufTy := match i % 128 with
  | 0 => ⟨S10000x4x128, .f32⟩
  | 1 => ⟨S10000x4x128, .f32⟩
  | 2 => ⟨S10000x4x128, .f32⟩
  | 3 => ⟨S_, .f32⟩
  | 4 => ⟨S10000x4x128, .f32⟩
  | 5 => ⟨S10000x4x128, .f32⟩
  | 6 => ⟨S10000x4x128, .f32⟩
  | 7 => ⟨S10000x4x128, .f32⟩
  | 8 => ⟨S10000x4x128, .f32⟩
  | 9 => ⟨S10000x4x128, .f32⟩
  | 10 => ⟨S10000x4x128, .f32⟩
  | 11 => ⟨S_, .f32⟩
  | 12 => ⟨S10000x4x128, .f32⟩
  | 13 => ⟨S10000x4x128, .f32⟩
  | 14 => ⟨S10000x4x128, .f32⟩
  | 15 => ⟨S10000x4x128, .f32⟩
  | 16 => ⟨S10000x4x128, .f32⟩
  | 17 => ⟨S10000x4x128, .f32⟩
  | 18 => ⟨S_, .f32⟩
  | 19 => ⟨S10000x4x128, .f32⟩
  | 20 => ⟨S10000x4x128, .f32⟩
  | 21 => ⟨S10000x4x128, .f32⟩
  | 22 => ⟨S10000x4x128, .f32⟩
  | 23 => ⟨S10000x4x128, .f32⟩
  | 24 => ⟨S10000x4x128, .f32⟩
  | 25 => ⟨S10000x4x128, .f32⟩
  | 26 => ⟨S_, .f32⟩
  | 27 => ⟨S10000x4x128, .f32⟩
  | 28 => ⟨S10000x4x128, .f32⟩
  | 29 => ⟨S10000x4x128, .f32⟩
  | 30 => ⟨S_, .f32⟩
  | 31 => ⟨S10000x128, .f32⟩
  | 32 => ⟨S_, .f32⟩
  | 33 => ⟨S10000x128, .f32⟩
  | 34 => ⟨S10000x128, .f32⟩
  | 35 => ⟨S1x128, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x128, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S1, .i32⟩
  | 68 => ⟨S_, .i32⟩
  | 69 => ⟨S320000x1, .i32⟩
  | 70 => ⟨S320000x1, .i1⟩
  | 71 => ⟨S1x1, .i32⟩
  | 72 => ⟨S320000x1, .i32⟩
  | 73 => ⟨S320000x1, .i1⟩
  | 74 => ⟨S320000x1, .i1⟩
  | 75 => ⟨S_, .i1⟩
  | 76 => ⟨S320000, .i1⟩
  | 77 => ⟨S320000x128, .f32⟩
  | 78 => ⟨S320000x128, .i1⟩
  | 79 => ⟨S_, .f32⟩
  | 80 => ⟨S320000x128, .f32⟩
  | 81 => ⟨S320000x128, .f32⟩
  | 82 => ⟨S320000x1x128, .f32⟩
  | 83 => ⟨S_, .f32⟩
  | 84 => ⟨S320000x1x128, .f32⟩
  | 85 => ⟨S320000x1x128, .f32⟩
  | 86 => ⟨S4x1, .f32⟩
  | 87 => ⟨S4, .f32⟩
  | 88 => ⟨S1x4x1, .f32⟩
  | 89 => ⟨S4x1, .f32⟩
  | 90 => ⟨S4, .f32⟩
  | 91 => ⟨S1x4x1, .f32⟩
  | 92 => ⟨S4x1, .f32⟩
  | 93 => ⟨S4, .f32⟩
  | 94 => ⟨S1x4x1, .f32⟩
  | 95 => ⟨S4x1, .f32⟩
  | 96 => ⟨S4, .f32⟩
  | 97 => ⟨S1x4x1, .f32⟩
  | 98 => ⟨S4x1, .f32⟩
  | 99 => ⟨S4, .f32⟩
  | 100 => ⟨S1x4x1, .f32⟩
  | 101 => ⟨S4x1, .f32⟩
  | 102 => ⟨S4, .f32⟩
  | 103 => ⟨S1x4x1, .f32⟩
  | 104 => ⟨S4x1, .f32⟩
  | 105 => ⟨S4, .f32⟩
  | 106 => ⟨S1x4x1, .f32⟩
  | 107 => ⟨S4x1, .f32⟩
  | 108 => ⟨S4, .f32⟩
  | 109 => ⟨S1x4x1, .f32⟩
  | 110 => ⟨S4x1, .f32⟩
  | 111 => ⟨S4, .f32⟩
  | 112 => ⟨S1x4x1, .f32⟩
  | 113 => ⟨S4x1, .f32⟩
  | 114 => ⟨S4, .f32⟩
  | 115 => ⟨S1x4x1, .f32⟩
  | 116 => ⟨S4x1, .f32⟩
  | 117 => ⟨S4, .f32⟩
  | 118 => ⟨S1x4x1, .f32⟩
  | 119 => ⟨S4x1, .f32⟩
  | 120 => ⟨S4, .f32⟩
  | 121 => ⟨S1x4x1, .f32⟩
  | 122 => ⟨S320000x4x128, .f32⟩
  | 123 => ⟨S320000x4x128, .f32⟩
  | 124 => ⟨S320000x4x128, .f32⟩
  | 125 => ⟨S_, .f32⟩
  | 126 => ⟨S10000x4x128, .f32⟩
  | 127 => ⟨S320000x1, .i32⟩
  | _ => ⟨S10000x128, .f32⟩

abbrev hbmTy0_2 (i : Nat) : BufTy := match i % 128 with
  | 0 => ⟨S10000x4x128, .f32⟩
  | 1 => ⟨S320000x4x128, .f32⟩
  | 2 => ⟨S320000x4x128, .f32⟩
  | 3 => ⟨S320000x4x128, .f32⟩
  | 4 => ⟨S_, .f32⟩
  | 5 => ⟨S10000x4x128, .f32⟩
  | 6 => ⟨S320000x1, .i32⟩
  | 7 => ⟨S10000x4x128, .f32⟩
  | 8 => ⟨S320000x4x128, .f32⟩
  | 9 => ⟨S320000x4x128, .f32⟩
  | 10 => ⟨S320000x4x128, .f32⟩
  | 11 => ⟨S_, .f32⟩
  | 12 => ⟨S10000x4x128, .f32⟩
  | 13 => ⟨S320000x1, .i32⟩
  | 14 => ⟨S10000x4x128, .f32⟩
  | 15 => ⟨S320000x4x128, .f32⟩
  | 16 => ⟨S320000x4x128, .f32⟩
  | 17 => ⟨S320000x4x128, .f32⟩
  | 18 => ⟨S_, .f32⟩
  | 19 => ⟨S10000x4x128, .f32⟩
  | 20 => ⟨S320000x1, .i32⟩
  | 21 => ⟨S10000x4x128, .f32⟩
  | 22 => ⟨S_, .f32⟩
  | 23 => ⟨S10000x4x128, .f32⟩
  | 24 => ⟨S10000x4x128, .f32⟩
  | 25 => ⟨S10000x4x128, .f32⟩
  | 26 => ⟨S10000x4x128, .f32⟩
  | 27 => ⟨S10000x4x128, .f32⟩
  | 28 => ⟨S10000x4x128, .f32⟩
  | 29 => ⟨S_, .f32⟩
  | 30 => ⟨S10000x4x128, .f32⟩
  | 31 => ⟨S10000x4x128, .f32⟩
  | 32 => ⟨S10000x4x128, .f32⟩
  | 33 => ⟨S10000x4x128, .f32⟩
  | 34 => ⟨S10000x4x128, .f32⟩
  | 35 => ⟨S10000x4x128, .f32⟩
  | 36 => ⟨S10000x4x128, .f32⟩
  | 37 => ⟨S_, .f32⟩
  | 38 => ⟨S10000x4x128, .f32⟩
  | 39 => ⟨S10000x4x128, .f32⟩
  | 40 => ⟨S10000x4x128, .f32⟩
  | 41 => ⟨S10000x4x128, .f32⟩
  | 42 => ⟨S10000x4x128, .f32⟩
  | 43 => ⟨S10000x4x128, .f32⟩
  | 44 => ⟨S_, .f32⟩
  | 45 => ⟨S10000x4x128, .f32⟩
  | 46 => ⟨S10000x4x128, .f32⟩
  | 47 => ⟨S10000x4x128, .f32⟩
  | 48 => ⟨S10000x4x128, .f32⟩
  | 49 => ⟨S10000x4x128, .f32⟩
  | 50 => ⟨S10000x4x128, .f32⟩
  | 51 => ⟨S10000x4x128, .f32⟩
  | 52 => ⟨S_, .f32⟩
  | 53 => ⟨S10000x4x128, .f32⟩
  | 54 => ⟨S10000x4x128, .f32⟩
  | 55 => ⟨S10000x4x128, .f32⟩
  | 56 => ⟨S_, .f32⟩
  | 57 => ⟨S10000x128, .f32⟩
  | 58 => ⟨S_, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S_, .f32⟩
  | 65 => ⟨S10000x128, .f32⟩
  | 66 => ⟨S10000x128, .f32⟩
  | 67 => ⟨S1x128, .f32⟩
  | 68 => ⟨S10000x128, .f32⟩
  | 69 => ⟨S10000x128, .f32⟩
  | 70 => ⟨S1x128, .f32⟩
  | 71 => ⟨S10000x128, .f32⟩
  | 72 => ⟨S10000x128, .f32⟩
  | 73 => ⟨S_, .f32⟩
  | 74 => ⟨S10000x128, .f32⟩
  | 75 => ⟨S10000x128, .f32⟩
  | 76 => ⟨S10000x128, .f32⟩
  | 77 => ⟨S10000x128, .f32⟩
  | 78 => ⟨S10000x128, .f32⟩
  | 79 => ⟨S_, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S1, .i32⟩
  | 94 => ⟨S_, .i32⟩
  | 95 => ⟨S320000x1, .i32⟩
  | 96 => ⟨S320000x1, .i1⟩
  | 97 => ⟨S1x1, .i32⟩
  | 98 => ⟨S320000x1, .i32⟩
  | 99 => ⟨S320000x1, .i1⟩
  | 100 => ⟨S320000x1, .i1⟩
  | 101 => ⟨S_, .i1⟩
  | 102 => ⟨S320000, .i1⟩
  | 103 => ⟨S320000x128, .f32⟩
  | 104 => ⟨S320000x128, .i1⟩
  | 105 => ⟨S_, .f32⟩
  | 106 => ⟨S320000x128, .f32⟩
  | 107 => ⟨S320000x128, .f32⟩
  | 108 => ⟨S320000x1x128, .f32⟩
  | 109 => ⟨S_, .f32⟩
  | 110 => ⟨S320000x1x128, .f32⟩
  | 111 => ⟨S320000x1x128, .f32⟩
  | 112 => ⟨S4x1, .f32⟩
  | 113 => ⟨S4, .f32⟩
  | 114 => ⟨S1x4x1, .f32⟩
  | 115 => ⟨S4x1, .f32⟩
  | 116 => ⟨S4, .f32⟩
  | 117 => ⟨S1x4x1, .f32⟩
  | 118 => ⟨S4x1, .f32⟩
  | 119 => ⟨S4, .f32⟩
  | 120 => ⟨S1x4x1, .f32⟩
  | 121 => ⟨S4x1, .f32⟩
  | 122 => ⟨S4, .f32⟩
  | 123 => ⟨S1x4x1, .f32⟩
  | 124 => ⟨S4x1, .f32⟩
  | 125 => ⟨S4, .f32⟩
  | 126 => ⟨S1x4x1, .f32⟩
  | 127 => ⟨S4x1, .f32⟩
  | _ => ⟨S10000x128, .f32⟩

abbrev hbmTy0_3 (i : Nat) : BufTy := match i % 128 with
  | 0 => ⟨S4, .f32⟩
  | 1 => ⟨S1x4x1, .f32⟩
  | 2 => ⟨S4x1, .f32⟩
  | 3 => ⟨S4, .f32⟩
  | 4 => ⟨S1x4x1, .f32⟩
  | 5 => ⟨S4x1, .f32⟩
  | 6 => ⟨S4, .f32⟩
  | 7 => ⟨S1x4x1, .f32⟩
  | 8 => ⟨S4x1, .f32⟩
  | 9 => ⟨S4, .f32⟩
  | 10 => ⟨S1x4x1, .f32⟩
  | 11 => ⟨S4x1, .f32⟩
  | 12 => ⟨S4, .f32⟩
  | 13 => ⟨S1x4x1, .f32⟩
  | 14 => ⟨S4x1, .f32⟩
  | 15 => ⟨S4, .f32⟩
  | 16 => ⟨S1x4x1, .f32⟩
  | 17 => ⟨S4x1, .f32⟩
  | 18 => ⟨S4, .f32⟩
  | 19 => ⟨S1x4x1, .f32⟩
  | 20 => ⟨S320000x4x128, .f32⟩
  | 21 => ⟨S320000x4x128, .f32⟩
  | 22 => ⟨S320000x4x128, .f32⟩
  | 23 => ⟨S_, .f32⟩
  | 24 => ⟨S10000x4x128, .f32⟩
  | 25 => ⟨S320000x1, .i32⟩
  | 26 => ⟨S10000x4x128, .f32⟩
  | 27 => ⟨S320000x4x128, .f32⟩
  | 28 => ⟨S320000x4x128, .f32⟩
  | 29 => ⟨S320000x4x128, .f32⟩
  | 30 => ⟨S_, .f32⟩
  | 31 => ⟨S10000x4x128, .f32⟩
  | 32 => ⟨S320000x1, .i32⟩
  | 33 => ⟨S10000x4x128, .f32⟩
  | 34 => ⟨S320000x4x128, .f32⟩
  | 35 => ⟨S320000x4x128, .f32⟩
  | 36 => ⟨S320000x4x128, .f32⟩
  | 37 => ⟨S_, .f32⟩
  | 38 => ⟨S10000x4x128, .f32⟩
  | 39 => ⟨S320000x1, .i32⟩
  | 40 => ⟨S10000x4x128, .f32⟩
  | 41 => ⟨S320000x4x128, .f32⟩
  | 42 => ⟨S320000x4x128, .f32⟩
  | 43 => ⟨S320000x4x128, .f32⟩
  | 44 => ⟨S_, .f32⟩
  | 45 => ⟨S10000x4x128, .f32⟩
  | 46 => ⟨S320000x1, .i32⟩
  | 47 => ⟨S10000x4x128, .f32⟩
  | 48 => ⟨S_, .f32⟩
  | 49 => ⟨S10000x4x128, .f32⟩
  | 50 => ⟨S10000x4x128, .f32⟩
  | 51 => ⟨S10000x4x128, .f32⟩
  | 52 => ⟨S10000x4x128, .f32⟩
  | 53 => ⟨S10000x4x128, .f32⟩
  | 54 => ⟨S10000x4x128, .f32⟩
  | 55 => ⟨S_, .f32⟩
  | 56 => ⟨S10000x4x128, .f32⟩
  | 57 => ⟨S10000x4x128, .f32⟩
  | 58 => ⟨S10000x4x128, .f32⟩
  | 59 => ⟨S10000x4x128, .f32⟩
  | 60 => ⟨S10000x4x128, .f32⟩
  | 61 => ⟨S10000x4x128, .f32⟩
  | 62 => ⟨S10000x4x128, .f32⟩
  | 63 => ⟨S_, .f32⟩
  | 64 => ⟨S10000x4x128, .f32⟩
  | 65 => ⟨S10000x4x128, .f32⟩
  | 66 => ⟨S10000x4x128, .f32⟩
  | 67 => ⟨S10000x4x128, .f32⟩
  | 68 => ⟨S10000x4x128, .f32⟩
  | 69 => ⟨S10000x4x128, .f32⟩
  | 70 => ⟨S_, .f32⟩
  | 71 => ⟨S10000x4x128, .f32⟩
  | 72 => ⟨S10000x4x128, .f32⟩
  | 73 => ⟨S10000x4x128, .f32⟩
  | 74 => ⟨S10000x4x128, .f32⟩
  | 75 => ⟨S10000x4x128, .f32⟩
  | 76 => ⟨S10000x4x128, .f32⟩
  | 77 => ⟨S10000x4x128, .f32⟩
  | 78 => ⟨S_, .f32⟩
  | 79 => ⟨S10000x4x128, .f32⟩
  | 80 => ⟨S10000x4x128, .f32⟩
  | 81 => ⟨S10000x4x128, .f32⟩
  | 82 => ⟨S_, .f32⟩
  | 83 => ⟨S10000x128, .f32⟩
  | 84 => ⟨S_, .f32⟩
  | 85 => ⟨S10000x128, .f32⟩
  | 86 => ⟨S10000x128, .f32⟩
  | 87 => ⟨S1x128, .f32⟩
  | 88 => ⟨S10000x128, .f32⟩
  | 89 => ⟨S10000x128, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S1, .i32⟩
  | 99 => ⟨S_, .i32⟩
  | 100 => ⟨S2048x1, .i32⟩
  | 101 => ⟨S2048x1, .i1⟩
  | 102 => ⟨S1x1, .i32⟩
  | 103 => ⟨S2048x1, .i32⟩
  | 104 => ⟨S2048x1, .i1⟩
  | 105 => ⟨S2048x1, .i1⟩
  | 106 => ⟨S_, .i1⟩
  | 107 => ⟨S2048, .i1⟩
  | 108 => ⟨S2048x128, .f32⟩
  | 109 => ⟨S2048x128, .i1⟩
  | 110 => ⟨S_, .f32⟩
  | 111 => ⟨S2048x128, .f32⟩
  | 112 => ⟨S2048x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_2 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_3 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_4 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_5 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_6 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_7 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_8 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_9 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_10 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_11 : Ref sig .tc := ⟨.hbm, 158, rfl⟩
abbrev main_v107 : Ref sig .tc := ⟨.hbm, 159, rfl⟩
abbrev main_cst_12 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_13 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call1_cst : Ref sig .tc := ⟨.hbm, 175, rfl⟩
abbrev main_call1_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_14 : Ref sig .tc := ⟨.hbm, 181, rfl⟩
abbrev main_v125 : Ref sig .tc := ⟨.hbm, 182, rfl⟩
abbrev main_v126 : Ref sig .tc := ⟨.hbm, 183, rfl⟩
abbrev main_cst_15 : Ref sig .tc := ⟨.hbm, 184, rfl⟩
abbrev main_v127 : Ref sig .tc := ⟨.hbm, 185, rfl⟩
abbrev main_v128 : Ref sig .tc := ⟨.hbm, 186, rfl⟩
abbrev main_call2_c : Ref sig .tc := ⟨.hbm, 187, rfl⟩
abbrev main_call2_v0 : Ref sig .tc := ⟨.hbm, 188, rfl⟩
abbrev main_call2_v1 : Ref sig .tc := ⟨.hbm, 189, rfl⟩
abbrev main_call2_c_0 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_v5 : Ref sig .tc := ⟨.hbm, 194, rfl⟩
abbrev main_call2_c_1 : Ref sig .tc := ⟨.hbm, 195, rfl⟩
abbrev main_call2_c_2 : Ref sig .tc := ⟨.hbm, 196, rfl⟩
abbrev main_call2_v6 : Ref sig .tc := ⟨.hbm, 197, rfl⟩
abbrev main_call2_v7 : Ref sig .tc := ⟨.hbm, 198, rfl⟩
abbrev main_call2_v8 : Ref sig .tc := ⟨.hbm, 199, rfl⟩
abbrev main_call2_v9 : Ref sig .tc := ⟨.hbm, 200, rfl⟩
abbrev main_call2_v10 : Ref sig .tc := ⟨.hbm, 201, rfl⟩
abbrev main_call2_v11 : Ref sig .tc := ⟨.hbm, 202, rfl⟩
abbrev main_call2_c_3 : Ref sig .tc := ⟨.hbm, 203, rfl⟩
abbrev main_call2_v12 : Ref sig .tc := ⟨.hbm, 204, rfl⟩
abbrev main_call2_v13 : Ref sig .tc := ⟨.hbm, 205, rfl⟩
abbrev main_call2_v14 : Ref sig .tc := ⟨.hbm, 206, rfl⟩
abbrev main_call2_cst : Ref sig .tc := ⟨.hbm, 207, rfl⟩
abbrev main_call2_v15 : Ref sig .tc := ⟨.hbm, 208, rfl⟩
abbrev main_v129 : Ref sig .tc := ⟨.hbm, 209, rfl⟩
abbrev main_v130 : Ref sig .tc := ⟨.hbm, 210, rfl⟩
abbrev main_cst_16 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_cst_17 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_cst_18 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_cst_19 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_cst_20 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_cst_21 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_cst_22 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_cst_23 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_cst_24 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_cst_25 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_cst_26 : Ref sig .tc := ⟨.hbm, 312, rfl⟩
abbrev main_v222 : Ref sig .tc := ⟨.hbm, 313, rfl⟩
abbrev main_cst_27 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_cst_28 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_call3_cst : Ref sig .tc := ⟨.hbm, 329, rfl⟩
abbrev main_call3_v0 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_cst_29 : Ref sig .tc := ⟨.hbm, 335, rfl⟩
abbrev main_v240 : Ref sig .tc := ⟨.hbm, 336, rfl⟩
abbrev main_v241 : Ref sig .tc := ⟨.hbm, 337, rfl⟩
abbrev main_cst_30 : Ref sig .tc := ⟨.hbm, 338, rfl⟩
abbrev main_v242 : Ref sig .tc := ⟨.hbm, 339, rfl⟩
abbrev main_v243 : Ref sig .tc := ⟨.hbm, 340, rfl⟩
abbrev main_call4_c : Ref sig .tc := ⟨.hbm, 341, rfl⟩
abbrev main_call4_v0 : Ref sig .tc := ⟨.hbm, 342, rfl⟩
abbrev main_call4_v1 : Ref sig .tc := ⟨.hbm, 343, rfl⟩
abbrev main_call4_c_0 : Ref sig .tc := ⟨.hbm, 344, rfl⟩
abbrev main_call4_v2 : Ref sig .tc := ⟨.hbm, 345, rfl⟩
abbrev main_call4_v3 : Ref sig .tc := ⟨.hbm, 346, rfl⟩
abbrev main_call4_v4 : Ref sig .tc := ⟨.hbm, 347, rfl⟩
abbrev main_call4_v5 : Ref sig .tc := ⟨.hbm, 348, rfl⟩
abbrev main_call4_c_1 : Ref sig .tc := ⟨.hbm, 349, rfl⟩
abbrev main_call4_c_2 : Ref sig .tc := ⟨.hbm, 350, rfl⟩
abbrev main_call4_v6 : Ref sig .tc := ⟨.hbm, 351, rfl⟩
abbrev main_call4_v7 : Ref sig .tc := ⟨.hbm, 352, rfl⟩
abbrev main_call4_v8 : Ref sig .tc := ⟨.hbm, 353, rfl⟩
abbrev main_call4_v9 : Ref sig .tc := ⟨.hbm, 354, rfl⟩
abbrev main_call4_v10 : Ref sig .tc := ⟨.hbm, 355, rfl⟩
abbrev main_call4_v11 : Ref sig .tc := ⟨.hbm, 356, rfl⟩
abbrev main_call4_c_3 : Ref sig .tc := ⟨.hbm, 357, rfl⟩
abbrev main_call4_v12 : Ref sig .tc := ⟨.hbm, 358, rfl⟩
abbrev main_call4_v13 : Ref sig .tc := ⟨.hbm, 359, rfl⟩
abbrev main_call4_v14 : Ref sig .tc := ⟨.hbm, 360, rfl⟩
abbrev main_call4_cst : Ref sig .tc := ⟨.hbm, 361, rfl⟩
abbrev main_call4_v15 : Ref sig .tc := ⟨.hbm, 362, rfl⟩
abbrev main_v244 : Ref sig .tc := ⟨.hbm, 363, rfl⟩
abbrev main_v245 : Ref sig .tc := ⟨.hbm, 364, rfl⟩
abbrev main_cst_31 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩
abbrev main_v278 : Ref sig .tc := ⟨.hbm, 398, rfl⟩
abbrev main_v279 : Ref sig .tc := ⟨.hbm, 399, rfl⟩
abbrev main_v280 : Ref sig .tc := ⟨.hbm, 400, rfl⟩
abbrev main_v281 : Ref sig .tc := ⟨.hbm, 401, rfl⟩
abbrev main_v282 : Ref sig .tc := ⟨.hbm, 402, rfl⟩
abbrev main_v283 : Ref sig .tc := ⟨.hbm, 403, rfl⟩
abbrev main_v284 : Ref sig .tc := ⟨.hbm, 404, rfl⟩
abbrev main_v285 : Ref sig .tc := ⟨.hbm, 405, rfl⟩
abbrev main_v286 : Ref sig .tc := ⟨.hbm, 406, rfl⟩
abbrev main_cst_32 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_cst_33 : Ref sig .tc := ⟨.hbm, 414, rfl⟩
abbrev main_v293 : Ref sig .tc := ⟨.hbm, 415, rfl⟩
abbrev main_v294 : Ref sig .tc := ⟨.hbm, 416, rfl⟩
abbrev main_v295 : Ref sig .tc := ⟨.hbm, 417, rfl⟩
abbrev main_v296 : Ref sig .tc := ⟨.hbm, 418, rfl⟩
abbrev main_v297 : Ref sig .tc := ⟨.hbm, 419, rfl⟩
abbrev main_v298 : Ref sig .tc := ⟨.hbm, 420, rfl⟩
abbrev main_cst_34 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩
abbrev main_v302 : Ref sig .tc := ⟨.hbm, 425, rfl⟩
abbrev main_v303 : Ref sig .tc := ⟨.hbm, 426, rfl⟩
abbrev main_v304 : Ref sig .tc := ⟨.hbm, 427, rfl⟩
abbrev main_cst_35 : Ref sig .tc := ⟨.hbm, 428, rfl⟩
abbrev main_v305 : Ref sig .tc := ⟨.hbm, 429, rfl⟩
abbrev main_v306 : Ref sig .tc := ⟨.hbm, 430, rfl⟩
abbrev main_v307 : Ref sig .tc := ⟨.hbm, 431, rfl⟩
abbrev main_cst_36 : Ref sig .tc := ⟨.hbm, 432, rfl⟩
abbrev main_v308 : Ref sig .tc := ⟨.hbm, 433, rfl⟩
abbrev main_v309 : Ref sig .tc := ⟨.hbm, 434, rfl⟩
abbrev main_v310 : Ref sig .tc := ⟨.hbm, 435, rfl⟩
abbrev main_v311 : Ref sig .tc := ⟨.hbm, 436, rfl⟩
abbrev main_v312 : Ref sig .tc := ⟨.hbm, 437, rfl⟩
abbrev main_v313 : Ref sig .tc := ⟨.hbm, 438, rfl⟩
abbrev main_cst_37 : Ref sig .tc := ⟨.hbm, 439, rfl⟩
abbrev main_v314 : Ref sig .tc := ⟨.hbm, 440, rfl⟩
abbrev main_v315 : Ref sig .tc := ⟨.hbm, 441, rfl⟩
abbrev main_v316 : Ref sig .tc := ⟨.hbm, 442, rfl⟩
abbrev main_v317 : Ref sig .tc := ⟨.hbm, 443, rfl⟩
abbrev main_v318 : Ref sig .tc := ⟨.hbm, 444, rfl⟩
abbrev main_v319 : Ref sig .tc := ⟨.hbm, 445, rfl⟩
abbrev main_v320 : Ref sig .tc := ⟨.hbm, 446, rfl⟩
abbrev main_cst_38 : Ref sig .tc := ⟨.hbm, 447, rfl⟩
abbrev main_v321 : Ref sig .tc := ⟨.hbm, 448, rfl⟩
abbrev main_v322 : Ref sig .tc := ⟨.hbm, 449, rfl⟩
abbrev main_v323 : Ref sig .tc := ⟨.hbm, 450, rfl⟩
abbrev main_v324 : Ref sig .tc := ⟨.hbm, 451, rfl⟩
abbrev main_v325 : Ref sig .tc := ⟨.hbm, 452, rfl⟩
abbrev main_v326 : Ref sig .tc := ⟨.hbm, 453, rfl⟩
abbrev main_cst_39 : Ref sig .tc := ⟨.hbm, 454, rfl⟩
abbrev main_v327 : Ref sig .tc := ⟨.hbm, 455, rfl⟩
abbrev main_v328 : Ref sig .tc := ⟨.hbm, 456, rfl⟩
abbrev main_v329 : Ref sig .tc := ⟨.hbm, 457, rfl⟩
abbrev main_v330 : Ref sig .tc := ⟨.hbm, 458, rfl⟩
abbrev main_v331 : Ref sig .tc := ⟨.hbm, 459, rfl⟩
abbrev main_v332 : Ref sig .tc := ⟨.hbm, 460, rfl⟩
abbrev main_v333 : Ref sig .tc := ⟨.hbm, 461, rfl⟩
abbrev main_cst_40 : Ref sig .tc := ⟨.hbm, 462, rfl⟩
abbrev main_v334 : Ref sig .tc := ⟨.hbm, 463, rfl⟩
abbrev main_v335 : Ref sig .tc := ⟨.hbm, 464, rfl⟩
abbrev main_v336 : Ref sig .tc := ⟨.hbm, 465, rfl⟩
abbrev main_cst_41 : Ref sig .tc := ⟨.hbm, 466, rfl⟩
abbrev main_v337 : Ref sig .tc := ⟨.hbm, 467, rfl⟩
abbrev main_cst_42 : Ref sig .tc := ⟨.hbm, 468, rfl⟩
abbrev main_v338 : Ref sig .tc := ⟨.hbm, 469, rfl⟩
abbrev main_v339 : Ref sig .tc := ⟨.hbm, 470, rfl⟩
abbrev main_v340 : Ref sig .tc := ⟨.hbm, 471, rfl⟩
abbrev main_v341 : Ref sig .tc := ⟨.hbm, 472, rfl⟩
abbrev main_v342 : Ref sig .tc := ⟨.hbm, 473, rfl⟩
abbrev main_call5_c : Ref sig .tc := ⟨.hbm, 474, rfl⟩
abbrev main_call5_v0 : Ref sig .tc := ⟨.hbm, 475, rfl⟩
abbrev main_call5_v1 : Ref sig .tc := ⟨.hbm, 476, rfl⟩
abbrev main_call5_c_0 : Ref sig .tc := ⟨.hbm, 477, rfl⟩
abbrev main_call5_v2 : Ref sig .tc := ⟨.hbm, 478, rfl⟩
abbrev main_call5_v3 : Ref sig .tc := ⟨.hbm, 479, rfl⟩
abbrev main_call5_v4 : Ref sig .tc := ⟨.hbm, 480, rfl⟩
abbrev main_call5_v5 : Ref sig .tc := ⟨.hbm, 481, rfl⟩
abbrev main_call5_c_1 : Ref sig .tc := ⟨.hbm, 482, rfl⟩
abbrev main_call5_c_2 : Ref sig .tc := ⟨.hbm, 483, rfl⟩
abbrev main_call5_v6 : Ref sig .tc := ⟨.hbm, 484, rfl⟩
abbrev main_call5_v7 : Ref sig .tc := ⟨.hbm, 485, rfl⟩
abbrev main_call5_v8 : Ref sig .tc := ⟨.hbm, 486, rfl⟩
abbrev main_call5_v9 : Ref sig .tc := ⟨.hbm, 487, rfl⟩
abbrev main_call5_v10 : Ref sig .tc := ⟨.hbm, 488, rfl⟩
abbrev main_call5_v11 : Ref sig .tc := ⟨.hbm, 489, rfl⟩
abbrev main_call5_c_3 : Ref sig .tc := ⟨.hbm, 490, rfl⟩
abbrev main_call5_v12 : Ref sig .tc := ⟨.hbm, 491, rfl⟩
abbrev main_call5_v13 : Ref sig .tc := ⟨.hbm, 492, rfl⟩
abbrev main_call5_v14 : Ref sig .tc := ⟨.hbm, 493, rfl⟩
abbrev main_call5_cst : Ref sig .tc := ⟨.hbm, 494, rfl⟩
abbrev main_call5_v15 : Ref sig .tc := ⟨.hbm, 495, rfl⟩
abbrev main_v343 : Ref sig .tc := ⟨.hbm, 496, rfl⟩

abbrev nD : Nat := 1
abbrev τ : Topo := Topo.v7x

variable {F : FTy → Type} [FloatOps F]
-- ==== Proof.KernelIdeal.Run1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.Value

@[expose] public section

set_option maxRecDepth 16384

noncomputable section

namespace Cert.KernelIdeal.Sweep1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The kernel body of custom call 1, in its three cases: the first column block of a row block (the accumulator starts at
    zero), a middle one, and the last one (the accumulated row block is combined and stored). -/

theorem hz : (![0, 0] : Fin 2 → Nat) = fun _ => 0 := funext fun a => by fin_cases a <;> rfl

/-- The point is at the first column block: the accumulator is zeroed. -/
abbrev cond_first (i : grid1.Coords) : Prop := (Scalar.cmpi .ne (Scalar.extui (Scalar.cmpi .eq (BitVec.ofNat 32 (i 1).val) 0#32)) 0#32) = 1#1
/-- The point is at the last column block: the row block is combined and stored. -/
abbrev cond_last (i : grid1.Coords) : Prop := k1_cond2 i = 1#1

set_option maxHeartbeats 1000000 in
/-- The body at a first column block: the accumulator ends at the block's product over zero; the output is untouched. -/
theorem runA (𝒱₀ : Variants) (c : Dev nD) (i : grid1.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : cond_first i) (hc1 : ¬cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (d : Vec F S1024x2048 .bf16) (E : Set ℕ) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ owns (c : Thread nD τ) arg11 fullShare (k1_pay2 (k1_pay1 (F := F)) x0 x1)) -∗ Kt ⟨⟩))
      ⊢ wp frame (wpE (defs₀ (F := F)) 𝒱₀ c none) E (cc1__layer_kernel i arg2 harg2 arg3 harg3 arg4 harg4 arg5 harg5 arg6 harg6 arg7 harg7 arg8 harg8 arg9 harg9 arg10 harg10 arg11 harg11) Kt := by
  simp only [cc1__layer_kernel_eq_skeleton]; unfold cc1__layer_kernel_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [Ho]
  · iexists _; isplitr; · ipureintro; exact hfo
    iexact Ho
  · iexists _; isplitr; swap; · iexact HS
    ipureintro
    rw [View.read_writes_eq_canon _ _ _ (fun y => View.cover_of_tiledL _ S1024x2048.size (by sl_kernel_rfl) y)]
    sl_unfold_words
    rw [View.canon_cons_unit_zero (S := S1024x2048) hz, View.readCov_unit_zero (S := S1024x2048) _ hz]
    simp only [View.readAt_eq_ld, harg2.read_unread, harg3.read_unread, View.ld_unit_zero (S := S1024x2048) hz, View.ld_unit_zero (S := S2048x2048) hz]

set_option maxHeartbeats 1000000 in
/-- The body at a middle column block: the accumulator takes the block's product; the output is untouched. -/
theorem runB (𝒱₀ : Variants) (c : Dev nD) (i : grid1.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : ¬cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (d : Vec F S1024x2048 .bf16) (xs : Vec F S1024x2048 .f32) (E : Set ℕ) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ owns (c : Thread nD τ) arg11 fullShare (k1_pay2 xs x0 x1)) -∗ Kt ⟨⟩))
      ⊢ wp frame (wpE (defs₀ (F := F)) 𝒱₀ c none) E (cc1__layer_kernel i arg2 harg2 arg3 harg3 arg4 harg4 arg5 harg5 arg6 harg6 arg7 harg7 arg8 harg8 arg9 harg9 arg10 harg10 arg11 harg11) Kt := by
  simp only [cc1__layer_kernel_eq_skeleton]; unfold cc1__layer_kernel_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [Ho]
  · iexists _; isplitr; · ipureintro; exact hfo
    iexact Ho
  · iexists _; isplitr; swap; · iexact HS
    ipureintro
    rw [View.read_writes_eq_canon _ _ _ (fun y => View.cover_of_tiledL _ S1024x2048.size (by sl_kernel_rfl) y)]
    sl_unfold_words
    rw [View.canon_unit_zero hz]
    simp only [View.readAt_eq_ld, harg2.read_unread, harg3.read_unread, harg11.read_unread, View.ld_unit_zero (S := S1024x2048) hz, View.ld_unit_zero (S := S2048x2048) hz]

set_option maxHeartbeats 1000000 in
/-- The body at a last column block: the accumulator takes the block's product, and the whole row block is combined and
    stored. The stores into the output's staging buffer are the list the run finds. -/
noncomputable def runC (𝒱₀ : Variants) (c : Dev nD) (i : grid1.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (xs : Vec F S1024x2048 .f32) :
    { L : List (View.Piece (Elt F) S1024x2048 .bf16) //
      ∀ (E : Set ℕ) (Kt : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ owns (c : Thread nD τ) arg11 fullShare (k1_pay2 xs x0 x1)) -∗ Kt ⟨⟩))
      ⊢ wp frame (wpE (defs₀ (F := F)) 𝒱₀ c none) E (cc1__layer_kernel i arg2 harg2 arg3 harg3 arg4 harg4 arg5 harg5 arg6 harg6 arg7 harg7 arg8 harg8 arg9 harg9 arg10 harg10 arg11 harg11) Kt } := by
  refine ⟨?_, fun E Kt => ?run⟩
  case run =>
  simp only [cc1__layer_kernel_eq_skeleton]; unfold cc1__layer_kernel_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dd, %fo, -, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [Ho]
  · iexists _; iexact Ho
  · iexists _; isplitr; swap; · iexact HS
    ipureintro
    rw [View.read_writes_eq_canon _ _ _ (fun y => View.cover_of_tiledL _ S1024x2048.size (by sl_kernel_rfl) y)]
    sl_unfold_words
    rw [View.canon_unit_zero hz]
    simp only [View.readAt_eq_ld, harg2.read_unread, harg3.read_unread, harg11.read_unread, View.ld_unit_zero (S := S1024x2048) hz, View.ld_unit_zero (S := S2048x2048) hz]

/-- The output's stores tile its block, so they cover it. -/
theorem coverC (𝒱₀ : Variants) (c : Dev nD) (i : grid1.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (xs : Vec F S1024x2048 .f32) (y : S1024x2048.Idx) :
    ∃ pc ∈ (runC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (runC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs).1 S1024x2048.size (by sl_kernel_rfl) y

/-- One staging buffer of the output window, through which its contents are stated. -/
abbrev VO : View sig .tc .vmem S1024x2048 .bf16 := (Memref.whole cc1_stg8_0 : Memref sig .tc .vmem S1024x2048 .bf16).view

/-- What the last column block leaves in the output's staging buffer. -/
def outC (𝒱₀ : Variants) (c : Dev nD) (i : grid1.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (xs : Vec F S1024x2048 .f32) : Vec F S1024x2048 .bf16 :=
  VO.read (Elt F) (VO.writes (Elt F) VO.junk (runC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs).1)

end Cert.KernelIdeal.Sweep1

end
-- ==== Proof.KernelIdeal.Body1.lean ====
module

public import proofs.«01_k».proof.Proof.KernelIdeal.Run1

@[expose] public section

set_option maxRecDepth 16384

noncomputable section

namespace Cert.KernelIdeal.Sweep1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The pipeline of custom call 1, point by point: what the accumulator and the output hold after each grid point, and the
    body obligation the pipeline library asks for. -/

/-- The accumulator scratch, whole. -/
abbrev scM : Memref sig .tc .vmem S1024x2048 .f32 := Memref.whole cc1_scratch0

/-- The kernel's first condition holds exactly at the first column block. -/
theorem hcond_first : ∀ t : Fin cfg1.N, cond_first (grid1.coords t) ↔ t.val % 5 = 0 :=
  (fun t => by
    have ht : t.val < 50 := Nat.lt_of_lt_of_eq t.isLt N_1
    have e0 : (grid1.coords t 0).val = t.val / 5 % 10 := Pipeline.Grid.coords_val t 0 (by decide) rfl
    have e1 : (grid1.coords t 1).val = t.val / 1 % 5 := Pipeline.Grid.coords_val t 1 (by decide) rfl
    simp only [cond_first, e0, e1]
    word_cmp
   : ∀ t : Fin grid1.N, cond_first (grid1.coords t) ↔ t.val % 5 = 0)

/-- The kernel's second condition holds exactly at the last column block. -/
theorem hcond_last : ∀ t : Fin cfg1.N, cond_last (grid1.coords t) ↔ t.val % 5 = 4 :=
  (fun t => by
    have ht : t.val < 50 := Nat.lt_of_lt_of_eq t.isLt N_1
    have e0 : (grid1.coords t 0).val = t.val / 5 % 10 := Pipeline.Grid.coords_val t 0 (by decide) rfl
    have e1 : (grid1.coords t 1).val = t.val / 1 % 5 := Pipeline.Grid.coords_val t 1 (by decide) rfl
    simp only [cond_last, k1_cond2, e0, e1]
    word_cmp
   : ∀ t : Fin grid1.N, cond_last (grid1.coords t) ↔ t.val % 5 = 4)

/-! The inputs are live at every point; the output is live only at a last column block, and not written back before it. -/
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl
theorem liveAt4 : ∀ t : Fin cfg1.N, cfg1.idle 4 (grid1.coords t) = false := fun _ => rfl
theorem liveAt5 : ∀ t : Fin cfg1.N, cfg1.idle 5 (grid1.coords t) = false := fun _ => rfl
theorem liveAt6 : ∀ t : Fin cfg1.N, cfg1.idle 6 (grid1.coords t) = false := fun _ => rfl
theorem liveAt7 : ∀ t : Fin cfg1.N, cfg1.idle 7 (grid1.coords t) = false := fun _ => rfl
theorem idleA : ∀ t : Fin cfg1.N, cond_first (grid1.coords t) → ¬cond_last (grid1.coords t) → cfg1.idle 8 (grid1.coords t) = true := by decide +kernel
theorem noFlushA : ∀ t : Fin cfg1.N, cond_first (grid1.coords t) → ¬cond_last (grid1.coords t) → (cfg1.win 8).flush t = false := by decide +kernel
theorem idleB : ∀ t : Fin cfg1.N, ¬cond_first (grid1.coords t) → ¬cond_last (grid1.coords t) → cfg1.idle 8 (grid1.coords t) = true := by decide +kernel
theorem noFlushB : ∀ t : Fin cfg1.N, ¬cond_first (grid1.coords t) → ¬cond_last (grid1.coords t) → (cfg1.win 8).flush t = false := by decide +kernel
theorem liveC : ∀ t : Fin cfg1.N, ¬cond_first (grid1.coords t) → cond_last (grid1.coords t) → cfg1.idle 8 (grid1.coords t) = false := by decide +kernel

/-! Each window's current staging buffer at a point. -/
abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .smem S4x12 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S128x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .smem S4x12 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1024x2048 .bf16 := win1_8.stage (cfg1.slots t 8)
abbrev hs8 (t : Fin cfg1.N) : (ms8 t).IsWhole := hstage1_8 ((cfg1.slots t 8).cast nbuf1_8)

variable (𝒱₀ : Variants) (V : (c : Dev nD) → (b : Ref sig .tc) → Buf (Elt F) ((c : Thread nD τ).loc b)) (D : Dev nD → CellTallies nD τ sig Ix)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the products of the row block's column blocks so far, over zero. -/
def acc (c : Dev nD) : (n : ℕ) → n < cfg1.N → Vec F S1024x2048 .f32
  | 0, h => k1_pay2 k1_pay1 (iblk V c 0 ⟨0, h⟩) (iblk V c 1 ⟨0, h⟩)
  | n + 1, h => k1_pay2 (if (n + 1) % 5 = 0 then k1_pay1 else acc c n (Nat.lt_of_succ_lt h)) (iblk V c 0 ⟨n + 1, h⟩) (iblk V c 1 ⟨n + 1, h⟩)

/-- At a first column block the accumulator starts from zero. -/
theorem acc_first (c : Dev nD) (t : Fin cfg1.N) (h0 : t.val % 5 = 0) :
    acc V c t.val t.isLt = k1_pay2 k1_pay1 (iblk V c 0 t) (iblk V c 1 t) := by
  obtain ⟨n, hn⟩ := t
  cases n with
  | zero => rfl
  | succ n => simp only [acc, if_pos h0]

/-- At a later column block it continues from the point before. -/
theorem acc_next (c : Dev nD) (t : Fin cfg1.N) (h0 : ¬t.val % 5 = 0) :
    acc V c t.val t.isLt = k1_pay2 (acc V c (t.val - 1) (by omega)) (iblk V c 0 t) (iblk V c 1 t) := by
  obtain ⟨n, hn⟩ := t
  cases n with
  | zero => exact absurd rfl h0
  | succ n => simp only [acc, if_neg h0]; rfl

/-- What the output's staging buffer holds after point `t`: the combined row block at a last column block; at any other point
    nothing reads it. -/
def outsAt (c : Dev nD) (t : Fin cfg1.N) : Vec F S1024x2048 .bf16 :=
  if h : ¬cond_first (grid1.coords t) ∧ cond_last (grid1.coords t) then
    outC (Ix := Ix) (U := U) (Lvl := Lvl) 𝒱₀ c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h.1 h.2 (iblk V c 0 t) (iblk V c 1 t) (iblk V c 2 t) (iblk V c 3 t) (iblk V c 4 t) (iblk V c 5 t) (iblk V c 6 t) (iblk V c 7 t) (acc V c (t.val - 1) (by omega))
  else VO.read (Elt F) VO.junk

theorem outsAt_last (c : Dev nD) (t : Fin cfg1.N) (h0 : ¬cond_first (grid1.coords t)) (h1 : cond_last (grid1.coords t)) :
    outsAt (Ix := Ix) (U := U) (Lvl := Lvl) 𝒱₀ V c t = outC (Ix := Ix) (U := U) (Lvl := Lvl) 𝒱₀ c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h0 h1 (iblk V c 0 t) (iblk V c 1 t) (iblk V c 2 t) (iblk V c 3 t) (iblk V c 4 t) (iblk V c 5 t) (iblk V c 6 t) (iblk V c 7 t) (acc V c (t.val - 1) (by omega)) := by
  unfold outsAt; rw [dif_pos ⟨h0, h1⟩]

/-- The region's invariant before its first point: its scoped buffers but the windows' at anything, the generator register. -/
def ΦK (c : Dev nD) : sProp 𝕄 :=
  iprop(Pipeline.scopedRest (Ix := Ix) (Name := ℕ) (U := U) (Lvl := Lvl) (Val := Elt F) spec1 c ∗ ∃ r, prngReg c r)

/-- The region's other scoped buffers. -/
abbrev but (c : Dev nD) : sProp 𝕄 :=
  Pipeline.scopedRestBut (Ix := Ix) (Name := ℕ) (U := U) (Lvl := Lvl) (Val := Elt F) spec1 c [cc1_scratch0]

theorem ΦK_eq (c : Dev nD) : ΦK (Ix := Ix) (U := U) (Lvl := Lvl) (F := F) c
    = iprop(((∃ d, owns (c : Thread nD τ) scM fullShare d) ∗ but (Ix := Ix) (U := U) (Lvl := Lvl) (F := F) c) ∗ ∃ r, prngReg c r) := by
  unfold ΦK; rw [scopedRest1_split]; simp only [scM, owns_whole]; try rfl

/-- The region's invariant before point `n`: after the first point the accumulator holds `acc`. -/
def PhiS (c : Dev nD) : (n : ℕ) → n ≤ cfg1.N → sProp 𝕄
  | 0, _ => ΦK (Ix := Ix) (U := U) (Lvl := Lvl) (F := F) c
  | n + 1, h => iprop((owns (c : Thread nD τ) scM fullShare (acc V c n h) ∗ but (Ix := Ix) (U := U) (Lvl := Lvl) (F := F) c) ∗ ∃ r, prngReg c r)

theorem PhiS_succ (c : Dev nD) (n : ℕ) (hn : n < cfg1.N) : PhiS (Ix := Ix) (U := U) (Lvl := Lvl) V c (n + 1) hn
    = iprop((owns (c : Thread nD τ) scM fullShare (acc V c n hn) ∗ but (Ix := Ix) (U := U) (Lvl := Lvl) (F := F) c) ∗ ∃ r, prngReg c r) := rfl

theorem PhiS_pos (c : Dev nD) (n : ℕ) (h : n ≤ cfg1.N) (hz : n ≠ 0) : PhiS (Ix := Ix) (U := U) (Lvl := Lvl) V c n h
    = iprop((owns (c : Thread nD τ) scM fullShare (acc V c (n - 1) (by omega)) ∗ but (Ix := Ix) (U := U) (Lvl := Lvl) (F := F) c) ∗ ∃ r, prngReg c r) := by
  obtain ⟨k, rfl⟩ := Nat.exists_eq_succ_of_ne_zero hz; rfl

/-- Whatever the point, the accumulator holds something. -/
theorem PhiS_any (c : Dev nD) (n : ℕ) (h : n ≤ cfg1.N) : PhiS (Ix := Ix) (U := U) (Lvl := Lvl) V c n h
    ⊢ iprop(((∃ d, owns (c : Thread nD τ) scM fullShare d) ∗ but (Ix := Ix) (U := U) (Lvl := Lvl) (F := F) c) ∗ ∃ r, prngReg c r) := by
  by_cases hz : n = 0
  · subst hz
    show ΦK (Ix := Ix) (U := U) (Lvl := Lvl) (F := F) c ⊢ _
    rw [ΦK_eq]
  · rw [PhiS_pos V c n h hz]
    iintro ⟨⟨HS, HB⟩, Hg⟩
    isplitl [HS HB]
    · isplitl [HS]
      · iexists _; iexact HS
      iexact HB
    iexact Hg

/-- The pipeline's proof data on core `c`. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outsAt (Ix := Ix) (U := U) (Lvl := Lvl) 𝒱₀ V c t
  Φ t := PhiS V c t.val (Nat.le_of_lt_succ t.isLt)
  q _ := fullShare
  owed _ := D c

variable (ι : Ix)

local notation "𝕕" => dat (Ix := Ix) (U := U) (Lvl := Lvl) 𝒱₀ V D

theorem A_eq (c : Dev nD) (w : Fin cfg1.W) : (𝕕 c).A w = V c (Pipeline.arrRef spec1 w) := by
  dsimp only [dat]

theorem PhiS_castSucc (c : Dev nD) (t : Fin cfg1.N) : (𝕕 c).Φ t.castSucc = PhiS V c t.val (Nat.le_of_lt t.isLt) := by
  dsimp only [dat]; exact Pipeline.Dat.Φ_castSucc (PhiS V c) t

theorem after_0 (c : Dev nD) (t : Fin cfg1.N) : (𝕕 c).after 0 t = iblk V c 0 t := by dsimp only [dat]
theorem after_1 (c : Dev nD) (t : Fin cfg1.N) : (𝕕 c).after 1 t = iblk V c 1 t := by dsimp only [dat]
theorem after_2 (c : Dev nD) (t : Fin cfg1.N) : (𝕕 c).after 2 t = iblk V c 2 t := by dsimp only [dat]
theorem after_3 (c : Dev nD) (t : Fin cfg1.N) : (𝕕 c).after 3 t = iblk V c 3 t := by dsimp only [dat]
theorem after_4 (c : Dev nD) (t : Fin cfg1.N) : (𝕕 c).after 4 t = iblk V c 4 t := by dsimp only [dat]
theorem after_5 (c : Dev nD) (t : Fin cfg1.N) : (𝕕 c).after 5 t = iblk V c 5 t := by dsimp only [dat]
theorem after_6 (c : Dev nD) (t : Fin cfg1.N) : (𝕕 c).after 6 t = iblk V c 6 t := by dsimp only [dat]
theorem after_7 (c : Dev nD) (t : Fin cfg1.N) : (𝕕 c).after 7 t = iblk V c 7 t := by dsimp only [dat]
theorem after_8 (c : Dev nD) (t : Fin cfg1.N) : (𝕕 c).after 8 t = outsAt (Ix := Ix) (U := U) (Lvl := Lvl) 𝒱₀ V c t := by dsimp only [dat]

/-! Each input's staging buffer holds its block at every point, fetched there or not. -/
theorem before_0 (c : Dev nD) (t : Fin cfg1.N) (d) : (𝕕 c).before 0 t d = iblk V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (𝕕 c).before 1 t d = iblk V c 1 t :=
  ((𝕕 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (𝕕 c).before 2 t d = iblk V c 2 t :=
  ((𝕕 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (𝕕 c).before 3 t d = iblk V c 3 t :=
  ((𝕕 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (𝕕 c).before 4 t d = iblk V c 4 t :=
  ((𝕕 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (𝕕 c).before 5 t d = iblk V c 5 t :=
  ((𝕕 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (𝕕 c).before 6 t d = iblk V c 6 t :=
  ((𝕕 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (𝕕 c).before 7 t d = iblk V c 7 t :=
  ((𝕕 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d))
    ∗ (∃ d, owns (c : Thread nD τ) (ms6 t) fullShare ((𝕕 c).before 6 t d))
    ∗ (∃ d, owns (c : Thread nD τ) (ms7 t) fullShare ((𝕕 c).before 7 t d))
    ∗ (∃ d, owns (c : Thread nD τ) (ms8 t) fullShare ((𝕕 c).before 8 t d)))

/-- and what it returns. -/
def bodyPost (c : Dev nD) (t : Fin cfg1.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t
    ∗ (𝕕 c).leavesExact 5 t
    ∗ (𝕕 c).leavesExact 6 t
    ∗ (𝕕 c).leavesExact 7 t
    ∗ (𝕕 c).leavesExact 8 t)

set_option maxHeartbeats 9600000 in
/-- The body at any point, by the column block the point is at. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before_0, before_1, before_2, before_3, before_4, before_5, before_6, before_7]
  rw [show (𝕕 c).owesAt ι t.succ = (𝕕 c).owesAt ι t.castSucc from rfl]
  rw [show (𝕕 c).Φ t.succ = PhiS V c (t.val + 1) t.isLt from rfl, PhiS_succ]
  have hN : t.val < 50 := lt_of_lt_of_eq t.isLt (show cfg1.N = 50 from N_1)
  by_cases h0 : t.val % 5 = 0
  · by_cases h1 : t.val % 5 = 4
    · exfalso; omega
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveAt4 t], after_4]
      rw [show (𝕕 c).leavesExact 5 t = owns (c : Thread nD τ) (ms5 t) fullShare ((𝕕 c).after 5 t) from by
        unfold Dat.leavesExact; rw [liveAt5 t], after_5]
      rw [show (𝕕 c).leavesExact 6 t = owns (c : Thread nD τ) (ms6 t) fullShare ((𝕕 c).after 6 t) from by
        unfold Dat.leavesExact; rw [liveAt6 t], after_6]
      rw [show (𝕕 c).leavesExact 7 t = owns (c : Thread nD τ) (ms7 t) fullShare ((𝕕 c).after 7 t) from by
        unfold Dat.leavesExact; rw [liveAt7 t], after_7]
      rw [Dat.leavesExact_idle (𝕕 c) 8 t (idleA t ((hcond_first t).mpr h0) (fun h => h1 ((hcond_last t).mp h))) (noFlushA t ((hcond_first t).mpr h0) (fun h => h1 ((hcond_last t).mp h)))]
      rw [PhiS_castSucc 𝒱₀ V D c t, acc_first V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HΦ' := (PhiS_any V c t.val _) $$ HΦ
      icases HΦ' with ⟨⟨HS, HB⟩, Hg⟩
      iapply (runA (Ix := Ix) (U := U) (Lvl := Lvl) 𝒱₀ c (grid1.coords t) _ _ _ _ _ _ _ _ _ _ _ _ _ _ _ _ _ _ _ _ ((hcond_first t).mpr h0) (fun h => h1 ((hcond_last t).mp h)) (iblk V c 0 t) (iblk V c 1 t) (iblk V c 2 t) (iblk V c 3 t) (iblk V c 4 t) (iblk V c 5 t) (iblk V c 6 t) (iblk V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · by_cases h1 : t.val % 5 = 4
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveAt4 t], after_4]
      rw [show (𝕕 c).leavesExact 5 t = owns (c : Thread nD τ) (ms5 t) fullShare ((𝕕 c).after 5 t) from by
        unfold Dat.leavesExact; rw [liveAt5 t], after_5]
      rw [show (𝕕 c).leavesExact 6 t = owns (c : Thread nD τ) (ms6 t) fullShare ((𝕕 c).after 6 t) from by
        unfold Dat.leavesExact; rw [liveAt6 t], after_6]
      rw [show (𝕕 c).leavesExact 7 t = owns (c : Thread nD τ) (ms7 t) fullShare ((𝕕 c).after 7 t) from by
        unfold Dat.leavesExact; rw [liveAt7 t], after_7]
      rw [show (𝕕 c).leavesExact 8 t = owns (c : Thread nD τ) (ms8 t) fullShare ((𝕕 c).after 8 t) from by
        unfold Dat.leavesExact; rw [liveC t (fun h => h0 ((hcond_first t).mp h)) ((hcond_last t).mpr h1)], after_8, outsAt_last (Ix := Ix) (U := U) (Lvl := Lvl) 𝒱₀ V c t (fun h => h0 ((hcond_first t).mp h)) ((hcond_last t).mpr h1)]
      unfold outC
      rw [PhiS_castSucc 𝒱₀ V D c t, PhiS_pos V c _ _ (by omega), acc_next V c t h0]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC (Ix := Ix) (U := U) (Lvl := Lvl) 𝒱₀ c (grid1.coords t) _ _ _ _ _ _ _ _ _ _ _ _ _ _ _ _ _ _ _ _ (fun h => h0 ((hcond_first t).mp h)) ((hcond_last t).mpr h1) (iblk V c 0 t) (iblk V c 1 t) (iblk V c 2 t) (iblk V c 3 t) (iblk V c 4 t) (iblk V c 5 t) (iblk V c 6 t) (iblk V c 7 t) (acc V c (t.val - 1) (by omega))).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e, H8⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverC (Ix := Ix) (U := U) (Lvl := Lvl) 𝒱₀ c _ _ _ _ _ _ _ _ _ _ _ _ _ _ _ _ _ _ _ _ _ _ _ _ _ _ _ _ _ _ _ _)
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveAt4 t], after_4]
      rw [show (𝕕 c).leavesExact 5 t = owns (c : Thread nD τ) (ms5 t) fullShare ((𝕕 c).after 5 t) from by
        unfold Dat.leavesExact; rw [liveAt5 t], after_5]
      rw [show (𝕕 c).leavesExact 6 t = owns (c : Thread nD τ) (ms6 t) fullShare ((𝕕 c).after 6 t) from by
        unfold Dat.leavesExact; rw [liveAt6 t], after_6]
      rw [show (𝕕 c).leavesExact 7 t = owns (c : Thread nD τ) (ms7 t) fullShare ((𝕕 c).after 7 t) from by
        unfold Dat.leavesExact; rw [liveAt7 t], after_7]
      rw [Dat.leavesExact_idle (𝕕 c) 8 t (idleB t (fun h => h0 ((hcond_first t).mp h)) (fun h => h1 ((hcond_last t).mp h))) (noFlushB t (fun h => h0 ((hcond_first t).mp h)) (fun h => h1 ((hcond_last t).mp h)))]
      rw [PhiS_castSucc 𝒱₀ V D c t, PhiS_pos V c _ _ (by omega), acc_next V c t h0]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB (Ix := Ix) (U := U) (Lvl := Lvl) 𝒱₀ c (grid1.coords t) _ _ _ _ _ _ _ _ _ _ _ _ _ _ _ _ _ _ _ _ (fun h => h0 ((hcond_first t).mp h)) (fun h => h1 ((hcond_last t).mp h)) (iblk V c 0 t) (iblk V c 1 t) (iblk V c 2 t) (iblk V c 3 t) (iblk V c 4 t) (iblk V c 5 t) (iblk V c 6 t) (iblk V c 7 t) _ (acc V c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body table's row at point `t`'s slots is the body. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (𝕕 c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

/-- The invariant is entered from the region's scoped buffers and the generator register, -/
theorem hin (c : Dev nD) :
    iprop(Pipeline.scopedRest (Ix := Ix) (Name := ℕ) (U := U) (Lvl := Lvl) (Val := Elt F) spec1 c ∗ ∃ r, prngReg c r) ⊢ (𝕕 c).Φ 0 := .rfl

/-- and gives them back, the accumulator's contents forgotten. -/
theorem hout (c : Dev nD) :
    (𝕕 c).Φ (Fin.last cfg1.N) ⊢ iprop(Pipeline.scopedRest (Ix := Ix) (Name := ℕ) (U := U) (Lvl := Lvl) (Val := Elt F) spec1 c ∗ ∃ r, prngReg c r) := by
  show PhiS V c cfg1.N _ ⊢ ΦK (Ix := Ix) (U := U) (Lvl := Lvl) (F := F) c
  rw [ΦK_eq]
  exact PhiS_any V c _ _

end Cert.KernelIdeal.Sweep1

end
-- ==== Proof.KernelIdeal.Run2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.Value

@[expose] public section

set_option maxRecDepth 16384

noncomputable section

namespace Cert.KernelIdeal.Sweep2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The kernel body of custom call 2, in its three cases: the first column block of a row block (the accumulator starts at
    zero), a middle one, and the last one (the accumulated row block is combined and stored). -/

theorem hz : (![0, 0] : Fin 2 → Nat) = fun _ => 0 := funext fun a => by fin_cases a <;> rfl

/-- The point is at the first column block: the accumulator is zeroed. -/
abbrev cond_first (i : grid2.Coords) : Prop := (Scalar.cmpi .ne (Scalar.extui (Scalar.cmpi .eq (BitVec.ofNat 32 (i 1).val) 0#32)) 0#32) = 1#1
/-- The point is at the last column block: the row block is combined and stored. -/
abbrev cond_last (i : grid2.Coords) : Prop := k2_cond2 i = 1#1

set_option maxHeartbeats 1000000 in
/-- The body at a first column block: the accumulator ends at the block's product over zero; the output is untouched. -/
theorem runA (𝒱₀ : Variants) (c : Dev nD) (i : grid2.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : cond_first i) (hc1 : ¬cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (d : Vec F S1024x2048 .bf16) (E : Set ℕ) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ owns (c : Thread nD τ) arg11 fullShare (k2_pay2 (k2_pay1 (F := F)) x0 x1)) -∗ Kt ⟨⟩))
      ⊢ wp frame (wpE (defs₀ (F := F)) 𝒱₀ c none) E (cc2__layer_kernel i arg2 harg2 arg3 harg3 arg4 harg4 arg5 harg5 arg6 harg6 arg7 harg7 arg8 harg8 arg9 harg9 arg10 harg10 arg11 harg11) Kt := by
  simp only [cc2__layer_kernel_eq_skeleton]; unfold cc2__layer_kernel_skel
  simp only [k2_part1_eq_skeleton, k2_part2_eq_skeleton, k2_part3_eq_skeleton, k2_part4_eq_skeleton, k2_part5_eq_skeleton, k2_part6_eq_skeleton, k2_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [Ho]
  · iexists _; isplitr; · ipureintro; exact hfo
    iexact Ho
  · iexists _; isplitr; swap; · iexact HS
    ipureintro
    rw [View.read_writes_eq_canon _ _ _ (fun y => View.cover_of_tiledL _ S1024x2048.size (by sl_kernel_rfl) y)]
    sl_unfold_words
    rw [View.canon_cons_unit_zero (S := S1024x2048) hz, View.readCov_unit_zero (S := S1024x2048) _ hz]
    simp only [View.readAt_eq_ld, harg2.read_unread, harg3.read_unread, View.ld_unit_zero (S := S1024x2048) hz, View.ld_unit_zero (S := S2048x2048) hz]

set_option maxHeartbeats 1000000 in
/-- The body at a middle column block: the accumulator takes the block's product; the output is untouched. -/
theorem runB (𝒱₀ : Variants) (c : Dev nD) (i : grid2.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : ¬cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (d : Vec F S1024x2048 .bf16) (xs : Vec F S1024x2048 .f32) (E : Set ℕ) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d ∗ owns (c : Thread nD τ) arg11 fullShare (k2_pay2 xs x0 x1)) -∗ Kt ⟨⟩))
      ⊢ wp frame (wpE (defs₀ (F := F)) 𝒱₀ c none) E (cc2__layer_kernel i arg2 harg2 arg3 harg3 arg4 harg4 arg5 harg5 arg6 harg6 arg7 harg7 arg8 harg8 arg9 harg9 arg10 harg10 arg11 harg11) Kt := by
  simp only [cc2__layer_kernel_eq_skeleton]; unfold cc2__layer_kernel_skel
  simp only [k2_part1_eq_skeleton, k2_part2_eq_skeleton, k2_part3_eq_skeleton, k2_part4_eq_skeleton, k2_part5_eq_skeleton, k2_part6_eq_skeleton, k2_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [Ho]
  · iexists _; isplitr; · ipureintro; exact hfo
    iexact Ho
  · iexists _; isplitr; swap; · iexact HS
    ipureintro
    rw [View.read_writes_eq_canon _ _ _ (fun y => View.cover_of_tiledL _ S1024x2048.size (by sl_kernel_rfl) y)]
    sl_unfold_words
    rw [View.canon_unit_zero hz]
    simp only [View.readAt_eq_ld, harg2.read_unread, harg3.read_unread, harg11.read_unread, View.ld_unit_zero (S := S1024x2048) hz, View.ld_unit_zero (S := S2048x2048) hz]

set_option maxHeartbeats 1000000 in
/-- The body at a last column block: the accumulator takes the block's product, and the whole row block is combined and
    stored. The stores into the output's staging buffer are the list the run finds. -/
noncomputable def runC (𝒱₀ : Variants) (c : Dev nD) (i : grid2.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (xs : Vec F S1024x2048 .f32) :
    { L : List (View.Piece (Elt F) S1024x2048 .bf16) //
      ∀ (E : Set ℕ) (Kt : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ owns (c : Thread nD τ) arg11 fullShare (k2_pay2 xs x0 x1)) -∗ Kt ⟨⟩))
      ⊢ wp frame (wpE (defs₀ (F := F)) 𝒱₀ c none) E (cc2__layer_kernel i arg2 harg2 arg3 harg3 arg4 harg4 arg5 harg5 arg6 harg6 arg7 harg7 arg8 harg8 arg9 harg9 arg10 harg10 arg11 harg11) Kt } := by
  refine ⟨?_, fun E Kt => ?run⟩
  case run =>
  simp only [cc2__layer_kernel_eq_skeleton]; unfold cc2__layer_kernel_skel
  simp only [k2_part1_eq_skeleton, k2_part2_eq_skeleton, k2_part3_eq_skeleton, k2_part4_eq_skeleton, k2_part5_eq_skeleton, k2_part6_eq_skeleton, k2_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dd, %fo, -, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [Ho]
  · iexists _; iexact Ho
  · iexists _; isplitr; swap; · iexact HS
    ipureintro
    rw [View.read_writes_eq_canon _ _ _ (fun y => View.cover_of_tiledL _ S1024x2048.size (by sl_kernel_rfl) y)]
    sl_unfold_words
    rw [View.canon_unit_zero hz]
    simp only [View.readAt_eq_ld, harg2.read_unread, harg3.read_unread, harg11.read_unread, View.ld_unit_zero (S := S1024x2048) hz, View.ld_unit_zero (S := S2048x2048) hz]

/-- The output's stores tile its block, so they cover it. -/
theorem coverC (𝒱₀ : Variants) (c : Dev nD) (i : grid2.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (xs : Vec F S1024x2048 .f32) (y : S1024x2048.Idx) :
    ∃ pc ∈ (runC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (runC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs).1 S1024x2048.size (by sl_kernel_rfl) y

/-- One staging buffer of the output window, through which its contents are stated. -/
abbrev VO : View sig .tc .vmem S1024x2048 .bf16 := (Memref.whole cc2_stg8_0 : Memref sig .tc .vmem S1024x2048 .bf16).view

/-- What the last column block leaves in the output's staging buffer. -/
def outC (𝒱₀ : Variants) (c : Dev nD) (i : grid2.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec F S1024x2048 .bf16) (x1 : Vec F S2048x2048 .bf16) (x2 : Vec F S4x12 .f32) (x3 : Vec F S1x128 .f32) (x4 : Vec F S1x128 .f32) (x5 : Vec F S1x128 .f32) (x6 : Vec F S128x128 .f32) (x7 : Vec F S4x12 .f32) (xs : Vec F S1024x2048 .f32) : Vec F S1024x2048 .bf16 :=
  VO.read (Elt F) (VO.writes (Elt F) VO.junk (runC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs).1)

end Cert.KernelIdeal.Sweep2

end
-- ==== Proof.KernelIdeal.Body2.lean ====
module

public import proofs.«01_k».proof.Proof.KernelIdeal.Run2

@[expose] public section

set_option maxRecDepth 16384

noncomputable section

namespace Cert.KernelIdeal.Sweep2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The pipeline of custom call 2, point by point: what the accumulator and the output hold after each grid point, and the
    body obligation the pipeline library asks for. -/

/-- The accumulator scratch, whole. -/
abbrev scM : Memref sig .tc .vmem S1024x2048 .f32 := Memref.whole cc2_scratch0

/-- The kernel's first condition holds exactly at the first column block. -/
theorem hcond_first : ∀ t : Fin cfg2.N, cond_first (grid2.coords t) ↔ t.val % 5 = 0 :=
  (fun t => by
    have ht : t.val < 50 := Nat.lt_of_lt_of_eq t.isLt N_2
    have e0 : (grid2.coords t 0).val = t.val / 5 % 10 := Pipeline.Grid.coords_val t 0 (by decide) rfl
    have e1 : (grid2.coords t 1).val = t.val / 1 % 5 := Pipeline.Grid.coords_val t 1 (by decide) rfl
    simp only [cond_first, e0, e1]
    word_cmp
   : ∀ t : Fin grid2.N, cond_first (grid2.coords t) ↔ t.val % 5 = 0)

/-- The kernel's second condition holds exactly at the last column block. -/
theorem hcond_last : ∀ t : Fin cfg2.N, cond_last (grid2.coords t) ↔ t.val % 5 = 4 :=
  (fun t => by
    have ht : t.val < 50 := Nat.lt_of_lt_of_eq t.isLt N_2
    have e0 : (grid2.coords t 0).val = t.val / 5 % 10 := Pipeline.Grid.coords_val t 0 (by decide) rfl
    have e1 : (grid2.coords t 1).val = t.val / 1 % 5 := Pipeline.Grid.coords_val t 1 (by decide) rfl
    simp only [cond_last, k2_cond2, e0, e1]
    word_cmp
   : ∀ t : Fin grid2.N, cond_last (grid2.coords t) ↔ t.val % 5 = 4)

/-! The inputs are live at every point; the output is live only at a last column block, and not written back before it. -/
theorem liveAt0 : ∀ t : Fin cfg2.N, cfg2.idle 0 (grid2.coords t) = false := fun _ => rfl
theorem liveAt1 : ∀ t : Fin cfg2.N, cfg2.idle 1 (grid2.coords t) = false := fun _ => rfl
theorem liveAt2 : ∀ t : Fin cfg2.N, cfg2.idle 2 (grid2.coords t) = false := fun _ => rfl
theorem liveAt3 : ∀ t : Fin cfg2.N, cfg2.idle 3 (grid2.coords t) = false := fun _ => rfl
theorem liveAt4 : ∀ t : Fin cfg2.N, cfg2.idle 4 (grid2.coords t) = false := fun _ => rfl
theorem liveAt5 : ∀ t : Fin cfg2.N, cfg2.idle 5 (grid2.coords t) = false := fun _ => rfl
theorem liveAt6 : ∀ t : Fin cfg2.N, cfg2.idle 6 (grid2.coords t) = false := fun _ => rfl
theorem liveAt7 : ∀ t : Fin cfg2.N, cfg2.idle 7 (grid2.coords t) = false := fun _ => rfl
theorem idleA : ∀ t : Fin cfg2.N, cond_first (grid2.coords t) → ¬cond_last (grid2.coords t) → cfg2.idle 8 (grid2.coords t) = true := by decide +kernel
theorem noFlushA : ∀ t : Fin cfg2.N, cond_first (grid2.coords t) → ¬cond_last (grid2.coords t) → (cfg2.win 8).flush t = false := by decide +kernel
theorem idleB : ∀ t : Fin cfg2.N, ¬cond_first (grid2.coords t) → ¬cond_last (grid2.coords t) → cfg2.idle 8 (grid2.coords t) = true := by decide +kernel
theorem noFlushB : ∀ t : Fin cfg2.N, ¬cond_first (grid2.coords t) → ¬cond_last (grid2.coords t) → (cfg2.win 8).flush t = false := by decide +kernel
theorem liveC : ∀ t : Fin cfg2.N, ¬cond_first (grid2.coords t) → cond_last (grid2.coords t) → cfg2.idle 8 (grid2.coords t) = false := by decide +kernel

/-! Each window's current staging buffer at a point. -/
abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x2048 .bf16 := win2_1.stage (cfg2.slots t 1)
abbrev hs1 (t : Fin cfg2.N) : (ms1 t).IsWhole := hstage2_1 ((cfg2.slots t 1).cast nbuf2_1)
abbrev ms2 (t : Fin cfg2.N) : Memref sig .tc .smem S4x12 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x128 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S128x128 .f32 := win2_6.stage (cfg2.slots t 6)
abbrev hs6 (t : Fin cfg2.N) : (ms6 t).IsWhole := hstage2_6 ((cfg2.slots t 6).cast nbuf2_6)
abbrev ms7 (t : Fin cfg2.N) : Memref sig .tc .smem S4x12 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1024x2048 .bf16 := win2_8.stage (cfg2.slots t 8)
abbrev hs8 (t : Fin cfg2.N) : (ms8 t).IsWhole := hstage2_8 ((cfg2.slots t 8).cast nbuf2_8)

variable (𝒱₀ : Variants) (V : (c : Dev nD) → (b : Ref sig .tc) → Buf (Elt F) ((c : Thread nD τ).loc b)) (D : Dev nD → CellTallies nD τ sig Ix)

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: the products of the row block's column blocks so far, over zero. -/
def acc (c : Dev nD) : (n : ℕ) → n < cfg2.N → Vec F S1024x2048 .f32
  | 0, h => k2_pay2 k2_pay1 (iblk V c 0 ⟨0, h⟩) (iblk V c 1 ⟨0, h⟩)
  | n + 1, h => k2_pay2 (if (n + 1) % 5 = 0 then k2_pay1 else acc c n (Nat.lt_of_succ_lt h)) (iblk V c 0 ⟨n + 1, h⟩) (iblk V c 1 ⟨n + 1, h⟩)

/-- At a first column block the accumulator starts from zero. -/
theorem acc_first (c : Dev nD) (t : Fin cfg2.N) (h0 : t.val % 5 = 0) :
    acc V c t.val t.isLt = k2_pay2 k2_pay1 (iblk V c 0 t) (iblk V c 1 t) := by
  obtain ⟨n, hn⟩ := t
  cases n with
  | zero => rfl
  | succ n => simp only [acc, if_pos h0]

/-- At a later column block it continues from the point before. -/
theorem acc_next (c : Dev nD) (t : Fin cfg2.N) (h0 : ¬t.val % 5 = 0) :
    acc V c t.val t.isLt = k2_pay2 (acc V c (t.val - 1) (by omega)) (iblk V c 0 t) (iblk V c 1 t) := by
  obtain ⟨n, hn⟩ := t
  cases n with
  | zero => exact absurd rfl h0
  | succ n => simp only [acc, if_neg h0]; rfl

/-- What the output's staging buffer holds after point `t`: the combined row block at a last column block; at any other point
    nothing reads it. -/
def outsAt (c : Dev nD) (t : Fin cfg2.N) : Vec F S1024x2048 .bf16 :=
  if h : ¬cond_first (grid2.coords t) ∧ cond_last (grid2.coords t) then
    outC (Ix := Ix) (U := U) (Lvl := Lvl) 𝒱₀ c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h.1 h.2 (iblk V c 0 t) (iblk V c 1 t) (iblk V c 2 t) (iblk V c 3 t) (iblk V c 4 t) (iblk V c 5 t) (iblk V c 6 t) (iblk V c 7 t) (acc V c (t.val - 1) (by omega))
  else VO.read (Elt F) VO.junk

theorem outsAt_last (c : Dev nD) (t : Fin cfg2.N) (h0 : ¬cond_first (grid2.coords t)) (h1 : cond_last (grid2.coords t)) :
    outsAt (Ix := Ix) (U := U) (Lvl := Lvl) 𝒱₀ V c t = outC (Ix := Ix) (U := U) (Lvl := Lvl) 𝒱₀ c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h0 h1 (iblk V c 0 t) (iblk V c 1 t) (iblk V c 2 t) (iblk V c 3 t) (iblk V c 4 t) (iblk V c 5 t) (iblk V c 6 t) (iblk V c 7 t) (acc V c (t.val - 1) (by omega)) := by
  unfold outsAt; rw [dif_pos ⟨h0, h1⟩]

/-- The region's invariant before its first point: its scoped buffers but the windows' at anything, the generator register. -/
def ΦK (c : Dev nD) : sProp 𝕄 :=
  iprop(Pipeline.scopedRest (Ix := Ix) (Name := ℕ) (U := U) (Lvl := Lvl) (Val := Elt F) spec2 c ∗ ∃ r, prngReg c r)

/-- The region's other scoped buffers. -/
abbrev but (c : Dev nD) : sProp 𝕄 :=
  Pipeline.scopedRestBut (Ix := Ix) (Name := ℕ) (U := U) (Lvl := Lvl) (Val := Elt F) spec2 c [cc2_scratch0]

theorem ΦK_eq (c : Dev nD) : ΦK (Ix := Ix) (U := U) (Lvl := Lvl) (F := F) c
    = iprop(((∃ d, owns (c : Thread nD τ) scM fullShare d) ∗ but (Ix := Ix) (U := U) (Lvl := Lvl) (F := F) c) ∗ ∃ r, prngReg c r) := by
  unfold ΦK; rw [scopedRest2_split]; simp only [scM, owns_whole]; try rfl

/-- The region's invariant before point `n`: after the first point the accumulator holds `acc`. -/
def PhiS (c : Dev nD) : (n : ℕ) → n ≤ cfg2.N → sProp 𝕄
  | 0, _ => ΦK (Ix := Ix) (U := U) (Lvl := Lvl) (F := F) c
  | n + 1, h => iprop((owns (c : Thread nD τ) scM fullShare (acc V c n h) ∗ but (Ix := Ix) (U := U) (Lvl := Lvl) (F := F) c) ∗ ∃ r, prngReg c r)

theorem PhiS_succ (c : Dev nD) (n : ℕ) (hn : n < cfg2.N) : PhiS (Ix := Ix) (U := U) (Lvl := Lvl) V c (n + 1) hn
    = iprop((owns (c : Thread nD τ) scM fullShare (acc V c n hn) ∗ but (Ix := Ix) (U := U) (Lvl := Lvl) (F := F) c) ∗ ∃ r, prngReg c r) := rfl

theorem PhiS_pos (c : Dev nD) (n : ℕ) (h : n ≤ cfg2.N) (hz : n ≠ 0) : PhiS (Ix := Ix) (U := U) (Lvl := Lvl) V c n h
    = iprop((owns (c : Thread nD τ) scM fullShare (acc V c (n - 1) (by omega)) ∗ but (Ix := Ix) (U := U) (Lvl := Lvl) (F := F) c) ∗ ∃ r, prngReg c r) := by
  obtain ⟨k, rfl⟩ := Nat.exists_eq_succ_of_ne_zero hz; rfl

/-- Whatever the point, the accumulator holds something. -/
theorem PhiS_any (c : Dev nD) (n : ℕ) (h : n ≤ cfg2.N) : PhiS (Ix := Ix) (U := U) (Lvl := Lvl) V c n h
    ⊢ iprop(((∃ d, owns (c : Thread nD τ) scM fullShare d) ∗ but (Ix := Ix) (U := U) (Lvl := Lvl) (F := F) c) ∗ ∃ r, prngReg c r) := by
  by_cases hz : n = 0
  · subst hz
    show ΦK (Ix := Ix) (U := U) (Lvl := Lvl) (F := F) c ⊢ _
    rw [ΦK_eq]
  · rw [PhiS_pos V c n h hz]
    iintro ⟨⟨HS, HB⟩, Hg⟩
    isplitl [HS HB]
    · isplitl [HS]
      · iexists _; iexact HS
      iexact HB
    iexact Hg

/-- The pipeline's proof data on core `c`. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outsAt (Ix := Ix) (U := U) (Lvl := Lvl) 𝒱₀ V c t
  Φ t := PhiS V c t.val (Nat.le_of_lt_succ t.isLt)
  q _ := fullShare
  owed _ := D c

variable (ι : Ix)

local notation "𝕕" => dat (Ix := Ix) (U := U) (Lvl := Lvl) 𝒱₀ V D

theorem A_eq (c : Dev nD) (w : Fin cfg2.W) : (𝕕 c).A w = V c (Pipeline.arrRef spec2 w) := by
  dsimp only [dat]

theorem PhiS_castSucc (c : Dev nD) (t : Fin cfg2.N) : (𝕕 c).Φ t.castSucc = PhiS V c t.val (Nat.le_of_lt t.isLt) := by
  dsimp only [dat]; exact Pipeline.Dat.Φ_castSucc (PhiS V c) t

theorem after_0 (c : Dev nD) (t : Fin cfg2.N) : (𝕕 c).after 0 t = iblk V c 0 t := by dsimp only [dat]
theorem after_1 (c : Dev nD) (t : Fin cfg2.N) : (𝕕 c).after 1 t = iblk V c 1 t := by dsimp only [dat]
theorem after_2 (c : Dev nD) (t : Fin cfg2.N) : (𝕕 c).after 2 t = iblk V c 2 t := by dsimp only [dat]
theorem after_3 (c : Dev nD) (t : Fin cfg2.N) : (𝕕 c).after 3 t = iblk V c 3 t := by dsimp only [dat]
theorem after_4 (c : Dev nD) (t : Fin cfg2.N) : (𝕕 c).after 4 t = iblk V c 4 t := by dsimp only [dat]
theorem after_5 (c : Dev nD) (t : Fin cfg2.N) : (𝕕 c).after 5 t = iblk V c 5 t := by dsimp only [dat]
theorem after_6 (c : Dev nD) (t : Fin cfg2.N) : (𝕕 c).after 6 t = iblk V c 6 t := by dsimp only [dat]
theorem after_7 (c : Dev nD) (t : Fin cfg2.N) : (𝕕 c).after 7 t = iblk V c 7 t := by dsimp only [dat]
theorem after_8 (c : Dev nD) (t : Fin cfg2.N) : (𝕕 c).after 8 t = outsAt (Ix := Ix) (U := U) (Lvl := Lvl) 𝒱₀ V c t := by dsimp only [dat]

/-! Each input's staging buffer holds its block at every point, fetched there or not. -/
theorem before_0 (c : Dev nD) (t : Fin cfg2.N) (d) : (𝕕 c).before 0 t d = iblk V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (𝕕 c).before 1 t d = iblk V c 1 t :=
  ((𝕕 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (𝕕 c).before 2 t d = iblk V c 2 t :=
  ((𝕕 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (𝕕 c).before 3 t d = iblk V c 3 t :=
  ((𝕕 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (𝕕 c).before 4 t d = iblk V c 4 t :=
  ((𝕕 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (𝕕 c).before 5 t d = iblk V c 5 t :=
  ((𝕕 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (𝕕 c).before 6 t d = iblk V c 6 t :=
  ((𝕕 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (𝕕 c).before 7 t d = iblk V c 7 t :=
  ((𝕕 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d))
    ∗ (∃ d, owns (c : Thread nD τ) (ms6 t) fullShare ((𝕕 c).before 6 t d))
    ∗ (∃ d, owns (c : Thread nD τ) (ms7 t) fullShare ((𝕕 c).before 7 t d))
    ∗ (∃ d, owns (c : Thread nD τ) (ms8 t) fullShare ((𝕕 c).before 8 t d)))

/-- and what it returns. -/
def bodyPost (c : Dev nD) (t : Fin cfg2.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t
    ∗ (𝕕 c).leavesExact 5 t
    ∗ (𝕕 c).leavesExact 6 t
    ∗ (𝕕 c).leavesExact 7 t
    ∗ (𝕕 c).leavesExact 8 t)

set_option maxHeartbeats 9600000 in
/-- The body at any point, by the column block the point is at. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before_0, before_1, before_2, before_3, before_4, before_5, before_6, before_7]
  rw [show (𝕕 c).owesAt ι t.succ = (𝕕 c).owesAt ι t.castSucc from rfl]
  rw [show (𝕕 c).Φ t.succ = PhiS V c (t.val + 1) t.isLt from rfl, PhiS_succ]
  have hN : t.val < 50 := lt_of_lt_of_eq t.isLt (show cfg2.N = 50 from N_2)
  by_cases h0 : t.val % 5 = 0
  · by_cases h1 : t.val % 5 = 4
    · exfalso; omega
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveAt4 t], after_4]
      rw [show (𝕕 c).leavesExact 5 t = owns (c : Thread nD τ) (ms5 t) fullShare ((𝕕 c).after 5 t) from by
        unfold Dat.leavesExact; rw [liveAt5 t], after_5]
      rw [show (𝕕 c).leavesExact 6 t = owns (c : Thread nD τ) (ms6 t) fullShare ((𝕕 c).after 6 t) from by
        unfold Dat.leavesExact; rw [liveAt6 t], after_6]
      rw [show (𝕕 c).leavesExact 7 t = owns (c : Thread nD τ) (ms7 t) fullShare ((𝕕 c).after 7 t) from by
        unfold Dat.leavesExact; rw [liveAt7 t], after_7]
      rw [Dat.leavesExact_idle (𝕕 c) 8 t (idleA t ((hcond_first t).mpr h0) (fun h => h1 ((hcond_last t).mp h))) (noFlushA t ((hcond_first t).mpr h0) (fun h => h1 ((hcond_last t).mp h)))]
      rw [PhiS_castSucc 𝒱₀ V D c t, acc_first V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HΦ' := (PhiS_any V c t.val _) $$ HΦ
      icases HΦ' with ⟨⟨HS, HB⟩, Hg⟩
      iapply (runA (Ix := Ix) (U := U) (Lvl := Lvl) 𝒱₀ c (grid2.coords t) _ _ _ _ _ _ _ _ _ _ _ _ _ _ _ _ _ _ _ _ ((hcond_first t).mpr h0) (fun h => h1 ((hcond_last t).mp h)) (iblk V c 0 t) (iblk V c 1 t) (iblk V c 2 t) (iblk V c 3 t) (iblk V c 4 t) (iblk V c 5 t) (iblk V c 6 t) (iblk V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · by_cases h1 : t.val % 5 = 4
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveAt4 t], after_4]
      rw [show (𝕕 c).leavesExact 5 t = owns (c : Thread nD τ) (ms5 t) fullShare ((𝕕 c).after 5 t) from by
        unfold Dat.leavesExact; rw [liveAt5 t], after_5]
      rw [show (𝕕 c).leavesExact 6 t = owns (c : Thread nD τ) (ms6 t) fullShare ((𝕕 c).after 6 t) from by
        unfold Dat.leavesExact; rw [liveAt6 t], after_6]
      rw [show (𝕕 c).leavesExact 7 t = owns (c : Thread nD τ) (ms7 t) fullShare ((𝕕 c).after 7 t) from by
        unfold Dat.leavesExact; rw [liveAt7 t], after_7]
      rw [show (𝕕 c).leavesExact 8 t = owns (c : Thread nD τ) (ms8 t) fullShare ((𝕕 c).after 8 t) from by
        unfold Dat.leavesExact; rw [liveC t (fun h => h0 ((hcond_first t).mp h)) ((hcond_last t).mpr h1)], after_8, outsAt_last (Ix := Ix) (U := U) (Lvl := Lvl) 𝒱₀ V c t (fun h => h0 ((hcond_first t).mp h)) ((hcond_last t).mpr h1)]
      unfold outC
      rw [PhiS_castSucc 𝒱₀ V D c t, PhiS_pos V c _ _ (by omega), acc_next V c t h0]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC (Ix := Ix) (U := U) (Lvl := Lvl) 𝒱₀ c (grid2.coords t) _ _ _ _ _ _ _ _ _ _ _ _ _ _ _ _ _ _ _ _ (fun h => h0 ((hcond_first t).mp h)) ((hcond_last t).mpr h1) (iblk V c 0 t) (iblk V c 1 t) (iblk V c 2 t) (iblk V c 3 t) (iblk V c 4 t) (iblk V c 5 t) (iblk V c 6 t) (iblk V c 7 t) (acc V c (t.val - 1) (by omega))).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e, H8⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverC (Ix := Ix) (U := U) (Lvl := Lvl) 𝒱₀ c _ _ _ _ _ _ _ _ _ _ _ _ _ _ _ _ _ _ _ _ _ _ _ _ _ _ _ _ _ _ _ _)
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveAt4 t], after_4]
      rw [show (𝕕 c).leavesExact 5 t = owns (c : Thread nD τ) (ms5 t) fullShare ((𝕕 c).after 5 t) from by
        unfold Dat.leavesExact; rw [liveAt5 t], after_5]
      rw [show (𝕕 c).leavesExact 6 t = owns (c : Thread nD τ) (ms6 t) fullShare ((𝕕 c).after 6 t) from by
        unfold Dat.leavesExact; rw [liveAt6 t], after_6]
      rw [show (𝕕 c).leavesExact 7 t = owns (c : Thread nD τ) (ms7 t) fullShare ((𝕕 c).after 7 t) from by
        unfold Dat.leavesExact; rw [liveAt7 t], after_7]
      rw [Dat.leavesExact_idle (𝕕 c) 8 t (idleB t (fun h => h0 ((hcond_first t).mp h)) (fun h => h1 ((hcond_last t).mp h))) (noFlushB t (fun h => h0 ((hcond_first t).mp h)) (fun h => h1 ((hcond_last t).mp h)))]
      rw [PhiS_castSucc 𝒱₀ V D c t, PhiS_pos V c _ _ (by omega), acc_next V c t h0]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB (Ix := Ix) (U := U) (Lvl := Lvl) 𝒱₀ c (grid2.coords t) _ _ _ _ _ _ _ _ _ _ _ _ _ _ _ _ _ _ _ _ (fun h => h0 ((hcond_first t).mp h)) (fun h => h1 ((hcond_last t).mp h)) (iblk V c 0 t) (iblk V c 1 t) (iblk V c 2 t) (iblk V c 3 t) (iblk V c 4 t) (iblk V c 5 t) (iblk V c 6 t) (iblk V c 7 t) _ (acc V c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body table's row at point `t`'s slots is the body. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (𝕕 c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

/-- The invariant is entered from the region's scoped buffers and the generator register, -/
theorem hin (c : Dev nD) :
    iprop(Pipeline.scopedRest (Ix := Ix) (Name := ℕ) (U := U) (Lvl := Lvl) (Val := Elt F) spec2 c ∗ ∃ r, prngReg c r) ⊢ (𝕕 c).Φ 0 := .rfl

/-- and gives them back, the accumulator's contents forgotten. -/
theorem hout (c : Dev nD) :
    (𝕕 c).Φ (Fin.last cfg2.N) ⊢ iprop(Pipeline.scopedRest (Ix := Ix) (Name := ℕ) (U := U) (Lvl := Lvl) (Val := Elt F) spec2 c ∗ ∃ r, prngReg c r) := by
  show PhiS V c cfg2.N _ ⊢ ΦK (Ix := Ix) (U := U) (Lvl := Lvl) (F := F) c
  rw [ΦK_eq]
  exact PhiS_any V c _ _

end Cert.KernelIdeal.Sweep2

end
-- ==== Proof.KernelIdeal.Run3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.Value

@[expose] public section

set_option maxRecDepth 16384

noncomputable section

namespace Cert.KernelIdeal.Sweep3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The kernel body of custom call 3, in its three cases: the first column block of a row block (the accumulator starts at
    zero), a middle one, and the last one (the accumulated row block is combined and stored). -/

theorem hz : (![0, 0] : Fin 2 → Nat) = fun _ => 0 := funext fun a => by fin_cases a <;> rfl

/-- The point is at the first column block: the accumulator is zeroed. -/
abbrev cond_first (i : grid3.Coords) : Prop := (Scalar.cmpi .ne (Scalar.extui (Scalar.cmpi .eq (BitVec.ofNat 32 (i 1).val) 0#32)) 0#32) = 1#1
/-- The point is at the last column block: the row block is combined and stored. -/
abbrev cond_last (i : grid3.Coords) : Prop := k3_cond2 i = 1#1

set_option maxHeartbeats 1000000 in
/-- The body at a first column block: the accumulator ends at the block's product over zero; the output is untouched. -/
theorem runA (𝒱₀ : Variants) (c : Dev nD) (i : grid3.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x2048 .f32) (harg7 : arg7.IsWhole)
    (hc0 : cond_first i) (hc1 : ¬cond_last i)
    (x0 : Vec F S1024x2048 .bf16) (x1 : Vec F S2048x2048 .bf16) (x2 : Vec F S4x12 .f32) (x3 : Vec F S1x128 .f32) (d : Vec F S1024x128 .f32) (E : Set ℕ) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare (k3_pay2 (k3_pay1 (F := F)) x0 x1)) -∗ Kt ⟨⟩))
      ⊢ wp frame (wpE (defs₀ (F := F)) 𝒱₀ c none) E (cc3__final_kernel i arg2 harg2 arg3 harg3 arg4 harg4 arg5 harg5 arg6 harg6 arg7 harg7) Kt := by
  simp only [cc3__final_kernel_eq_skeleton]; unfold cc3__final_kernel_skel
  simp only [k3_part1_eq_skeleton, k3_part2_eq_skeleton, k3_part3_eq_skeleton, k3_part4_eq_skeleton, k3_part5_eq_skeleton]
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact hfo
    iexact Ho
  · iexists _; isplitr; swap; · iexact HS
    ipureintro
    rw [View.read_writes_eq_canon _ _ _ (fun y => View.cover_of_tiledL _ S1024x2048.size (by sl_kernel_rfl) y)]
    sl_unfold_words
    rw [View.canon_cons_unit_zero (S := S1024x2048) hz, View.readCov_unit_zero (S := S1024x2048) _ hz]
    simp only [View.readAt_eq_ld, harg2.read_unread, harg3.read_unread, View.ld_unit_zero (S := S1024x2048) hz, View.ld_unit_zero (S := S2048x2048) hz]

set_option maxHeartbeats 1000000 in
/-- The body at a middle column block: the accumulator takes the block's product; the output is untouched. -/
theorem runB (𝒱₀ : Variants) (c : Dev nD) (i : grid3.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x2048 .f32) (harg7 : arg7.IsWhole)
    (hc0 : ¬cond_first i) (hc1 : ¬cond_last i)
    (x0 : Vec F S1024x2048 .bf16) (x1 : Vec F S2048x2048 .bf16) (x2 : Vec F S4x12 .f32) (x3 : Vec F S1x128 .f32) (d : Vec F S1024x128 .f32) (xs : Vec F S1024x2048 .f32) (E : Set ℕ) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare (k3_pay2 xs x0 x1)) -∗ Kt ⟨⟩))
      ⊢ wp frame (wpE (defs₀ (F := F)) 𝒱₀ c none) E (cc3__final_kernel i arg2 harg2 arg3 harg3 arg4 harg4 arg5 harg5 arg6 harg6 arg7 harg7) Kt := by
  simp only [cc3__final_kernel_eq_skeleton]; unfold cc3__final_kernel_skel
  simp only [k3_part1_eq_skeleton, k3_part2_eq_skeleton, k3_part3_eq_skeleton, k3_part4_eq_skeleton, k3_part5_eq_skeleton]
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact hfo
    iexact Ho
  · iexists _; isplitr; swap; · iexact HS
    ipureintro
    rw [View.read_writes_eq_canon _ _ _ (fun y => View.cover_of_tiledL _ S1024x2048.size (by sl_kernel_rfl) y)]
    sl_unfold_words
    rw [View.canon_unit_zero hz]
    simp only [View.readAt_eq_ld, harg2.read_unread, harg3.read_unread, harg7.read_unread, View.ld_unit_zero (S := S1024x2048) hz, View.ld_unit_zero (S := S2048x2048) hz]

set_option maxHeartbeats 1000000 in
/-- The body at a last column block: the accumulator takes the block's product, and the whole row block is combined and
    stored. The stores into the output's staging buffer are the list the run finds. -/
noncomputable def runC (𝒱₀ : Variants) (c : Dev nD) (i : grid3.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x2048 .f32) (harg7 : arg7.IsWhole)
    (hc0 : ¬cond_first i) (hc1 : cond_last i)
    (x0 : Vec F S1024x2048 .bf16) (x1 : Vec F S2048x2048 .bf16) (x2 : Vec F S4x12 .f32) (x3 : Vec F S1x128 .f32) (xs : Vec F S1024x2048 .f32) :
    { L : List (View.Piece (Elt F) S1024x128 .f32) //
      ∀ (E : Set ℕ) (Kt : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare (k3_pay2 xs x0 x1)) -∗ Kt ⟨⟩))
      ⊢ wp frame (wpE (defs₀ (F := F)) 𝒱₀ c none) E (cc3__final_kernel i arg2 harg2 arg3 harg3 arg4 harg4 arg5 harg5 arg6 harg6 arg7 harg7) Kt } := by
  refine ⟨?_, fun E Kt => ?run⟩
  case run =>
  simp only [cc3__final_kernel_eq_skeleton]; unfold cc3__final_kernel_skel
  simp only [k3_part1_eq_skeleton, k3_part2_eq_skeleton, k3_part3_eq_skeleton, k3_part4_eq_skeleton, k3_part5_eq_skeleton]
  unfold owns
  iintro ⟨⟨%f0, %hf0, H0⟩, ⟨%f1, %hf1, H1⟩, ⟨%f2, %hf2, H2⟩, ⟨%f3, %hf3, H3⟩, ⟨%dd, %fo, -, Ho⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; iexact Ho
  · iexists _; isplitr; swap; · iexact HS
    ipureintro
    rw [View.read_writes_eq_canon _ _ _ (fun y => View.cover_of_tiledL _ S1024x2048.size (by sl_kernel_rfl) y)]
    sl_unfold_words
    rw [View.canon_unit_zero hz]
    simp only [View.readAt_eq_ld, harg2.read_unread, harg3.read_unread, harg7.read_unread, View.ld_unit_zero (S := S1024x2048) hz, View.ld_unit_zero (S := S2048x2048) hz]

/-- The output's stores tile its block, so they cover it. -/
theorem coverC (𝒱₀ : Variants) (c : Dev nD) (i : grid3.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x2048 .f32) (harg7 : arg7.IsWhole)
    (hc0 : ¬cond_first i) (hc1 : cond_last i)
    (x0 : Vec F S1024x2048 .bf16) (x1 : Vec F S2048x2048 .bf16) (x2 : Vec F S4x12 .f32) (x3 : Vec F S1x128 .f32) (xs : Vec F S1024x2048 .f32) (y : S1024x128.Idx) :
    ∃ pc ∈ (runC (Ix := Ix) (U := U) (Lvl := Lvl) 𝒱₀ c i arg2 harg2 arg3 harg3 arg4 harg4 arg5 harg5 arg6 harg6 arg7 harg7 hc0 hc1 x0 x1 x2 x3 xs).1, y ∈ pc.1.set :=
  View.cover_of_tiledL (runC (Ix := Ix) (U := U) (Lvl := Lvl) 𝒱₀ c i arg2 harg2 arg3 harg3 arg4 harg4 arg5 harg5 arg6 harg6 arg7 harg7 hc0 hc1 x0 x1 x2 x3 xs).1 S1024x128.size (by sl_kernel_rfl) y

/-- One staging buffer of the output window, through which its contents are stated. -/
abbrev VO : View sig .tc .vmem S1024x128 .f32 := (Memref.whole cc3_stg4_0 : Memref sig .tc .vmem S1024x128 .f32).view

/-- What the last column block leaves in the output's staging buffer. -/
def outC (𝒱₀ : Variants) (c : Dev nD) (i : grid3.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x2048 .f32) (harg7 : arg7.IsWhole)
    (hc0 : ¬cond_first i) (hc1 : cond_last i)
    (x0 : Vec F S1024x2048 .bf16) (x1 : Vec F S2048x2048 .bf16) (x2 : Vec F S4x12 .f32) (x3 : Vec F S1x128 .f32) (xs : Vec F S1024x2048 .f32) : Vec F S1024x128 .f32 :=
  VO.read (Elt F) (VO.writes (Elt F) VO.junk (runC (Ix := Ix) (U := U) (Lvl := Lvl) 𝒱₀ c i arg2 harg2 arg3 harg3 arg4 harg4 arg5 harg5 arg6 harg6 arg7 harg7 hc0 hc1 x0 x1 x2 x3 xs).1)

end Cert.KernelIdeal.Sweep3

end
-- ==== Proof.KernelIdeal.Body3.lean ====
module

public import proofs.«01_k».proof.Proof.KernelIdeal.Run3

@[expose] public section

set_option maxRecDepth 16384

noncomputable section

namespace Cert.KernelIdeal.Sweep3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The pipeline of custom call 3, point by point: what the accumulator and the output hold after each grid point, and the
    body obligation the pipeline library asks for. -/

/-- The accumulator scratch, whole. -/
abbrev scM : Memref sig .tc .vmem S1024x2048 .f32 := Memref.whole cc3_scratch0

/-- The kernel's first condition holds exactly at the first column block. -/
theorem hcond_first : ∀ t : Fin cfg3.N, cond_first (grid3.coords t) ↔ t.val % 5 = 0 :=
  (fun t => by
    have ht : t.val < 50 := Nat.lt_of_lt_of_eq t.isLt N_3
    have e0 : (grid3.coords t 0).val = t.val / 5 % 10 := Pipeline.Grid.coords_val t 0 (by decide) rfl
    have e1 : (grid3.coords t 1).val = t.val / 1 % 5 := Pipeline.Grid.coords_val t 1 (by decide) rfl
    simp only [cond_first, e0, e1]
    word_cmp
   : ∀ t : Fin grid3.N, cond_first (grid3.coords t) ↔ t.val % 5 = 0)

/-- The kernel's second condition holds exactly at the last column block. -/
theorem hcond_last : ∀ t : Fin cfg3.N, cond_last (grid3.coords t) ↔ t.val % 5 = 4 :=
  (fun t => by
    have ht : t.val < 50 := Nat.lt_of_lt_of_eq t.isLt N_3
    have e0 : (grid3.coords t 0).val = t.val / 5 % 10 := Pipeline.Grid.coords_val t 0 (by decide) rfl
    have e1 : (grid3.coords t 1).val = t.val / 1 % 5 := Pipeline.Grid.coords_val t 1 (by decide) rfl
    simp only [cond_last, k3_cond2, e0, e1]
    word_cmp
   : ∀ t : Fin grid3.N, cond_last (grid3.coords t) ↔ t.val % 5 = 4)

/-! The inputs are live at every point; the output is live only at a last column block, and not written back before it. -/
theorem liveAt0 : ∀ t : Fin cfg3.N, cfg3.idle 0 (grid3.coords t) = false := fun _ => rfl
theorem liveAt1 : ∀ t : Fin cfg3.N, cfg3.idle 1 (grid3.coords t) = false := fun _ => rfl
theorem liveAt2 : ∀ t : Fin cfg3.N, cfg3.idle 2 (grid3.coords t) = false := fun _ => rfl
theorem liveAt3 : ∀ t : Fin cfg3.N, cfg3.idle 3 (grid3.coords t) = false := fun _ => rfl
theorem idleA : ∀ t : Fin cfg3.N, cond_first (grid3.coords t) → ¬cond_last (grid3.coords t) → cfg3.idle 4 (grid3.coords t) = true := by decide +kernel
theorem noFlushA : ∀ t : Fin cfg3.N, cond_first (grid3.coords t) → ¬cond_last (grid3.coords t) → (cfg3.win 4).flush t = false := by decide +kernel
theorem idleB : ∀ t : Fin cfg3.N, ¬cond_first (grid3.coords t) → ¬cond_last (grid3.coords t) → cfg3.idle 4 (grid3.coords t) = true := by decide +kernel
theorem noFlushB : ∀ t : Fin cfg3.N, ¬cond_first (grid3.coords t) → ¬cond_last (grid3.coords t) → (cfg3.win 4).flush t = false := by decide +kernel
theorem liveC : ∀ t : Fin cfg3.N, ¬cond_first (grid3.coords t) → cond_last (grid3.coords t) → cfg3.idle 4 (grid3.coords t) = false := by decide +kernel

/-! Each window's current staging buffer at a point. -/
abbrev ms0 (t : Fin cfg3.N) : Memref sig .tc .vmem S1024x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x2048 .bf16 := win3_1.stage (cfg3.slots t 1)
abbrev hs1 (t : Fin cfg3.N) : (ms1 t).IsWhole := hstage3_1 ((cfg3.slots t 1).cast nbuf3_1)
abbrev ms2 (t : Fin cfg3.N) : Memref sig .tc .smem S4x12 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x128 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1024x128 .f32 := win3_4.stage (cfg3.slots t 4)
abbrev hs4 (t : Fin cfg3.N) : (ms4 t).IsWhole := hstage3_4 ((cfg3.slots t 4).cast nbuf3_4)

variable (𝒱₀ : Variants) (V : (c : Dev nD) → (b : Ref sig .tc) → Buf (Elt F) ((c : Thread nD τ).loc b)) (D : Dev nD → CellTallies nD τ sig Ix)

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after point `n`: the products of the row block's column blocks so far, over zero. -/
def acc (c : Dev nD) : (n : ℕ) → n < cfg3.N → Vec F S1024x2048 .f32
  | 0, h => k3_pay2 k3_pay1 (iblk V c 0 ⟨0, h⟩) (iblk V c 1 ⟨0, h⟩)
  | n + 1, h => k3_pay2 (if (n + 1) % 5 = 0 then k3_pay1 else acc c n (Nat.lt_of_succ_lt h)) (iblk V c 0 ⟨n + 1, h⟩) (iblk V c 1 ⟨n + 1, h⟩)

/-- At a first column block the accumulator starts from zero. -/
theorem acc_first (c : Dev nD) (t : Fin cfg3.N) (h0 : t.val % 5 = 0) :
    acc V c t.val t.isLt = k3_pay2 k3_pay1 (iblk V c 0 t) (iblk V c 1 t) := by
  obtain ⟨n, hn⟩ := t
  cases n with
  | zero => rfl
  | succ n => simp only [acc, if_pos h0]

/-- At a later column block it continues from the point before. -/
theorem acc_next (c : Dev nD) (t : Fin cfg3.N) (h0 : ¬t.val % 5 = 0) :
    acc V c t.val t.isLt = k3_pay2 (acc V c (t.val - 1) (by omega)) (iblk V c 0 t) (iblk V c 1 t) := by
  obtain ⟨n, hn⟩ := t
  cases n with
  | zero => exact absurd rfl h0
  | succ n => simp only [acc, if_neg h0]; rfl

/-- What the output's staging buffer holds after point `t`: the combined row block at a last column block; at any other point
    nothing reads it. -/
def outsAt (c : Dev nD) (t : Fin cfg3.N) : Vec F S1024x128 .f32 :=
  if h : ¬cond_first (grid3.coords t) ∧ cond_last (grid3.coords t) then
    outC (Ix := Ix) (U := U) (Lvl := Lvl) 𝒱₀ c (grid3.coords t) (ms0 t) (hs0 t) (ms1 t) (hs1 t) (ms2 t) (hs2 t) (ms3 t) (hs3 t) (ms4 t) (hs4 t) scM (Memref.isWhole_whole _) h.1 h.2 (iblk V c 0 t) (iblk V c 1 t) (iblk V c 2 t) (iblk V c 3 t) (acc V c (t.val - 1) (by omega))
  else VO.read (Elt F) VO.junk

theorem outsAt_last (c : Dev nD) (t : Fin cfg3.N) (h0 : ¬cond_first (grid3.coords t)) (h1 : cond_last (grid3.coords t)) :
    outsAt (Ix := Ix) (U := U) (Lvl := Lvl) 𝒱₀ V c t = outC (Ix := Ix) (U := U) (Lvl := Lvl) 𝒱₀ c (grid3.coords t) (ms0 t) (hs0 t) (ms1 t) (hs1 t) (ms2 t) (hs2 t) (ms3 t) (hs3 t) (ms4 t) (hs4 t) scM (Memref.isWhole_whole _) h0 h1 (iblk V c 0 t) (iblk V c 1 t) (iblk V c 2 t) (iblk V c 3 t) (acc V c (t.val - 1) (by omega)) := by
  unfold outsAt; rw [dif_pos ⟨h0, h1⟩]

/-- The region's invariant before its first point: its scoped buffers but the windows' at anything, the generator register. -/
def ΦK (c : Dev nD) : sProp 𝕄 :=
  iprop(Pipeline.scopedRest (Ix := Ix) (Name := ℕ) (U := U) (Lvl := Lvl) (Val := Elt F) spec3 c ∗ ∃ r, prngReg c r)

/-- The region's other scoped buffers. -/
abbrev but (c : Dev nD) : sProp 𝕄 :=
  Pipeline.scopedRestBut (Ix := Ix) (Name := ℕ) (U := U) (Lvl := Lvl) (Val := Elt F) spec3 c [cc3_scratch0]

theorem ΦK_eq (c : Dev nD) : ΦK (Ix := Ix) (U := U) (Lvl := Lvl) (F := F) c
    = iprop(((∃ d, owns (c : Thread nD τ) scM fullShare d) ∗ but (Ix := Ix) (U := U) (Lvl := Lvl) (F := F) c) ∗ ∃ r, prngReg c r) := by
  unfold ΦK; rw [scopedRest3_split]; simp only [scM, owns_whole]; try rfl

/-- The region's invariant before point `n`: after the first point the accumulator holds `acc`. -/
def PhiS (c : Dev nD) : (n : ℕ) → n ≤ cfg3.N → sProp 𝕄
  | 0, _ => ΦK (Ix := Ix) (U := U) (Lvl := Lvl) (F := F) c
  | n + 1, h => iprop((owns (c : Thread nD τ) scM fullShare (acc V c n h) ∗ but (Ix := Ix) (U := U) (Lvl := Lvl) (F := F) c) ∗ ∃ r, prngReg c r)

theorem PhiS_succ (c : Dev nD) (n : ℕ) (hn : n < cfg3.N) : PhiS (Ix := Ix) (U := U) (Lvl := Lvl) V c (n + 1) hn
    = iprop((owns (c : Thread nD τ) scM fullShare (acc V c n hn) ∗ but (Ix := Ix) (U := U) (Lvl := Lvl) (F := F) c) ∗ ∃ r, prngReg c r) := rfl

theorem PhiS_pos (c : Dev nD) (n : ℕ) (h : n ≤ cfg3.N) (hz : n ≠ 0) : PhiS (Ix := Ix) (U := U) (Lvl := Lvl) V c n h
    = iprop((owns (c : Thread nD τ) scM fullShare (acc V c (n - 1) (by omega)) ∗ but (Ix := Ix) (U := U) (Lvl := Lvl) (F := F) c) ∗ ∃ r, prngReg c r) := by
  obtain ⟨k, rfl⟩ := Nat.exists_eq_succ_of_ne_zero hz; rfl

/-- Whatever the point, the accumulator holds something. -/
theorem PhiS_any (c : Dev nD) (n : ℕ) (h : n ≤ cfg3.N) : PhiS (Ix := Ix) (U := U) (Lvl := Lvl) V c n h
    ⊢ iprop(((∃ d, owns (c : Thread nD τ) scM fullShare d) ∗ but (Ix := Ix) (U := U) (Lvl := Lvl) (F := F) c) ∗ ∃ r, prngReg c r) := by
  by_cases hz : n = 0
  · subst hz
    show ΦK (Ix := Ix) (U := U) (Lvl := Lvl) (F := F) c ⊢ _
    rw [ΦK_eq]
  · rw [PhiS_pos V c n h hz]
    iintro ⟨⟨HS, HB⟩, Hg⟩
    isplitl [HS HB]
    · isplitl [HS]
      · iexists _; iexact HS
      iexact HB
    iexact Hg

/-- The pipeline's proof data on core `c`. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt (Ix := Ix) (U := U) (Lvl := Lvl) 𝒱₀ V c t
  Φ t := PhiS V c t.val (Nat.le_of_lt_succ t.isLt)
  q _ := fullShare
  owed _ := D c

variable (ι : Ix)

local notation "𝕕" => dat (Ix := Ix) (U := U) (Lvl := Lvl) 𝒱₀ V D

theorem A_eq (c : Dev nD) (w : Fin cfg3.W) : (𝕕 c).A w = V c (Pipeline.arrRef spec3 w) := by
  dsimp only [dat]

theorem PhiS_castSucc (c : Dev nD) (t : Fin cfg3.N) : (𝕕 c).Φ t.castSucc = PhiS V c t.val (Nat.le_of_lt t.isLt) := by
  dsimp only [dat]; exact Pipeline.Dat.Φ_castSucc (PhiS V c) t

theorem after_0 (c : Dev nD) (t : Fin cfg3.N) : (𝕕 c).after 0 t = iblk V c 0 t := by dsimp only [dat]
theorem after_1 (c : Dev nD) (t : Fin cfg3.N) : (𝕕 c).after 1 t = iblk V c 1 t := by dsimp only [dat]
theorem after_2 (c : Dev nD) (t : Fin cfg3.N) : (𝕕 c).after 2 t = iblk V c 2 t := by dsimp only [dat]
theorem after_3 (c : Dev nD) (t : Fin cfg3.N) : (𝕕 c).after 3 t = iblk V c 3 t := by dsimp only [dat]
theorem after_4 (c : Dev nD) (t : Fin cfg3.N) : (𝕕 c).after 4 t = outsAt (Ix := Ix) (U := U) (Lvl := Lvl) 𝒱₀ V c t := by dsimp only [dat]

/-! Each input's staging buffer holds its block at every point, fetched there or not. -/
theorem before_0 (c : Dev nD) (t : Fin cfg3.N) (d) : (𝕕 c).before 0 t d = iblk V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (𝕕 c).before 1 t d = iblk V c 1 t :=
  ((𝕕 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (𝕕 c).before 2 t d = iblk V c 2 t :=
  ((𝕕 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (𝕕 c).before 3 t d = iblk V c 3 t :=
  ((𝕕 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, -/
def bodyPre (c : Dev nD) (t : Fin cfg3.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d)))

/-- and what it returns. -/
def bodyPost (c : Dev nD) (t : Fin cfg3.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t)

set_option maxHeartbeats 9600000 in
/-- The body at any point, by the column block the point is at. -/
theorem sound_body (c : Dev nD) (t : Fin cfg3.N) :
    bodyPre (U := U) (Lvl := Lvl) 𝒱₀ V D ι c t ⊢ wp frame (wpE (defs₀ (F := F)) 𝒱₀ c none) Set.univ (bodyAt3 t) (fun _ => bodyPost (U := U) (Lvl := Lvl) 𝒱₀ V D ι c t) := by
  unfold bodyPre bodyPost bodyAt3
  simp only [before_0, before_1, before_2, before_3]
  rw [show (𝕕 c).owesAt ι t.succ = (𝕕 c).owesAt ι t.castSucc from rfl]
  rw [show (𝕕 c).Φ t.succ = PhiS V c (t.val + 1) t.isLt from rfl, PhiS_succ]
  have hN : t.val < 50 := lt_of_lt_of_eq t.isLt (show cfg3.N = 50 from N_3)
  by_cases h0 : t.val % 5 = 0
  · by_cases h1 : t.val % 5 = 4
    · exfalso; omega
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [Dat.leavesExact_idle (𝕕 c) 4 t (idleA t ((hcond_first t).mpr h0) (fun h => h1 ((hcond_last t).mp h))) (noFlushA t ((hcond_first t).mpr h0) (fun h => h1 ((hcond_last t).mp h)))]
      rw [PhiS_castSucc 𝒱₀ V D c t, acc_first V c t h0]
      iintro ⟨HΦ, Ho, ⟨%d0, H0⟩, ⟨%d1, H1⟩, ⟨%d2, H2⟩, ⟨%d3, H3⟩, ⟨%d4, H4⟩⟩
      ihave HΦ' := (PhiS_any V c t.val _) $$ HΦ
      icases HΦ' with ⟨⟨HS, HB⟩, Hg⟩
      iapply (runA (Ix := Ix) (U := U) (Lvl := Lvl) 𝒱₀ c (grid3.coords t) _ _ _ _ _ _ _ _ _ _ _ _ ((hcond_first t).mpr h0) (fun h => h1 ((hcond_last t).mp h)) (iblk V c 0 t) (iblk V c 1 t) (iblk V c 2 t) (iblk V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      iexists _; iexact H4
  · by_cases h1 : t.val % 5 = 4
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [show (𝕕 c).leavesExact 4 t = owns (c : Thread nD τ) (ms4 t) fullShare ((𝕕 c).after 4 t) from by
        unfold Dat.leavesExact; rw [liveC t (fun h => h0 ((hcond_first t).mp h)) ((hcond_last t).mpr h1)], after_4, outsAt_last (Ix := Ix) (U := U) (Lvl := Lvl) 𝒱₀ V c t (fun h => h0 ((hcond_first t).mp h)) ((hcond_last t).mpr h1)]
      unfold outC
      rw [PhiS_castSucc 𝒱₀ V D c t, PhiS_pos V c _ _ (by omega), acc_next V c t h0]
      iintro ⟨⟨⟨HS, HB⟩, Hg⟩, Ho, ⟨%d0, H0⟩, ⟨%d1, H1⟩, ⟨%d2, H2⟩, ⟨%d3, H3⟩, ⟨%d4, H4⟩⟩
      iapply ((runC (Ix := Ix) (U := U) (Lvl := Lvl) 𝒱₀ c (grid3.coords t) _ _ _ _ _ _ _ _ _ _ _ _ (fun h => h0 ((hcond_first t).mp h)) ((hcond_last t).mpr h1) (iblk V c 0 t) (iblk V c 1 t) (iblk V c 2 t) (iblk V c 3 t) (acc V c (t.val - 1) (by omega))).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e, H4⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC (Ix := Ix) (U := U) (Lvl := Lvl) 𝒱₀ c _ _ _ _ _ _ _ _ _ _ _ _ _ _ _ _ _ _ _ _)
    · skip
      rw [show (𝕕 c).leavesExact 0 t = owns (c : Thread nD τ) (ms0 t) fullShare ((𝕕 c).after 0 t) from by
        unfold Dat.leavesExact; rw [liveAt0 t], after_0]
      rw [show (𝕕 c).leavesExact 1 t = owns (c : Thread nD τ) (ms1 t) fullShare ((𝕕 c).after 1 t) from by
        unfold Dat.leavesExact; rw [liveAt1 t], after_1]
      rw [show (𝕕 c).leavesExact 2 t = owns (c : Thread nD τ) (ms2 t) fullShare ((𝕕 c).after 2 t) from by
        unfold Dat.leavesExact; rw [liveAt2 t], after_2]
      rw [show (𝕕 c).leavesExact 3 t = owns (c : Thread nD τ) (ms3 t) fullShare ((𝕕 c).after 3 t) from by
        unfold Dat.leavesExact; rw [liveAt3 t], after_3]
      rw [Dat.leavesExact_idle (𝕕 c) 4 t (idleB t (fun h => h0 ((hcond_first t).mp h)) (fun h => h1 ((hcond_last t).mp h))) (noFlushB t (fun h => h0 ((hcond_first t).mp h)) (fun h => h1 ((hcond_last t).mp h)))]
      rw [PhiS_castSucc 𝒱₀ V D c t, PhiS_pos V c _ _ (by omega), acc_next V c t h0]
      iintro ⟨⟨⟨HS, HB⟩, Hg⟩, Ho, ⟨%d0, H0⟩, ⟨%d1, H1⟩, ⟨%d2, H2⟩, ⟨%d3, H3⟩, ⟨%d4, H4⟩⟩
      iapply (runB (Ix := Ix) (U := U) (Lvl := Lvl) 𝒱₀ c (grid3.coords t) _ _ _ _ _ _ _ _ _ _ _ _ (fun h => h0 ((hcond_first t).mp h)) (fun h => h1 ((hcond_last t).mp h)) (iblk V c 0 t) (iblk V c 1 t) (iblk V c 2 t) (iblk V c 3 t) _ (acc V c (t.val - 1) (by omega)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body. -/
theorem defs₀_row (t : Fin cfg3.N) :
    defs₀ (F := F) .tc cfg3.body (cfg3.bodyArgs t (cfg3.slots t)) = bodyAt3 t := by
  unfold defs₀; rw [Defs.onTc_tc]

/-- The library's body obligation, at every point. -/
theorem body_obligation (c : Dev nD) : BodyObligation (𝕕 c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

/-- The invariant is entered from the region's scoped buffers and the generator register, -/
theorem hin (c : Dev nD) :
    iprop(Pipeline.scopedRest (Ix := Ix) (Name := ℕ) (U := U) (Lvl := Lvl) (Val := Elt F) spec3 c ∗ ∃ r, prngReg c r) ⊢ (𝕕 c).Φ 0 := .rfl

/-- and gives them back, the accumulator's contents forgotten. -/
theorem hout (c : Dev nD) :
    (𝕕 c).Φ (Fin.last cfg3.N) ⊢ iprop(Pipeline.scopedRest (Ix := Ix) (Name := ℕ) (U := U) (Lvl := Lvl) (Val := Elt F) spec3 c ∗ ∃ r, prngReg c r) := by
  show PhiS V c cfg3.N _ ⊢ ΦK (Ix := Ix) (U := U) (Lvl := Lvl) (F := F) c
  rw [ΦK_eq]
  exact PhiS_any V c _ _

end Cert.KernelIdeal.Sweep3

end
-- ==== Proof.KernelIdeal.Launch.lean ====
module

public import proofs.«01_k».proof.Proof.Gen.KernelIdeal.Regions
public import proofs.«01_k».proof.Proof.Gen.Own.KernelIdeal.K0.Frame
public import proofs.«01_k».proof.Proof.KernelIdeal.Body1
public import proofs.«01_k».proof.Proof.KernelIdeal.Body2
public import proofs.«01_k».proof.Proof.KernelIdeal.Body3
public import Idealize.ShloMosaic.Lib.Pipeline.RegionArrays

@[expose] public section

set_option maxRecDepth 16384

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! The whole program: the four kernel regions' records among the host stretches, the contents the regions leave, and the run
    from any memory to every unscoped buffer at the last valuation. No core owes another anything. -/

variable (m : (ℓ : Loc nD τ sig) → Buf (Elt F) ℓ) (outs : Outs (F := F))

/-- The buffers as region 0 finds them. -/
abbrev Ve0 (c : Dev nD) (b : Ref sig .tc) : Buf (Elt F) ((c : Thread nD τ).loc b) := V3 m c (Proc.devRef .tc b)
/-- The buffers as region 1 finds them. -/
abbrev Ve1 (c : Dev nD) (b : Ref sig .tc) : Buf (Elt F) ((c : Thread nD τ).loc b) := V5 m outs c (Proc.devRef .tc b)
/-- The buffers as region 2 finds them. -/
abbrev Ve2 (c : Dev nD) (b : Ref sig .tc) : Buf (Elt F) ((c : Thread nD τ).loc b) := V7 m outs c (Proc.devRef .tc b)
/-- The buffers as region 3 finds them. -/
abbrev Ve3 (c : Dev nD) (b : Ref sig .tc) : Buf (Elt F) ((c : Thread nD τ).loc b) := V9 m outs c (Proc.devRef .tc b)

/-- Every pipeline's proof data at its region's entry contents. -/
def fam : (p : Fin 4) → (c : Dev nD) → Dat τ (Elt F) Unit ℕ (UR sig nD τ) ℕ (cfgs p) c
  | ⟨0, _⟩ => fun c => Own.K0.dat Variants.none (Ve0 m) (fun _ => 0) c
  | ⟨1, _⟩ => fun c => Sweep1.dat Variants.none (Ve1 m outs) (fun _ => 0) c
  | ⟨2, _⟩ => fun c => Sweep2.dat Variants.none (Ve2 m outs) (fun _ => 0) c
  | ⟨3, _⟩ => fun c => Sweep3.dat Variants.none (Ve3 m outs) (fun _ => 0) c

/-- The staging waits' index is assigned on the TensorCores; its level is nothing. -/
abbrev L : GSem nD τ sig → Finset Unit := fun g => if g.1.2 = .tc then {()} else ∅
abbrev lv : GSem nD τ sig → Unit → ℕ := fun _ _ => 0

/-- What rides beside the buffers: the generator register at some state, and nothing owed. -/
abbrev Rest (c : Dev nD) : sProp 𝕄 := iprop((∃ r, prngReg c r) ∗ (∃ W, owes (c : Thread nD τ) (0 : CellTallies nD τ sig Unit) W))

theorem cut (p : Fin 4) : Pipeline.LevelCut (pcfgs (F := F)) adm () L lv p (fun _ => 0) (fun _ => 0) where
  hι _ _ _ := by simp [L]
  hιb _ _ _ := Nat.le_refl _
  hD _ _ _ h := absurd h (lt_irrefl _)

/-! Region 0. -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)
theorem at_main_v23 (c : Dev nD) : V4 m outs c (Proc.devRef .tc main_v23) = outs 4 main_v23 c := by
  simp only [V4, Function.update_self]
/-- Across region 0 every held buffer but its arrays keeps its contents. -/
theorem rest0_eq (c : Dev nD) : ∀ b ∈ (Pipeline.ucRefs τ sig) \ Pipeline.arrRefs (τ := τ) spec0, V4 m outs c b = V3 m c b := fun b hb => by
  have hn : b ∉ Pipeline.arrRefs (τ := τ) spec0 := (Finset.mem_sdiff.mp hb).2
  have h : b ≠ Proc.devRef .tc main_v23 := by rintro rfl; exact hn (arr0_mem 4)
  simp only [V4, Function.update_of_ne h]

set_option backward.isDefEq.respectTransparency.types false in
set_option maxHeartbeats 2000000 in
/-- Region 0's record: its arrays held at the valuation before it and left at the one after. -/
def R0 (hout : ∀ c : Dev nD, outs 4 main_v23 c = (fam m outs 0 c).arrAt 4 cfg0.N) :
    RegionSeg (pcfgs (F := F)) adm (fam m outs) () defs₀ Variants.none L lv 0 :=
  Pipeline.RegionSeg.ofHeld (pcfgs (F := F)) adm (fam m outs) () defs₀ Variants.none L lv 0 (fun _ => 0)
    (fun c => iprop(∃ r, prngReg c r)) (fun c => iprop(∃ r, prngReg c r))
    launch0.toP rfl
    (fun c => (Own.K0.body_obligation (U := UR sig nD τ) (Lvl := ℕ) Variants.none (Ve0 m) (fun _ => 0) () c).loose) (fun _ _ => rfl) (fun _ => rfl)
    (fun c => (fam m outs 0 c).share_full fun _ => rfl) (fun _ => .rfl) (fun _ => .rfl) (fun _ => 0) (cut 0)
    (fun c => iprop(StableHlo.held (c : Thread nD τ) ((Pipeline.ucRefs τ sig) \ Pipeline.arrRefs (τ := τ) spec0) (V3 m c) ∗ BI.emp))
    (V3 m) (V4 m outs) (fun _ _ => rfl)
    (fun c => fun | 0 => ((fam m outs 0 c).arrAt_in 0 rfl _).trans ((Own.K0.A_eq (U := UR sig nD τ) (Lvl := ℕ) Variants.none (Ve0 m) (fun _ => 0) c 0).trans (V4_of m outs c (Pipeline.arrRef spec0 0) (by decide)).symm) | 1 => ((fam m outs 0 c).arrAt_in 1 rfl _).trans ((Own.K0.A_eq (U := UR sig nD τ) (Lvl := ℕ) Variants.none (Ve0 m) (fun _ => 0) c 1).trans (V4_of m outs c (Pipeline.arrRef spec0 1) (by decide)).symm) | 2 => ((fam m outs 0 c).arrAt_in 2 rfl _).trans ((Own.K0.A_eq (U := UR sig nD τ) (Lvl := ℕ) Variants.none (Ve0 m) (fun _ => 0) c 2).trans (V4_of m outs c (Pipeline.arrRef spec0 2) (by decide)).symm) | 3 => ((fam m outs 0 c).arrAt_in 3 rfl _).trans ((Own.K0.A_eq (U := UR sig nD τ) (Lvl := ℕ) Variants.none (Ve0 m) (fun _ => 0) c 3).trans (V4_of m outs c (Pipeline.arrRef spec0 3) (by decide)).symm) | 4 => (hout c).symm.trans (at_main_v23 m outs c).symm | ⟨_ + 5, h⟩ => absurd h (Nat.not_lt.2 (Nat.le_add_left _ _)))

theorem hpre0 (hout : ∀ c : Dev nD, outs 4 main_v23 c = (fam m outs 0 c).arrAt 4 cfg0.N) (c : Dev nD) :
    iprop(StableHlo.held (c : Thread nD τ) (Pipeline.ucRefs τ sig) (V3 m c) ∗ Rest c) ⊢ (R0 m outs hout).pre c := by
  show _ ⊢ iprop(StableHlo.held (c : Thread nD τ) (Pipeline.arrRefs (τ := τ) spec0) (V3 m c) ∗ (∃ r, prngReg c r)
    ∗ (StableHlo.held (c : Thread nD τ) ((Pipeline.ucRefs τ sig) \ Pipeline.arrRefs (τ := τ) spec0) (V3 m c) ∗ BI.emp) ∗ ∃ W, owes (c : Thread nD τ) (0 : CellTallies nD τ sig Unit) W)
  rw [StableHlo.held_sub_split (c : Thread nD τ) arr0_S (V3 m c)]
  iintro ⟨⟨Ha, Hr⟩, Hp, HO⟩
  isplitl [Ha]; · iexact Ha
  isplitl [Hp]; · iexact Hp
  isplitl [Hr]
  · isplitl [Hr]; · iexact Hr
    iempintro
  iexact HO

theorem hpost0 (hout : ∀ c : Dev nD, outs 4 main_v23 c = (fam m outs 0 c).arrAt 4 cfg0.N) (c : Dev nD) :
    (R0 m outs hout).post c ⊢ iprop(StableHlo.held (c : Thread nD τ) (Pipeline.ucRefs τ sig) (V4 m outs c) ∗ Rest c) := by
  show iprop(StableHlo.held (c : Thread nD τ) (Pipeline.arrRefs (τ := τ) spec0) (V4 m outs c) ∗ (∃ r, prngReg c r)
    ∗ (StableHlo.held (c : Thread nD τ) ((Pipeline.ucRefs τ sig) \ Pipeline.arrRefs (τ := τ) spec0) (V3 m c) ∗ BI.emp) ∗ ∃ W, owes (c : Thread nD τ) (0 : CellTallies nD τ sig Unit) W) ⊢ _
  rw [StableHlo.held_sub_split (c : Thread nD τ) arr0_S (V4 m outs c),
    StableHlo.held_congr (c : Thread nD τ) (S := (Pipeline.ucRefs τ sig) \ Pipeline.arrRefs (τ := τ) spec0) (rest0_eq m outs c)]
  iintro ⟨Ha, Hp, ⟨Hr, -⟩, HO⟩
  isplitl [Ha Hr]; · isplitl [Ha] <;> iassumption
  isplitl [Hp]; · iexact Hp
  iexact HO

/-! Region 1. -/

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)
theorem at_main_v27 (c : Dev nD) : V6 m outs c (Proc.devRef .tc main_v27) = outs 6 main_v27 c := by
  simp only [V6, Function.update_self]
/-- Across region 1 every held buffer but its arrays keeps its contents. -/
theorem rest1_eq (c : Dev nD) : ∀ b ∈ (Pipeline.ucRefs τ sig) \ Pipeline.arrRefs (τ := τ) spec1, V6 m outs c b = V5 m outs c b := fun b hb => by
  have hn : b ∉ Pipeline.arrRefs (τ := τ) spec1 := (Finset.mem_sdiff.mp hb).2
  have h : b ≠ Proc.devRef .tc main_v27 := by rintro rfl; exact hn (arr1_mem 8)
  simp only [V6, Function.update_of_ne h]

set_option backward.isDefEq.respectTransparency.types false in
set_option maxHeartbeats 2000000 in
/-- Region 1's record: its arrays held at the valuation before it and left at the one after. -/
def R1 (hout : ∀ c : Dev nD, outs 6 main_v27 c = (fam m outs 1 c).arrAt 8 cfg1.N) :
    RegionSeg (pcfgs (F := F)) adm (fam m outs) () defs₀ Variants.none L lv 1 :=
  Pipeline.RegionSeg.ofHeld (pcfgs (F := F)) adm (fam m outs) () defs₀ Variants.none L lv 1 (fun _ => 0)
    (fun c => iprop(∃ r, prngReg c r)) (fun c => iprop(∃ r, prngReg c r))
    launch1.toP rfl
    (fun c => (Sweep1.body_obligation (U := UR sig nD τ) (Lvl := ℕ) Variants.none (Ve1 m outs) (fun _ => 0) () c).loose) (fun _ _ => rfl) (fun _ => rfl)
    (fun c => (fam m outs 1 c).share_full fun _ => rfl) (fun c => Sweep1.hin Variants.none (Ve1 m outs) (fun _ => 0) c) (fun c => Sweep1.hout Variants.none (Ve1 m outs) (fun _ => 0) c) (fun _ => 0) (cut 1)
    (fun c => iprop(StableHlo.held (c : Thread nD τ) ((Pipeline.ucRefs τ sig) \ Pipeline.arrRefs (τ := τ) spec1) (V5 m outs c) ∗ BI.emp))
    (V5 m outs) (V6 m outs) (fun _ _ => rfl)
    (fun c => fun | 0 => ((fam m outs 1 c).arrAt_in 0 rfl _).trans ((Sweep1.A_eq (U := UR sig nD τ) (Lvl := ℕ) Variants.none (Ve1 m outs) (fun _ => 0) c 0).trans (V6_of m outs c (Pipeline.arrRef spec1 0) (by decide)).symm) | 1 => ((fam m outs 1 c).arrAt_in 1 rfl _).trans ((Sweep1.A_eq (U := UR sig nD τ) (Lvl := ℕ) Variants.none (Ve1 m outs) (fun _ => 0) c 1).trans (V6_of m outs c (Pipeline.arrRef spec1 1) (by decide)).symm) | 2 => ((fam m outs 1 c).arrAt_in 2 rfl _).trans ((Sweep1.A_eq (U := UR sig nD τ) (Lvl := ℕ) Variants.none (Ve1 m outs) (fun _ => 0) c 2).trans (V6_of m outs c (Pipeline.arrRef spec1 2) (by decide)).symm) | 3 => ((fam m outs 1 c).arrAt_in 3 rfl _).trans ((Sweep1.A_eq (U := UR sig nD τ) (Lvl := ℕ) Variants.none (Ve1 m outs) (fun _ => 0) c 3).trans (V6_of m outs c (Pipeline.arrRef spec1 3) (by decide)).symm) | 4 => ((fam m outs 1 c).arrAt_in 4 rfl _).trans ((Sweep1.A_eq (U := UR sig nD τ) (Lvl := ℕ) Variants.none (Ve1 m outs) (fun _ => 0) c 4).trans (V6_of m outs c (Pipeline.arrRef spec1 4) (by decide)).symm) | 5 => ((fam m outs 1 c).arrAt_in 5 rfl _).trans ((Sweep1.A_eq (U := UR sig nD τ) (Lvl := ℕ) Variants.none (Ve1 m outs) (fun _ => 0) c 5).trans (V6_of m outs c (Pipeline.arrRef spec1 5) (by decide)).symm) | 6 => ((fam m outs 1 c).arrAt_in 6 rfl _).trans ((Sweep1.A_eq (U := UR sig nD τ) (Lvl := ℕ) Variants.none (Ve1 m outs) (fun _ => 0) c 6).trans (V6_of m outs c (Pipeline.arrRef spec1 6) (by decide)).symm) | 7 => ((fam m outs 1 c).arrAt_in 7 rfl _).trans ((Sweep1.A_eq (U := UR sig nD τ) (Lvl := ℕ) Variants.none (Ve1 m outs) (fun _ => 0) c 7).trans (V6_of m outs c (Pipeline.arrRef spec1 7) (by decide)).symm) | 8 => (hout c).symm.trans (at_main_v27 m outs c).symm | ⟨_ + 9, h⟩ => absurd h (Nat.not_lt.2 (Nat.le_add_left _ _)))

theorem hpre1 (hout : ∀ c : Dev nD, outs 6 main_v27 c = (fam m outs 1 c).arrAt 8 cfg1.N) (c : Dev nD) :
    iprop(StableHlo.held (c : Thread nD τ) (Pipeline.ucRefs τ sig) (V5 m outs c) ∗ Rest c) ⊢ (R1 m outs hout).pre c := by
  show _ ⊢ iprop(StableHlo.held (c : Thread nD τ) (Pipeline.arrRefs (τ := τ) spec1) (V5 m outs c) ∗ (∃ r, prngReg c r)
    ∗ (StableHlo.held (c : Thread nD τ) ((Pipeline.ucRefs τ sig) \ Pipeline.arrRefs (τ := τ) spec1) (V5 m outs c) ∗ BI.emp) ∗ ∃ W, owes (c : Thread nD τ) (0 : CellTallies nD τ sig Unit) W)
  rw [StableHlo.held_sub_split (c : Thread nD τ) arr1_S (V5 m outs c)]
  iintro ⟨⟨Ha, Hr⟩, Hp, HO⟩
  isplitl [Ha]; · iexact Ha
  isplitl [Hp]; · iexact Hp
  isplitl [Hr]
  · isplitl [Hr]; · iexact Hr
    iempintro
  iexact HO

theorem hpost1 (hout : ∀ c : Dev nD, outs 6 main_v27 c = (fam m outs 1 c).arrAt 8 cfg1.N) (c : Dev nD) :
    (R1 m outs hout).post c ⊢ iprop(StableHlo.held (c : Thread nD τ) (Pipeline.ucRefs τ sig) (V6 m outs c) ∗ Rest c) := by
  show iprop(StableHlo.held (c : Thread nD τ) (Pipeline.arrRefs (τ := τ) spec1) (V6 m outs c) ∗ (∃ r, prngReg c r)
    ∗ (StableHlo.held (c : Thread nD τ) ((Pipeline.ucRefs τ sig) \ Pipeline.arrRefs (τ := τ) spec1) (V5 m outs c) ∗ BI.emp) ∗ ∃ W, owes (c : Thread nD τ) (0 : CellTallies nD τ sig Unit) W) ⊢ _
  rw [StableHlo.held_sub_split (c : Thread nD τ) arr1_S (V6 m outs c),
    StableHlo.held_congr (c : Thread nD τ) (S := (Pipeline.ucRefs τ sig) \ Pipeline.arrRefs (τ := τ) spec1) (rest1_eq m outs c)]
  iintro ⟨Ha, Hp, ⟨Hr, -⟩, HO⟩
  isplitl [Ha Hr]; · isplitl [Ha] <;> iassumption
  isplitl [Hp]; · iexact Hp
  iexact HO

/-! Region 2. -/

theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem arr2_S : Pipeline.arrRefs (τ := τ) spec2 ⊆ Pipeline.ucRefs τ sig :=
  Pipeline.arrRefs_sub_ucRefs spec2 (by decide)
theorem at_main_v31 (c : Dev nD) : V8 m outs c (Proc.devRef .tc main_v31) = outs 8 main_v31 c := by
  simp only [V8, Function.update_self]
/-- Across region 2 every held buffer but its arrays keeps its contents. -/
theorem rest2_eq (c : Dev nD) : ∀ b ∈ (Pipeline.ucRefs τ sig) \ Pipeline.arrRefs (τ := τ) spec2, V8 m outs c b = V7 m outs c b := fun b hb => by
  have hn : b ∉ Pipeline.arrRefs (τ := τ) spec2 := (Finset.mem_sdiff.mp hb).2
  have h : b ≠ Proc.devRef .tc main_v31 := by rintro rfl; exact hn (arr2_mem 8)
  simp only [V8, Function.update_of_ne h]

set_option backward.isDefEq.respectTransparency.types false in
set_option maxHeartbeats 2000000 in
/-- Region 2's record: its arrays held at the valuation before it and left at the one after. -/
def R2 (hout : ∀ c : Dev nD, outs 8 main_v31 c = (fam m outs 2 c).arrAt 8 cfg2.N) :
    RegionSeg (pcfgs (F := F)) adm (fam m outs) () defs₀ Variants.none L lv 2 :=
  Pipeline.RegionSeg.ofHeld (pcfgs (F := F)) adm (fam m outs) () defs₀ Variants.none L lv 2 (fun _ => 0)
    (fun c => iprop(∃ r, prngReg c r)) (fun c => iprop(∃ r, prngReg c r))
    launch2.toP rfl
    (fun c => (Sweep2.body_obligation (U := UR sig nD τ) (Lvl := ℕ) Variants.none (Ve2 m outs) (fun _ => 0) () c).loose) (fun _ _ => rfl) (fun _ => rfl)
    (fun c => (fam m outs 2 c).share_full fun _ => rfl) (fun c => Sweep2.hin Variants.none (Ve2 m outs) (fun _ => 0) c) (fun c => Sweep2.hout Variants.none (Ve2 m outs) (fun _ => 0) c) (fun _ => 0) (cut 2)
    (fun c => iprop(StableHlo.held (c : Thread nD τ) ((Pipeline.ucRefs τ sig) \ Pipeline.arrRefs (τ := τ) spec2) (V7 m outs c) ∗ BI.emp))
    (V7 m outs) (V8 m outs) (fun _ _ => rfl)
    (fun c => fun | 0 => ((fam m outs 2 c).arrAt_in 0 rfl _).trans ((Sweep2.A_eq (U := UR sig nD τ) (Lvl := ℕ) Variants.none (Ve2 m outs) (fun _ => 0) c 0).trans (V8_of m outs c (Pipeline.arrRef spec2 0) (by decide)).symm) | 1 => ((fam m outs 2 c).arrAt_in 1 rfl _).trans ((Sweep2.A_eq (U := UR sig nD τ) (Lvl := ℕ) Variants.none (Ve2 m outs) (fun _ => 0) c 1).trans (V8_of m outs c (Pipeline.arrRef spec2 1) (by decide)).symm) | 2 => ((fam m outs 2 c).arrAt_in 2 rfl _).trans ((Sweep2.A_eq (U := UR sig nD τ) (Lvl := ℕ) Variants.none (Ve2 m outs) (fun _ => 0) c 2).trans (V8_of m outs c (Pipeline.arrRef spec2 2) (by decide)).symm) | 3 => ((fam m outs 2 c).arrAt_in 3 rfl _).trans ((Sweep2.A_eq (U := UR sig nD τ) (Lvl := ℕ) Variants.none (Ve2 m outs) (fun _ => 0) c 3).trans (V8_of m outs c (Pipeline.arrRef spec2 3) (by decide)).symm) | 4 => ((fam m outs 2 c).arrAt_in 4 rfl _).trans ((Sweep2.A_eq (U := UR sig nD τ) (Lvl := ℕ) Variants.none (Ve2 m outs) (fun _ => 0) c 4).trans (V8_of m outs c (Pipeline.arrRef spec2 4) (by decide)).symm) | 5 => ((fam m outs 2 c).arrAt_in 5 rfl _).trans ((Sweep2.A_eq (U := UR sig nD τ) (Lvl := ℕ) Variants.none (Ve2 m outs) (fun _ => 0) c 5).trans (V8_of m outs c (Pipeline.arrRef spec2 5) (by decide)).symm) | 6 => ((fam m outs 2 c).arrAt_in 6 rfl _).trans ((Sweep2.A_eq (U := UR sig nD τ) (Lvl := ℕ) Variants.none (Ve2 m outs) (fun _ => 0) c 6).trans (V8_of m outs c (Pipeline.arrRef spec2 6) (by decide)).symm) | 7 => ((fam m outs 2 c).arrAt_in 7 rfl _).trans ((Sweep2.A_eq (U := UR sig nD τ) (Lvl := ℕ) Variants.none (Ve2 m outs) (fun _ => 0) c 7).trans (V8_of m outs c (Pipeline.arrRef spec2 7) (by decide)).symm) | 8 => (hout c).symm.trans (at_main_v31 m outs c).symm | ⟨_ + 9, h⟩ => absurd h (Nat.not_lt.2 (Nat.le_add_left _ _)))

theorem hpre2 (hout : ∀ c : Dev nD, outs 8 main_v31 c = (fam m outs 2 c).arrAt 8 cfg2.N) (c : Dev nD) :
    iprop(StableHlo.held (c : Thread nD τ) (Pipeline.ucRefs τ sig) (V7 m outs c) ∗ Rest c) ⊢ (R2 m outs hout).pre c := by
  show _ ⊢ iprop(StableHlo.held (c : Thread nD τ) (Pipeline.arrRefs (τ := τ) spec2) (V7 m outs c) ∗ (∃ r, prngReg c r)
    ∗ (StableHlo.held (c : Thread nD τ) ((Pipeline.ucRefs τ sig) \ Pipeline.arrRefs (τ := τ) spec2) (V7 m outs c) ∗ BI.emp) ∗ ∃ W, owes (c : Thread nD τ) (0 : CellTallies nD τ sig Unit) W)
  rw [StableHlo.held_sub_split (c : Thread nD τ) arr2_S (V7 m outs c)]
  iintro ⟨⟨Ha, Hr⟩, Hp, HO⟩
  isplitl [Ha]; · iexact Ha
  isplitl [Hp]; · iexact Hp
  isplitl [Hr]
  · isplitl [Hr]; · iexact Hr
    iempintro
  iexact HO

theorem hpost2 (hout : ∀ c : Dev nD, outs 8 main_v31 c = (fam m outs 2 c).arrAt 8 cfg2.N) (c : Dev nD) :
    (R2 m outs hout).post c ⊢ iprop(StableHlo.held (c : Thread nD τ) (Pipeline.ucRefs τ sig) (V8 m outs c) ∗ Rest c) := by
  show iprop(StableHlo.held (c : Thread nD τ) (Pipeline.arrRefs (τ := τ) spec2) (V8 m outs c) ∗ (∃ r, prngReg c r)
    ∗ (StableHlo.held (c : Thread nD τ) ((Pipeline.ucRefs τ sig) \ Pipeline.arrRefs (τ := τ) spec2) (V7 m outs c) ∗ BI.emp) ∗ ∃ W, owes (c : Thread nD τ) (0 : CellTallies nD τ sig Unit) W) ⊢ _
  rw [StableHlo.held_sub_split (c : Thread nD τ) arr2_S (V8 m outs c),
    StableHlo.held_congr (c : Thread nD τ) (S := (Pipeline.ucRefs τ sig) \ Pipeline.arrRefs (τ := τ) spec2) (rest2_eq m outs c)]
  iintro ⟨Ha, Hp, ⟨Hr, -⟩, HO⟩
  isplitl [Ha Hr]; · isplitl [Ha] <;> iassumption
  isplitl [Hp]; · iexact Hp
  iexact HO

/-! Region 3. -/

theorem arr3_mem (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem arr3_S : Pipeline.arrRefs (τ := τ) spec3 ⊆ Pipeline.ucRefs τ sig :=
  Pipeline.arrRefs_sub_ucRefs spec3 (by decide)
theorem at_main_v33 (c : Dev nD) : V10 m outs c (Proc.devRef .tc main_v33) = outs 10 main_v33 c := by
  simp only [V10, Function.update_self]
/-- Across region 3 every held buffer but its arrays keeps its contents. -/
theorem rest3_eq (c : Dev nD) : ∀ b ∈ (Pipeline.ucRefs τ sig) \ Pipeline.arrRefs (τ := τ) spec3, V10 m outs c b = V9 m outs c b := fun b hb => by
  have hn : b ∉ Pipeline.arrRefs (τ := τ) spec3 := (Finset.mem_sdiff.mp hb).2
  have h : b ≠ Proc.devRef .tc main_v33 := by rintro rfl; exact hn (arr3_mem 4)
  simp only [V10, Function.update_of_ne h]

set_option backward.isDefEq.respectTransparency.types false in
set_option maxHeartbeats 2000000 in
/-- Region 3's record: its arrays held at the valuation before it and left at the one after. -/
def R3 (hout : ∀ c : Dev nD, outs 10 main_v33 c = (fam m outs 3 c).arrAt 4 cfg3.N) :
    RegionSeg (pcfgs (F := F)) adm (fam m outs) () defs₀ Variants.none L lv 3 :=
  Pipeline.RegionSeg.ofHeld (pcfgs (F := F)) adm (fam m outs) () defs₀ Variants.none L lv 3 (fun _ => 0)
    (fun c => iprop(∃ r, prngReg c r)) (fun c => iprop(∃ r, prngReg c r))
    launch3.toP rfl
    (fun c => (Sweep3.body_obligation (U := UR sig nD τ) (Lvl := ℕ) Variants.none (Ve3 m outs) (fun _ => 0) () c).loose) (fun _ _ => rfl) (fun _ => rfl)
    (fun c => (fam m outs 3 c).share_full fun _ => rfl) (fun c => Sweep3.hin Variants.none (Ve3 m outs) (fun _ => 0) c) (fun c => Sweep3.hout Variants.none (Ve3 m outs) (fun _ => 0) c) (fun _ => 0) (cut 3)
    (fun c => iprop(StableHlo.held (c : Thread nD τ) ((Pipeline.ucRefs τ sig) \ Pipeline.arrRefs (τ := τ) spec3) (V9 m outs c) ∗ BI.emp))
    (V9 m outs) (V10 m outs) (fun _ _ => rfl)
    (fun c => fun | 0 => ((fam m outs 3 c).arrAt_in 0 rfl _).trans ((Sweep3.A_eq (U := UR sig nD τ) (Lvl := ℕ) Variants.none (Ve3 m outs) (fun _ => 0) c 0).trans (V10_of m outs c (Pipeline.arrRef spec3 0) (by decide)).symm) | 1 => ((fam m outs 3 c).arrAt_in 1 rfl _).trans ((Sweep3.A_eq (U := UR sig nD τ) (Lvl := ℕ) Variants.none (Ve3 m outs) (fun _ => 0) c 1).trans (V10_of m outs c (Pipeline.arrRef spec3 1) (by decide)).symm) | 2 => ((fam m outs 3 c).arrAt_in 2 rfl _).trans ((Sweep3.A_eq (U := UR sig nD τ) (Lvl := ℕ) Variants.none (Ve3 m outs) (fun _ => 0) c 2).trans (V10_of m outs c (Pipeline.arrRef spec3 2) (by decide)).symm) | 3 => ((fam m outs 3 c).arrAt_in 3 rfl _).trans ((Sweep3.A_eq (U := UR sig nD τ) (Lvl := ℕ) Variants.none (Ve3 m outs) (fun _ => 0) c 3).trans (V10_of m outs c (Pipeline.arrRef spec3 3) (by decide)).symm) | 4 => (hout c).symm.trans (at_main_v33 m outs c).symm | ⟨_ + 5, h⟩ => absurd h (Nat.not_lt.2 (Nat.le_add_left _ _)))

theorem hpre3 (hout : ∀ c : Dev nD, outs 10 main_v33 c = (fam m outs 3 c).arrAt 4 cfg3.N) (c : Dev nD) :
    iprop(StableHlo.held (c : Thread nD τ) (Pipeline.ucRefs τ sig) (V9 m outs c) ∗ Rest c) ⊢ (R3 m outs hout).pre c := by
  show _ ⊢ iprop(StableHlo.held (c : Thread nD τ) (Pipeline.arrRefs (τ := τ) spec3) (V9 m outs c) ∗ (∃ r, prngReg c r)
    ∗ (StableHlo.held (c : Thread nD τ) ((Pipeline.ucRefs τ sig) \ Pipeline.arrRefs (τ := τ) spec3) (V9 m outs c) ∗ BI.emp) ∗ ∃ W, owes (c : Thread nD τ) (0 : CellTallies nD τ sig Unit) W)
  rw [StableHlo.held_sub_split (c : Thread nD τ) arr3_S (V9 m outs c)]
  iintro ⟨⟨Ha, Hr⟩, Hp, HO⟩
  isplitl [Ha]; · iexact Ha
  isplitl [Hp]; · iexact Hp
  isplitl [Hr]
  · isplitl [Hr]; · iexact Hr
    iempintro
  iexact HO

theorem hpost3 (hout : ∀ c : Dev nD, outs 10 main_v33 c = (fam m outs 3 c).arrAt 4 cfg3.N) (c : Dev nD) :
    (R3 m outs hout).post c ⊢ iprop(StableHlo.held (c : Thread nD τ) (Pipeline.ucRefs τ sig) (V10 m outs c) ∗ Rest c) := by
  show iprop(StableHlo.held (c : Thread nD τ) (Pipeline.arrRefs (τ := τ) spec3) (V10 m outs c) ∗ (∃ r, prngReg c r)
    ∗ (StableHlo.held (c : Thread nD τ) ((Pipeline.ucRefs τ sig) \ Pipeline.arrRefs (τ := τ) spec3) (V9 m outs c) ∗ BI.emp) ∗ ∃ W, owes (c : Thread nD τ) (0 : CellTallies nD τ sig Unit) W) ⊢ _
  rw [StableHlo.held_sub_split (c : Thread nD τ) arr3_S (V10 m outs c),
    StableHlo.held_congr (c : Thread nD τ) (S := (Pipeline.ucRefs τ sig) \ Pipeline.arrRefs (τ := τ) spec3) (rest3_eq m outs c)]
  iintro ⟨Ha, Hp, ⟨Hr, -⟩, HO⟩
  isplitl [Ha Hr]; · isplitl [Ha] <;> iassumption
  isplitl [Hp]; · iexact Hp
  iexact HO

/-! The contents the regions leave, one region after the other. -/

/-- No region has run. -/
def outs0 : Outs (F := F) := fun _ r c => m ((c : Thread nD τ).loc r)
/-- Region 0's output as its pipeline leaves it, from the contents the regions before it left. -/
def outs1 : Outs (F := F) := fun n => Function.update (outs0 m n) main_v23 (fun c => (fam m (outs0 m) 0 c).arrAt 4 cfg0.N)
/-- Region 1's output as its pipeline leaves it, from the contents the regions before it left. -/
def outs2 : Outs (F := F) := fun n => Function.update (outs1 m n) main_v27 (fun c => (fam m (outs1 m) 1 c).arrAt 8 cfg1.N)
/-- Region 2's output as its pipeline leaves it, from the contents the regions before it left. -/
def outs3 : Outs (F := F) := fun n => Function.update (outs2 m n) main_v31 (fun c => (fam m (outs2 m) 2 c).arrAt 8 cfg2.N)
/-- Region 3's output as its pipeline leaves it, from the contents the regions before it left. -/
def outs4 : Outs (F := F) := fun n => Function.update (outs3 m n) main_v33 (fun c => (fam m (outs3 m) 3 c).arrAt 4 cfg3.N)

variable {outs} in
/-- The valuation a region is entered with reads only what the regions before it left. -/
theorem V4_congr {outs' : Outs (F := F)} (h : outs 4 main_v23 = outs' 4 main_v23) : V4 m outs = V4 m outs' := by
  funext c; simp only [V4, h]
variable {outs} in
theorem V6_congr {outs' : Outs (F := F)} (h : outs 4 main_v23 = outs' 4 main_v23) (h' : outs 6 main_v27 = outs' 6 main_v27) : V6 m outs = V6 m outs' := by
  funext c; unfold V6 V5; rw [V4_congr m h, h']
variable {outs} in
theorem V8_congr {outs' : Outs (F := F)} (h : outs 4 main_v23 = outs' 4 main_v23) (h' : outs 6 main_v27 = outs' 6 main_v27)
    (h'' : outs 8 main_v31 = outs' 8 main_v31) : V8 m outs = V8 m outs' := by
  funext c; unfold V8 V7; rw [V6_congr m h h', h'']

theorem ne_a : main_v23 ≠ main_v27 := by decide
theorem ne_b : main_v23 ≠ main_v31 := by decide
theorem ne_c : main_v23 ≠ main_v33 := by decide
theorem ne_d : main_v27 ≠ main_v31 := by decide
theorem ne_e : main_v27 ≠ main_v33 := by decide
theorem ne_f : main_v31 ≠ main_v33 := by decide

theorem hout0 (c : Dev nD) : outs4 m 4 main_v23 c = (fam m (outs4 m) 0 c).arrAt 4 cfg0.N := by
  simp only [outs4, outs3, outs2, outs1, Function.update_of_ne ne_a, Function.update_of_ne ne_b, Function.update_of_ne ne_c, Function.update_self]
  rfl
theorem hout1 (c : Dev nD) : outs4 m 6 main_v27 c = (fam m (outs4 m) 1 c).arrAt 8 cfg1.N := by
  have e : Ve1 m (outs4 m) = Ve1 m (outs1 m) := by
    funext c b
    simp only [Ve1, V5]
    rw [V4_congr m (outs := outs4 m) (outs' := outs1 m) (by
      simp only [outs4, outs3, outs2, Function.update_of_ne ne_a, Function.update_of_ne ne_b, Function.update_of_ne ne_c])]
  show _ = (Sweep1.dat Variants.none (Ve1 m (outs4 m)) (fun _ => 0) c).arrAt 8 cfg1.N
  rw [e]
  simp only [outs4, outs3, outs2, Function.update_of_ne ne_d, Function.update_of_ne ne_e, Function.update_self]
  rfl
theorem hout2 (c : Dev nD) : outs4 m 8 main_v31 c = (fam m (outs4 m) 2 c).arrAt 8 cfg2.N := by
  have e : Ve2 m (outs4 m) = Ve2 m (outs2 m) := by
    funext c b
    simp only [Ve2, V7]
    rw [V6_congr m (outs := outs4 m) (outs' := outs2 m)
      (by simp only [outs4, outs3, Function.update_of_ne ne_b, Function.update_of_ne ne_c])
      (by simp only [outs4, outs3, Function.update_of_ne ne_d, Function.update_of_ne ne_e])]
  show _ = (Sweep2.dat Variants.none (Ve2 m (outs4 m)) (fun _ => 0) c).arrAt 8 cfg2.N
  rw [e]
  simp only [outs4, outs3, Function.update_of_ne ne_f, Function.update_self]
  rfl
theorem hout3 (c : Dev nD) : outs4 m 10 main_v33 c = (fam m (outs4 m) 3 c).arrAt 4 cfg3.N := by
  have e : Ve3 m (outs4 m) = Ve3 m (outs3 m) := by
    funext c b
    simp only [Ve3, V9]
    rw [V8_congr m (outs := outs4 m) (outs' := outs3 m)
      (by simp only [outs4, Function.update_of_ne ne_c])
      (by simp only [outs4, Function.update_of_ne ne_e])
      (by simp only [outs4, Function.update_of_ne ne_f])]
  show _ = (Sweep3.dat Variants.none (Ve3 m (outs4 m)) (fun _ => 0) c).arrAt 4 cfg3.N
  rw [e]
  simp only [outs4, Function.update_self]
  rfl

/-! The run. -/

set_option backward.isDefEq.respectTransparency.types false in
set_option maxHeartbeats 1000000 in
/-- From any memory with zero counters the program runs, and ends with every unscoped buffer at the last valuation and every
    semaphore counter at zero. -/
theorem run (ρ : Dev nD → PrngReg) :
    θ_run defs (onTc (τ := τ) (main (F := F))) ⟨m, fun _ => 0, ρ⟩
      (fun r => (∀ c : Dev nD, ∀ b ∈ Pipeline.ucRefs τ sig, r.2.mem (((c : Thread nD τ)).1, b) = V12 m (outs4 m) c b) ∧ r.2.sem = fun _ => 0) := by
  refine Pipeline.θ_run_regions_kit_dev_sems (pcfgs (F := F)) adm (fam m (outs4 m)) () cellOf_inj emb₁ defs₀ Variants.none L lv m ρ main
    (segs m (outs4 m) Variants.none L lv (fun _ => Rest) () (fam m (outs4 m)) (R0 m (outs4 m) (hout0 m)) (R1 m (outs4 m) (hout1 m)) (R2 m (outs4 m) (hout2 m)) (R3 m (outs4 m) (hout3 m)))
    (fun c Q => by
      rewrite [main_chain c, Seg.run_eq_chain,
        show (segs m (outs4 m) Variants.none L lv (fun _ => Rest) () (fam m (outs4 m)) (R0 m (outs4 m) (hout0 m)) (R1 m (outs4 m) (hout1 m)) (R2 m (outs4 m) (hout2 m)) (R3 m (outs4 m) (hout3 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      dsimp (config := { failIfUnchanged := false }) only
      exact .rfl)
    (fun c => by simp only [segs, Seg.pipes_host, Seg.pipes_region, Seg.pipes_nil]; decide)
    (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (V12 m (outs4 m) c)))
    (hch := fun c => ⟨.rfl, .rfl, .rfl, hpre0 m (outs4 m) (hout0 m) c, hpost0 m (outs4 m) (hout0 m) c, hpre1 m (outs4 m) (hout1 m) c, hpost1 m (outs4 m) (hout1 m) c,
      hpre2 m (outs4 m) (hout2 m) c, hpost2 m (outs4 m) (hout2 m) c, hpre3 m (outs4 m) (hout3 m) c, hpost3 m (outs4 m) (hout3 m) c, .rfl, ?_⟩)
    (hinit := by
      refine Pipeline.initEach L lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs4 m) c b)
    (hfin := fun c s' => by
      iintro ⟨Hh, HSI⟩
      unfold StableHlo.held
      imodintro
      iapply (pointsTo_read_all (Pipeline.ucRefs τ sig) (fun b => (((c : Thread nD τ)).1, b)) (V12 m (outs4 m) c) s')
      isplitl [Hh] <;> iassumption)
    (hQ := fun _ h hz => ⟨h, funext fun g => hz g (.inr (regions_no_unscoped g.2))⟩)
  · show iprop(StableHlo.held (c : Thread nD τ) (Pipeline.ucRefs τ sig) (V12 m (outs4 m) c) ∗ (∃ r, prngReg c r) ∗ (∃ W, owes (c : Thread nD τ) (0 : CellTallies nD τ sig Unit) W)) ⊢ _
    iintro ⟨Hh, -, HO⟩
    isplitl [Hh]; · iexact Hh
    iexact HO

/-- Every argument ends as it began. -/
theorem args_kept {s : MemSt nD τ sig (Elt F)} {c : Dev nD}
    (hr : ∀ b ∈ Pipeline.ucRefs τ sig, s.mem (((c : Thread nD τ)).1, b) = V12 m (outs4 m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16) :=
  ⟨(hr (Proc.devRef .tc main_arg0) (Finset.mem_filter.mpr ⟨StableHlo.devRef_mem_tcRefs main_arg0, by decide⟩)).trans (V12_main_arg0 m (outs4 m) c),
   (hr (Proc.devRef .tc main_arg1) (Finset.mem_filter.mpr ⟨StableHlo.devRef_mem_tcRefs main_arg1, by decide⟩)).trans (V12_main_arg1 m (outs4 m) c),
   (hr (Proc.devRef .tc main_arg2) (Finset.mem_filter.mpr ⟨StableHlo.devRef_mem_tcRefs main_arg2, by decide⟩)).trans (V12_main_arg2 m (outs4 m) c),
   (hr (Proc.devRef .tc main_arg3) (Finset.mem_filter.mpr ⟨StableHlo.devRef_mem_tcRefs main_arg3, by decide⟩)).trans (V12_main_arg3 m (outs4 m) c),
   (hr (Proc.devRef .tc main_arg4) (Finset.mem_filter.mpr ⟨StableHlo.devRef_mem_tcRefs main_arg4, by decide⟩)).trans (V12_main_arg4 m (outs4 m) c),
   (hr (Proc.devRef .tc main_arg5) (Finset.mem_filter.mpr ⟨StableHlo.devRef_mem_tcRefs main_arg5, by decide⟩)).trans (V12_main_arg5 m (outs4 m) c),
   (hr (Proc.devRef .tc main_arg6) (Finset.mem_filter.mpr ⟨StableHlo.devRef_mem_tcRefs main_arg6, by decide⟩)).trans (V12_main_arg6 m (outs4 m) c),
   (hr (Proc.devRef .tc main_arg7) (Finset.mem_filter.mpr ⟨StableHlo.devRef_mem_tcRefs main_arg7, by decide⟩)).trans (V12_main_arg7 m (outs4 m) c),
   (hr (Proc.devRef .tc main_arg8) (Finset.mem_filter.mpr ⟨StableHlo.devRef_mem_tcRefs main_arg8, by decide⟩)).trans (V12_main_arg8 m (outs4 m) c),
   (hr (Proc.devRef .tc main_arg9) (Finset.mem_filter.mpr ⟨StableHlo.devRef_mem_tcRefs main_arg9, by decide⟩)).trans (V12_main_arg9 m (outs4 m) c),
   (hr (Proc.devRef .tc main_arg10) (Finset.mem_filter.mpr ⟨StableHlo.devRef_mem_tcRefs main_arg10, by decide⟩)).trans (V12_main_arg10 m (outs4 m) c),
   (hr (Proc.devRef .tc main_arg11) (Finset.mem_filter.mpr ⟨StableHlo.devRef_mem_tcRefs main_arg11, by decide⟩)).trans (V12_main_arg11 m (outs4 m) c),
   (hr (Proc.devRef .tc main_arg12) (Finset.mem_filter.mpr ⟨StableHlo.devRef_mem_tcRefs main_arg12, by decide⟩)).trans (V12_main_arg12 m (outs4 m) c),
   (hr (Proc.devRef .tc main_arg13) (Finset.mem_filter.mpr ⟨StableHlo.devRef_mem_tcRefs main_arg13, by decide⟩)).trans (V12_main_arg13 m (outs4 m) c),
   (hr (Proc.devRef .tc main_arg14) (Finset.mem_filter.mpr ⟨StableHlo.devRef_mem_tcRefs main_arg14, by decide⟩)).trans (V12_main_arg14 m (outs4 m) c),
   (hr (Proc.devRef .tc main_arg15) (Finset.mem_filter.mpr ⟨StableHlo.devRef_mem_tcRefs main_arg15, by decide⟩)).trans (V12_main_arg15 m (outs4 m) c),
   (hr (Proc.devRef .tc main_arg16) (Finset.mem_filter.mpr ⟨StableHlo.devRef_mem_tcRefs main_arg16, by decide⟩)).trans (V12_main_arg16 m (outs4 m) c)⟩

/-- The frame: the program runs, its arguments end unchanged and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => args_kept m (h.1 c), h.2⟩) (run m ρ)

/-- The run with its result: the result buffer ends at the last valuation's contents, the arguments unchanged. -/
theorem result (ρ : Dev nD → PrngReg) :
    θ_run defs (onTc (τ := τ) (main (F := F))) ⟨m, fun _ => 0, ρ⟩ (fun r => ∀ c : Dev nD,
      r.2.mem ((c.tc : Thread nD τ).loc main_v35) = V12 m (outs4 m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨h.1 c (Proc.devRef .tc main_v35) (Finset.mem_filter.mpr ⟨StableHlo.devRef_mem_tcRefs main_v35, by decide⟩), args_kept m (h.1 c)⟩) (run m ρ)

end Cert.KernelIdeal.Launch

end
-- ==== Proof.Spec.Powers.lean ====
module

public import Idealize.ShloMosaic.Lib.Pointwise
public import Mathlib.Analysis.SpecialFunctions.Pow.Real

/-!
Powers on the extended reals: the kernel raises `x` to the power `y` as `exp (y * log x)`, and this module says when
that is `x ^ y`; the sigmoid and its complement lie in the unit interval.
-/

@[expose] public section

namespace Cert.Spec

open Idealize.ShloMosaic

/-- The exponential is nonnegative. -/
theorem exp_nonneg (x : EReal) : 0 ≤ Ideal.exp x := by
  induction x with
  | bot => exact le_rfl
  | top => exact le_top
  | coe r => exact EReal.coe_nonneg.2 (Real.exp_pos r).le

/-- For a positive base, the exponential of the exponent times the logarithm is the power. -/
theorem exp_mul_log_of_pos {x : EReal} (hx : 0 < x) (y : EReal) : Ideal.exp (y * Ideal.log x) = Ideal.pow x y := by
  induction x with
  | bot => exact absurd hx (by simp)
  | top =>
    show Ideal.exp (y * ⊤) = if 0 < y then ⊤ else if y = 0 then 1 else 0
    rcases lt_trichotomy y 0 with h | h | h
    · rw [EReal.mul_top_of_neg h, if_neg (not_lt.2 h.le), if_neg h.ne]; rfl
    · subst h; rw [zero_mul, if_neg (lt_irrefl _), if_pos rfl]
      show ((Real.exp 0 : ℝ) : EReal) = 1
      rw [Real.exp_zero]; rfl
    · rw [EReal.mul_top_of_pos h, if_pos h]; rfl
  | coe r =>
    have hr : 0 < r := by exact_mod_cast hx
    have hlog : Ideal.log (r : EReal) = (Real.log r : EReal) := if_neg (not_le.2 hr)
    rw [hlog]
    induction y with
    | bot =>
      show _ = if r < 0 then ⊥ else if 1 < r then 0 else if r = 1 then 1 else ⊤
      rw [if_neg (not_lt.2 hr.le)]
      rcases lt_trichotomy r 1 with h | h | h
      · rw [EReal.bot_mul_coe_of_neg (Real.log_neg hr h), if_neg (not_lt.2 h.le), if_neg h.ne]; rfl
      · subst h; rw [Real.log_one, EReal.coe_zero, mul_zero, if_neg (lt_irrefl _), if_pos rfl]
        show ((Real.exp 0 : ℝ) : EReal) = 1
        rw [Real.exp_zero]; rfl
      · rw [EReal.bot_mul_coe_of_pos (Real.log_pos h), if_pos h]; rfl
    | top =>
      show _ = if r < 0 then ⊥ else if 1 < r then ⊤ else if r = 1 then 1 else 0
      rw [if_neg (not_lt.2 hr.le)]
      rcases lt_trichotomy r 1 with h | h | h
      · rw [EReal.top_mul_coe_of_neg (Real.log_neg hr h), if_neg (not_lt.2 h.le), if_neg h.ne]; rfl
      · subst h; rw [Real.log_one, EReal.coe_zero, mul_zero, if_neg (lt_irrefl _), if_pos rfl]
        show ((Real.exp 0 : ℝ) : EReal) = 1
        rw [Real.exp_zero]; rfl
      · rw [EReal.top_mul_coe_of_pos (Real.log_pos h), if_pos h]; rfl
    | coe s =>
      show Ideal.exp ((s : EReal) * (Real.log r : EReal)) = ((Real.rpow r s : ℝ) : EReal)
      rw [← EReal.coe_mul]
      show ((Real.exp (s * Real.log r) : ℝ) : EReal) = _
      rw [mul_comm]
      exact congrArg _ (Real.rpow_def_of_pos hr s).symm

/-- For the base zero, the exponential of the exponent times the logarithm is the power when the exponent is not negative. -/
theorem exp_mul_log_zero {y : EReal} (hy : 0 ≤ y) : Ideal.exp (y * Ideal.log 0) = Ideal.pow 0 y := by
  have hlog : Ideal.log 0 = ⊥ := if_pos (le_refl (0 : ℝ))
  rw [hlog]
  induction y with
  | bot => exact absurd hy (by simp)
  | top =>
    rw [EReal.mul_bot_of_pos EReal.zero_lt_top]
    show (0 : EReal) = if (0 : ℝ) < 0 then ⊥ else if (1 : ℝ) < 0 then ⊤ else if (0 : ℝ) = 1 then 1 else 0
    norm_num
  | coe s =>
    have hs : 0 ≤ s := by exact_mod_cast hy
    show _ = ((Real.rpow 0 s : ℝ) : EReal)
    rcases hs.lt_or_eq with h | h
    · rw [EReal.coe_mul_bot_of_pos h]
      have : Real.rpow 0 s = 0 := Real.zero_rpow h.ne'
      rw [this]; rfl
    · subst h
      have : Real.rpow 0 0 = 1 := Real.rpow_zero 0
      rw [this, EReal.coe_zero, zero_mul]
      show ((Real.exp 0 : ℝ) : EReal) = _
      rw [Real.exp_zero]

/-- For a base that is not negative and an exponent that is not negative, the exponential of the exponent times the
    logarithm is the power. -/
theorem exp_mul_log {x y : EReal} (hx : 0 ≤ x) (hy : 0 ≤ y) : Ideal.exp (y * Ideal.log x) = Ideal.pow x y := by
  rcases hx.lt_or_eq with h | h
  · exact exp_mul_log_of_pos h y
  · subst h; exact exp_mul_log_zero hy

/-- The sigmoid as the kernel writes it. -/
noncomputable def sigm (h : EReal) : EReal := Ideal.div 1 (1 + Ideal.exp (0 - h))

/-- The sigmoid is a real number of the unit interval. -/
theorem sigm_coe (h : EReal) : ∃ r : ℝ, sigm h = (r : EReal) ∧ 0 ≤ r ∧ r ≤ 1 := by
  have key : ∀ e : EReal, 0 ≤ e → ∃ r : ℝ, Ideal.div 1 (1 + e) = (r : EReal) ∧ 0 ≤ r ∧ r ≤ 1 := by
    intro e he
    induction e with
    | bot => exact absurd he (by simp)
    | top =>
      refine ⟨0, ?_, le_rfl, zero_le_one⟩
      have h1 : (1 : EReal) + ⊤ = ⊤ := rfl
      rw [h1]
      show (if (⊤ : EReal) = 0 then _ else (1 : EReal) * (⊤ : EReal)⁻¹) = _
      rw [if_neg EReal.zero_lt_top.ne', EReal.inv_top, mul_zero]; rfl
    | coe r =>
      have hr : 0 ≤ r := by exact_mod_cast he
      have h1 : (1 : EReal) + (r : EReal) = ((1 + r : ℝ) : EReal) := by rw [EReal.coe_add]; rfl
      have hp : 0 < 1 + r := by linarith
      refine ⟨(1 + r)⁻¹, ?_, by positivity, inv_le_one_of_one_le₀ (by linarith)⟩
      rw [h1]
      show (if ((1 + r : ℝ) : EReal) = 0 then _ else (1 : EReal) * ((1 + r : ℝ) : EReal)⁻¹) = _
      rw [if_neg (by exact_mod_cast hp.ne'), one_mul, ← EReal.coe_inv]
  exact key _ (exp_nonneg _)

/-- The sigmoid is not negative. -/
theorem sigm_nonneg (h : EReal) : 0 ≤ sigm h := by
  obtain ⟨r, e, h0, _⟩ := sigm_coe h
  rw [e]; exact_mod_cast h0

/-- The sigmoid's complement is not negative. -/
theorem one_sub_sigm_nonneg (h : EReal) : 0 ≤ 1 - sigm h := by
  obtain ⟨r, e, _, h1⟩ := sigm_coe h
  rw [e]
  have : (1 : EReal) - (r : EReal) = ((1 - r : ℝ) : EReal) := by rw [EReal.coe_sub]; rfl
  rw [this]; exact_mod_cast sub_nonneg.2 h1

/-- A power of a base that is not negative is not negative. -/
theorem pow_nonneg {x : EReal} (hx : 0 ≤ x) {y : EReal} (hy : 0 ≤ y) : 0 ≤ Ideal.pow x y := by
  rw [← exp_mul_log hx hy]; exact exp_nonneg _

end Cert.Spec

end
-- ==== Proof.Spec.Blocks.lean ====
module

public import proofs.«01_k».proof.Proof.Spec.Powers
public import Idealize.ShloMosaic.Lib.Pipeline.Value

/-!
The arrays of powers: sixteen groups of 128 columns side by side, one for each of the four aggregators and each of the
four powers of a neighbour's value.
-/

@[expose] public section

namespace Cert.Spec

open Idealize.ShloMosaic

/-- The column of aggregator `j`, power `p` and feature `t` in an array of powers. -/
def col (j p : Fin 4) (t : Fin 128) : Fin 2048 := ⟨(j.val * 4 + p.val) * 128 + t.val, by omega⟩

/-- Every column of an array of powers is some aggregator's, power's and feature's. -/
theorem exists_col (q : Fin 2048) : ∃ j p t, q = col j p t := by
  refine ⟨⟨q.val / 512, by omega⟩, ⟨q.val / 128 % 4, by omega⟩, ⟨q.val % 128, by omega⟩, Fin.ext ?_⟩
  simp only [col]; omega

/-- The power numbered `p` of aggregator `j`, with exponents `L`, of a neighbour's value `z`: of `z` itself for the even
    numbers and of `1 - z` for the odd ones, written with logarithm and exponential. -/
noncomputable def kpow (L : Fin 4 → Fin 12 → EReal) (z : EReal) (j p : Fin 4) : EReal :=
  Ideal.exp (L j (![1, 3, 5, 7] p) * Ideal.log (![z, 1 - z, z, 1 - z] p))

/-- A power written with logarithm and exponential is not negative. -/
theorem kpow_nonneg (L : Fin 4 → Fin 12 → EReal) (z : EReal) (j p : Fin 4) : 0 ≤ kpow L z j p := exp_nonneg _

/-- The piece at a column's place is its aggregator's and power's: `4 j + p`. -/
def pieceNo (j p : Fin 4) : Fin 16 := ⟨j.val * 4 + p.val, by omega⟩

/-- Sixteen arrays of 128 columns side by side, read at a column: the array of the column's aggregator and power, at the
    column's feature. -/
theorem concat_col {α : Type} {M : ℕ} (f : Fin 16 → ((⟨2, ![M, 128]⟩ : Shape).Idx → α))
    (h : Shape.Concatenates ((List.ofFn fun n : Fin 16 => (⟨⟨2, ![M, 128]⟩, f n⟩ : (s : Shape) × (s.Idx → α))).map (·.1)) ⟨2, ![M, 2048]⟩ 1)
    (r : Fin M) (j p : Fin 4) (t : Fin 128) :
    concatenate (⟨2, ![M, 2048]⟩ : Shape) 1 (List.ofFn fun n : Fin 16 => (⟨⟨2, ![M, 128]⟩, f n⟩ : (s : Shape) × (s.Idx → α))) h (ix2 r (col j p t))
      = f (pieceNo j p) (ix2 r t) := by
  have ht := t.isLt
  refine concatenate_ofFn_apply (s₁ := ⟨2, ![M, 128]⟩) (t := ⟨2, ![M, 2048]⟩) 1 f h rfl 128 rfl (ix2 r (col j p t)) (pieceNo j p) ?_ (ix2 r t) ?_ ?_
  · show ((j.val * 4 + p.val) * 128 + t.val) / 128 = j.val * 4 + p.val
    omega
  · show t.val = ((j.val * 4 + p.val) * 128 + t.val) % 128
    omega
  · intro b hb
    match b, hb with
    | ⟨0, _⟩, _ => rfl
    | ⟨1, _⟩, hb => exact absurd rfl hb

/-- The small positive constant `f32(1e-7)`. -/
noncomputable abbrev eps : EReal := Ideal.ofBits .f32 0x33D6BF95#32

/-- Aggregator `j`'s quotient for one node and feature, with parameters `L`, from its four sums `s`, written with logarithm
    and exponential. -/
noncomputable def kterm (L : Fin 4 → Fin 12 → EReal) (s : Fin 4 → Fin 4 → EReal) (j : Fin 4) : EReal :=
  Ideal.div
    (L j 8 * Ideal.exp (L j 0 * Ideal.log (s j 0 + eps)) + L j 9 * Ideal.exp (L j 2 * Ideal.log (s j 1 + eps)))
    (L j 10 * Ideal.exp (L j 4 * Ideal.log (s j 2 + eps)) + L j 11 * Ideal.exp (L j 6 * Ideal.log (s j 3 + eps)) + eps)

/-- The mean of the four aggregators' quotients, as a sum times a quarter. -/
noncomputable def kmean (L : Fin 4 → Fin 12 → EReal) (s : Fin 4 → Fin 4 → EReal) : EReal :=
  (kterm L s 0 + kterm L s 1 + kterm L s 2 + kterm L s 3) * Ideal.ofBits .f32 0x3E800000#32

end Cert.Spec

end
-- ==== Proof.Spec.Network.lean ====
module

public import proofs.«01_k».proof.Proof.Spec.Blocks
public import Idealize.ShloMosaic.Lib.IdealHost

/-!
One layer of the network: the kernel's form (a matrix of edge counts times the powers, powers as exponentials of
logarithms, a mean by a quarter) equals the reference's (a sum over the edges, powers, a division by four).
-/

@[expose] public noncomputable section

namespace Cert.Spec

open Idealize.ShloMosaic

/-- The reference's power of a message, per head and fraction term. -/
def rpow (L : Fin 4 → Fin 12 → EReal) (z : EReal) (j : Fin 4) (p : Fin 4) : EReal :=
  Ideal.pow ((![z, 1 - z, z, 1 - z] : Fin 4 → EReal) p) (L j ((![1, 3, 5, 7] : Fin 4 → Fin 12) p))

/-- The reference's fraction for one head. -/
def rterm (L : Fin 4 → Fin 12 → EReal) (s : Fin 4 → Fin 4 → EReal) (j : Fin 4) : EReal :=
  Ideal.div (L j 8 * Ideal.pow (s j 0 + eps) (L j 0) + L j 9 * Ideal.pow (s j 1 + eps) (L j 2))
    (L j 10 * Ideal.pow (s j 2 + eps) (L j 4) + L j 11 * Ideal.pow (s j 3 + eps) (L j 6) + eps)

/-- The reference's mean over the heads. -/
def rmean (L : Fin 4 → Fin 12 → EReal) (s : Fin 4 → Fin 4 → EReal) : EReal :=
  Ideal.div (∑ j : Fin 4, rterm L s j) (Ideal.ofBits .f32 0x40800000#32)

theorem eps_pos : 0 < eps := by
  have h : eps = ((14073749 / 140737488355328 : ℝ) : EReal) := by
    simp [Ideal.ofBits, Ideal.ieee, -EReal.coe_mul]; norm_num
  rw [h]
  exact EReal.coe_pos.2 (by norm_num)

theorem quarter (x : EReal) : x * Ideal.ofBits .f32 0x3E800000#32 = Ideal.div x (Ideal.ofBits .f32 0x40800000#32) := by
  have h4 : Ideal.ofBits .f32 0x40800000#32 = ((4 : ℝ) : EReal) := by
    simp [Ideal.ofBits, Ideal.ieee, -EReal.coe_mul]; norm_num
  have hq : Ideal.ofBits .f32 0x3E800000#32 = ((1 / 4 : ℝ) : EReal) := by
    simp [Ideal.ofBits, Ideal.ieee, -EReal.coe_mul]; norm_num
  have h0 : ((4 : ℝ) : EReal) ≠ 0 := by
    rw [← EReal.coe_zero, Ne, EReal.coe_eq_coe_iff]; norm_num
  rw [h4, hq, Ideal.div, if_neg h0, ← EReal.coe_inv]
  norm_num

/-- With nonnegative sums the two fractions agree. -/
theorem kterm_eq (L : Fin 4 → Fin 12 → EReal) (s : Fin 4 → Fin 4 → EReal) (hs : ∀ j p, 0 ≤ s j p) (j : Fin 4) :
    kterm L s j = rterm L s j := by
  have h : ∀ p y, Ideal.exp (y * Ideal.log (s j p + eps)) = Ideal.pow (s j p + eps) y := fun p y =>
    exp_mul_log_of_pos (lt_of_lt_of_le eps_pos (le_add_of_nonneg_left (hs j p))) y
  unfold kterm rterm
  rw [h, h, h, h]

/-- With nonnegative sums the two means agree. -/
theorem kmean_eq (L : Fin 4 → Fin 12 → EReal) (s : Fin 4 → Fin 4 → EReal) (hs : ∀ j p, 0 ≤ s j p) :
    kmean L s = rmean L s := by
  unfold kmean rmean
  rw [quarter, Fin.sum_univ_four, kterm_eq L s hs, kterm_eq L s hs, kterm_eq L s hs, kterm_eq L s hs]

/-- A message in the unit interval: nonnegative, and so is one minus it. -/
def Unit01 (z : EReal) : Prop := 0 ≤ z ∧ 0 ≤ 1 - z

/-- With nonnegative exponents the two powers of a message agree. -/
theorem kpow_eq (L : Fin 4 → Fin 12 → EReal) (hL : ∀ j p, 0 ≤ L j ((![1, 3, 5, 7] : Fin 4 → Fin 12) p)) (z : EReal)
    (hz : Unit01 z) (j p : Fin 4) : kpow L z j p = rpow L z j p := by
  unfold kpow rpow
  refine exp_mul_log ?_ (hL j p)
  fin_cases p
  · exact hz.1
  · exact hz.2
  · exact hz.1
  · exact hz.2

/-- The count of edges from node `s` to node `i`. -/
def edges {E N M : Nat} (src dst : Fin E → Fin N) (i s : Fin M) : EReal :=
  0 + ∑ e ∈ Finset.univ.filter (fun e : Fin E => (dst e).val = i.val ∧ (src e).val = s.val), (1 : EReal)

/-- A sum of ones times a factor is the sum of the factor. -/
theorem ones_mul {ι : Type} (S : Finset ι) (c : EReal) : (∑ _e ∈ S, (1 : EReal)) * c = ∑ _e ∈ S, c := by
  classical
  induction S using Finset.induction_on with
  | empty => simp
  | insert a S ha ih =>
    rw [Finset.sum_insert ha, Finset.sum_insert ha,
      EReal.right_distrib_of_nonneg zero_le_one (Finset.sum_nonneg fun _ _ => zero_le_one), ih, one_mul]

/-- The matrix of edge counts times a column is the sum of the column over the edges into the node. -/
theorem edges_mul {E N M : Nat} (src dst : Fin E → Fin N) (h : N ≤ M) (i : Fin M) (P : Fin M → EReal) :
    ∑ s : Fin M, edges src dst i s * P s
      = ∑ e ∈ Finset.univ.filter (fun e : Fin E => (dst e).val = i.val), P ((src e).castLE h) := by
  classical
  have h1 : ∀ s : Fin M, edges src dst i s * P s
      = ∑ e ∈ (Finset.univ.filter (fun e : Fin E => (dst e).val = i.val)).filter (fun e => (src e).castLE h = s),
          P ((src e).castLE h) := fun s => by
    unfold edges
    rw [zero_add, ones_mul, Finset.filter_filter]
    refine Finset.sum_congr (Finset.filter_congr fun e _ => ?_) fun e he => ?_
    · simp [Fin.ext_iff]
    · have := (Finset.mem_filter.1 he).2.2
      rw [this]
  rw [Finset.sum_congr rfl fun s _ => h1 s]
  exact Finset.sum_fiberwise _ _ _

/-- What a node gathers from its neighbours in one feature, in the reference's form. -/
def gathered {E N : Nat} (src dst : Fin E → Fin N) (L : Fin 4 → Fin 12 → EReal) (Z : Fin N → EReal) (i : Nat) : EReal :=
  rmean L fun j p => ∑ e ∈ Finset.univ.filter (fun e : Fin E => (dst e).val = i), rpow L (Z (src e)) j p

/-- A first layer: a product with the weights, a bias, the sigmoid. -/
def firstLayer {N K U : Nat} (X : Fin N → Fin K → EReal) (W : Fin K → Fin U → EReal) (b : Fin U → EReal)
    (n : Fin N) (u : Fin U) : EReal := sigm ((∑ k, X n k * W k u) + b u)

/-- A later layer: gather from the neighbours, add the bias, normalise, clip below at zero, a product with the weights,
the sigmoid. -/
def nextLayer {E N K U : Nat} (src dst : Fin E → Fin N) (L : Fin 4 → Fin 12 → EReal) (b g c : Fin K → EReal)
    (W : Fin K → Fin U → EReal) (Z : Fin N → Fin K → EReal) (n : Fin N) (u : Fin U) : EReal :=
  sigm (∑ k, max ((gathered src dst L (fun m => Z m k) n.val + b k) * Ideal.ofBits .f32 0x3F7FFFAC#32 * g k + c k) 0 * W k u)

/-- The network's value at node `n`: a first layer, two gathering layers, a last gather with its bias. -/
def network {E N K : Nat} (src dst : Fin E → Fin N) (X : Fin N → Fin K → EReal) (W0 W1 W2 : Fin K → Fin K → EReal)
    (b0 : Fin K → EReal) (L0 L1 L2 : Fin 4 → Fin 12 → EReal) (c0 c1 c2 g0 e0 g1 e1 : Fin K → EReal)
    (n : Fin N) (t : Fin K) : EReal :=
  gathered src dst L2 (fun m => nextLayer src dst L1 c1 g1 e1 W2 (nextLayer src dst L0 c0 g0 e0 W1 (firstLayer X W0 b0)) m t)
    n.val + c2 t

/-- One layer: the kernel's mean over the edge-count products is what the reference gathers. -/
theorem layer_eq {E N M : Nat} (src dst : Fin E → Fin N) (h : N ≤ M) (L : Fin 4 → Fin 12 → EReal)
    (hL : ∀ j p, 0 ≤ L j ((![1, 3, 5, 7] : Fin 4 → Fin 12) p)) (Z : Fin N → EReal) (hZ : ∀ n, Unit01 (Z n))
    (P : Fin 4 → Fin 4 → Fin M → EReal) (hP : ∀ j p (n : Fin N), P j p (n.castLE h) = kpow L (Z n) j p) (i : Fin M) :
    kmean L (fun j p => ∑ s : Fin M, edges src dst i s * P j p s) = gathered src dst L Z i.val := by
  have e1 : (fun j p => ∑ s : Fin M, edges src dst i s * P j p s)
      = fun j p => ∑ e ∈ Finset.univ.filter (fun e : Fin E => (dst e).val = i.val), kpow L (Z (src e)) j p := by
    funext j p
    rw [edges_mul src dst h]
    exact Finset.sum_congr rfl fun e _ => hP j p _
  rw [e1, kmean_eq]
  · unfold gathered
    congr 1
    funext j p
    exact Finset.sum_congr rfl fun e _ => kpow_eq L hL _ (hZ _) j p
  · intro j p
    exact Finset.sum_nonneg fun e _ => kpow_nonneg L _ j p

/-- A sigmoid is in the unit interval. -/
theorem unit01_sigm (h : EReal) : Unit01 (sigm h) := ⟨sigm_nonneg h, one_sub_sigm_nonneg h⟩

/-- The normalisation's two orders of multiplication agree. -/
theorem norm_eq (h c g : EReal) : h * (g * c) = h * c * g := by
  rw [mul_comm g c, mul_assoc]

end Cert.Spec
-- ==== Proof.Spec.Scatter.lean ====
module

public import Idealize.ShloMosaic.Lib.Routing.OpsPair
public import Idealize.ShloMosaic.Lib.IdealHost

/-!
Where the updates of the two accumulating scatters land, and the sums they leave.
-/

@[expose] public noncomputable section

namespace Cert.Spec

open Idealize.ShloMosaic Idealize.ShloMosaic.ValueIdx

/-- An update of the edge matrix's scatter lands at the row and the column its two index words name. -/
theorem lands_pair {R C n w : Nat} (d : ScatterDims ⟨2, ![R, C]⟩ ⟨2, ![n, 2]⟩ ⟨1, ![n]⟩)
    (hu : d.updateWindowDims = []) (hi : d.insertedWindowDims = [0, 1])
    (hs : d.scatterDimsToOperandDims = [0, 1]) (hv : d.indexVectorDim = 1)
    (idx : IVec ⟨2, ![n, 2]⟩ w) (e : Fin n) (r : Fin R) (c : Fin C) :
    d.resultIdx? (ix1 e) idx = some (ix2 r c)
      ↔ (idx (ix2 e (0 : Fin 2))).toInt = r.val ∧ (idx (ix2 e (1 : Fin 2))).toInt = c.val := by
  obtain ⟨uw, iw, sd, iv, wf⟩ := d
  dsimp only at hu hi hs hv
  subst hu hi hs hv
  set d : ScatterDims ⟨2, ![R, C]⟩ ⟨2, ![n, 2]⟩ ⟨1, ![n]⟩ := ⟨[], [0, 1], [0, 1], 1, wf⟩ with hd
  have w0 : d.window (ix1 e) 0 = 0 := dif_neg (by show ¬ (0 : Fin 2) ∈ ([] : List (Fin 2)); simp)
  have w1 : d.window (ix1 e) 1 = 0 := dif_neg (by show ¬ (1 : Fin 2) ∈ ([] : List (Fin 2)); simp)
  have s0 : d.start (ix1 e) idx 0 = (idx (ix2 e (0 : Fin 2))).toInt := by
    refine (dif_pos (show (0 : Fin 2) ∈ [(0 : Fin 2), 1] by simp)).trans (congrArg (fun y => (idx y).toInt) ?_)
    funext b
    match b with
    | ⟨0, _⟩ => rfl
    | ⟨1, _⟩ => rfl
  have s1 : d.start (ix1 e) idx 1 = (idx (ix2 e (1 : Fin 2))).toInt := by
    refine (dif_pos (show (1 : Fin 2) ∈ [(0 : Fin 2), 1] by simp)).trans (congrArg (fun y => (idx y).toInt) ?_)
    funext b
    match b with
    | ⟨0, _⟩ => rfl
    | ⟨1, _⟩ => rfl
  rw [Routing.resultIdx?_ix2, s0, s1, w0, w1]
  simp

/-- The edge matrix's scatter leaves, at a row and a column, the operand's element plus the sum of the updates whose
    index words name them. -/
theorem scatter_pair {R C n w : Nat} (d : ScatterDims ⟨2, ![R, C]⟩ ⟨2, ![n, 2]⟩ ⟨1, ![n]⟩)
    (hu : d.updateWindowDims = []) (hi : d.insertedWindowDims = [0, 1])
    (hs : d.scatterDimsToOperandDims = [0, 1]) (hv : d.indexVectorDim = 1)
    (x : FVec Ideal ⟨2, ![R, C]⟩ .f32) (idx : IVec ⟨2, ![n, 2]⟩ w) (upd : FVec Ideal ⟨1, ![n]⟩ .f32) (r : Fin R) (c : Fin C) :
    (Host.scatterAdd (F := Ideal) d x idx upd (ix2 r c) : EReal)
      = x (ix2 r c) + ∑ e ∈ Finset.univ.filter (fun e : Fin n => (idx (ix2 e (0 : Fin 2))).toInt = r.val
          ∧ (idx (ix2 e (1 : Fin 2))).toInt = c.val), (upd (ix1 e) : EReal) := by
  show x (ix2 r c) + ∑ j ∈ Finset.univ.filter (fun j => d.resultIdx? j idx = some (ix2 r c)), upd j = _
  congr 1
  refine Finset.sum_bij' (fun j _ => (j 0 : Fin n)) (fun e _ => ix1 e) ?_ ?_ ?_ ?_ ?_
  · intro j hj
    have h := (Finset.mem_filter.1 hj).2
    rw [eq_ix1 j] at h
    exact Finset.mem_filter.2 ⟨Finset.mem_univ _, (lands_pair d hu hi hs hv idx _ r c).1 h⟩
  · intro e he
    exact Finset.mem_filter.2 ⟨Finset.mem_univ _, (lands_pair d hu hi hs hv idx e r c).2 (Finset.mem_filter.1 he).2⟩
  · intro j _; exact (eq_ix1 j).symm
  · intro e _; rfl
  · intro j _; exact congrArg upd (eq_ix1 j)

/-- An update of the neighbours' sum lands in the row its index word names, at its own two window coordinates. -/
theorem lands_row {N A B n w : Nat} (d : ScatterDims ⟨3, ![N, A, B]⟩ ⟨2, ![n, 1]⟩ ⟨3, ![n, A, B]⟩)
    (hu : d.updateWindowDims = [1, 2]) (hi : d.insertedWindowDims = [0])
    (hs : d.scatterDimsToOperandDims = [0]) (hv : d.indexVectorDim = 1)
    (idx : IVec ⟨2, ![n, 1]⟩ w) (e : Fin n) (a a' : Fin A) (b b' : Fin B) (i : Fin N) :
    d.resultIdx? (ix3 e a b) idx = some (ix3 i a' b')
      ↔ (idx (ix2 e (0 : Fin 1))).toInt = i.val ∧ a = a' ∧ b = b' := by
  obtain ⟨uw, iw, sd, iv, wf⟩ := d
  dsimp only at hu hi hs hv
  subst hu hi hs hv
  set d : ScatterDims ⟨3, ![N, A, B]⟩ ⟨2, ![n, 1]⟩ ⟨3, ![n, A, B]⟩ := ⟨[1, 2], [0], [0], 1, wf⟩ with hd
  have w0 : d.window (ix3 e a b) 0 = 0 := dif_neg (by show ¬ (0 : Fin 3) ∈ ([1, 2] : List (Fin 3)); decide)
  have w1 : d.window (ix3 e a b) 1 = a.val := (dif_pos (show (1 : Fin 3) ∈ ([1, 2] : List (Fin 3)) by decide)).trans rfl
  have w2 : d.window (ix3 e a b) 2 = b.val := (dif_pos (show (2 : Fin 3) ∈ ([1, 2] : List (Fin 3)) by decide)).trans rfl
  have s0 : d.start (ix3 e a b) idx 0 = (idx (ix2 e (0 : Fin 1))).toInt := by
    refine (dif_pos (show (0 : Fin 3) ∈ [(0 : Fin 3)] by simp)).trans (congrArg (fun y => (idx y).toInt) ?_)
    funext b
    match b with
    | ⟨0, _⟩ => rfl
    | ⟨1, _⟩ => rfl
  have s1 : d.start (ix3 e a b) idx 1 = 0 := dif_neg (by show ¬ (1 : Fin 3) ∈ [(0 : Fin 3)]; decide)
  have s2 : d.start (ix3 e a b) idx 2 = 0 := dif_neg (by show ¬ (2 : Fin 3) ∈ [(0 : Fin 3)]; decide)
  rw [Routing.resultIdx?_eq_some]
  constructor
  · intro h
    have h0 : d.start (ix3 e a b) idx 0 + (d.window (ix3 e a b) 0 : Int) = (i.val : Int) := h 0
    have h1 : d.start (ix3 e a b) idx 1 + (d.window (ix3 e a b) 1 : Int) = (a'.val : Int) := h 1
    have h2 : d.start (ix3 e a b) idx 2 + (d.window (ix3 e a b) 2 : Int) = (b'.val : Int) := h 2
    rw [s0, w0] at h0
    rw [s1, w1] at h1
    rw [s2, w2] at h2
    refine ⟨?_, Fin.ext ?_, Fin.ext ?_⟩
    · omega
    · omega
    · omega
  · rintro ⟨h0, rfl, rfl⟩ q
    match q with
    | ⟨0, _⟩ => show d.start (ix3 e a b) idx 0 + (d.window (ix3 e a b) 0 : Int) = _; rw [s0, w0, h0]; simp
    | ⟨1, _⟩ => show d.start (ix3 e a b) idx 1 + (d.window (ix3 e a b) 1 : Int) = _; rw [s1, w1]; simp
    | ⟨2, _⟩ => show d.start (ix3 e a b) idx 2 + (d.window (ix3 e a b) 2 : Int) = _; rw [s2, w2]; simp

/-- The neighbours' sum: a row holds the operand's element plus the sum of the updates whose index word names the row. -/
theorem scatter_row {N A B n w : Nat} (d : ScatterDims ⟨3, ![N, A, B]⟩ ⟨2, ![n, 1]⟩ ⟨3, ![n, A, B]⟩)
    (hu : d.updateWindowDims = [1, 2]) (hi : d.insertedWindowDims = [0])
    (hs : d.scatterDimsToOperandDims = [0]) (hv : d.indexVectorDim = 1)
    (x : FVec Ideal ⟨3, ![N, A, B]⟩ .f32) (idx : IVec ⟨2, ![n, 1]⟩ w) (upd : FVec Ideal ⟨3, ![n, A, B]⟩ .f32)
    (i : Fin N) (a : Fin A) (b : Fin B) :
    (Host.scatterAdd (F := Ideal) d x idx upd (ix3 i a b) : EReal)
      = x (ix3 i a b) + ∑ e ∈ Finset.univ.filter (fun e : Fin n => (idx (ix2 e (0 : Fin 1))).toInt = i.val),
          (upd (ix3 e a b) : EReal) := by
  show x (ix3 i a b) + ∑ j ∈ Finset.univ.filter (fun j => d.resultIdx? j idx = some (ix3 i a b)), upd j = _
  congr 1
  have key : ∀ j, d.resultIdx? j idx = some (ix3 i a b) →
      (idx (ix2 (j 0 : Fin n) (0 : Fin 1))).toInt = i.val ∧ (j 1 : Fin A) = a ∧ (j 2 : Fin B) = b := fun j h =>
    (lands_row d hu hi hs hv idx _ _ _ _ _ i).1 ((congrArg (fun t => d.resultIdx? t idx) (eq_ix3 j).symm).trans h)
  have back : ∀ j, d.resultIdx? j idx = some (ix3 i a b) → ix3 (j 0 : Fin n) a b = j := fun j h => by
    obtain ⟨-, h1, h2⟩ := key j h
    subst h1 h2
    exact (eq_ix3 j).symm
  refine Finset.sum_bij' (fun j _ => (j 0 : Fin n)) (fun e _ => ix3 e a b) ?_ ?_ ?_ ?_ ?_
  · intro j hj
    exact Finset.mem_filter.2 ⟨Finset.mem_univ _, (key j (Finset.mem_filter.1 hj).2).1⟩
  · intro e he
    exact Finset.mem_filter.2 ⟨Finset.mem_univ _,
      (lands_row d hu hi hs hv idx e a a b b i).2 ⟨(Finset.mem_filter.1 he).2, rfl, rfl⟩⟩
  · intro j hj; exact back j (Finset.mem_filter.1 hj).2
  · intro e _; rfl
  · intro j hj; exact congrArg upd (back j (Finset.mem_filter.1 hj).2).symm

end Cert.Spec
-- ==== Proof.KernelIdeal.Entry.lean ====
module

public import proofs.«01_k».proof.Proof.Gen.KernelIdeal.Regions
public import proofs.«01_k».proof.Proof.Spec.Network
public import proofs.«01_k».proof.Proof.Spec.Scatter
public import Idealize.ShloMosaic.Lib.StableHlo.RunRead
public import Idealize.ShloMosaic.Lib.WordCmp
public import Idealize.ShloMosaic.Lib.KernelVsHost
public import Idealize.ShloMosaic.Lib.Routing.Ops
public import Idealize.ShloMosaic.Lib.ValueIdx
public import Idealize.ShloMosaic.Lib.Pipeline.Value

/-!
What the host computes before the first grid: the matrix of edge counts, and the features with rows of zeros added.
-/

@[expose] public noncomputable section

namespace Cert.KernelIdeal.Entry

open Cert.KernelIdeal Cert.KernelIdeal.Gen Cert.Spec Idealize.ShloMosaic.ValueIdx Idealize.ShloMosaic.TcCoe Idealize.SL.Sem
open Idealize.ShloMosaic hiding ix1 ix2 ix3 eq_ix1 eq_ix2 eq_ix3

/-- One row of the edge list: the sources (row 0) or the targets (row 1). -/
def sources (x : IVec S2x320000 32) : IVec S320000 32 :=
  shapeCast S320000 (extractStridedSlice S1x320000 ![0, 0] x slices_S2x320000_S1x320000_0_0) shapeCasts_S1x320000_S320000
def targets (x : IVec S2x320000 32) : IVec S320000 32 :=
  shapeCast S320000 (extractStridedSlice S1x320000 ![1, 0] x slices_S2x320000_S1x320000_1_0) shapeCasts_S1x320000_S320000

/-- Node numbers counted from the end when negative. -/
def wrapped (w : IVec S320000 32) : IVec S320000 32 :=
  select (cmpi .slt w (broadcastInDim S320000 ![] bcast_S_S320000 (constantI S_ 32 0#32)))
    (addi w (broadcastInDim S320000 ![] bcast_S_S320000 (constantI S_ 32 10240#32))) w

/-- The pairs (target, source) of the edges. -/
def pairs (x : IVec S2x320000 32) : IVec S320000x2 32 :=
  concatenate S320000x2 1 [⟨S320000x1, broadcastInDim S320000x1 ![0] bcast_S320000_S320000x1_0 (wrapped (targets x))⟩,
    ⟨S320000x1, broadcastInDim S320000x1 ![0] bcast_S320000_S320000x1_0 (wrapped (sources x))⟩]
    concatenates_S320000x1_S320000x1_S320000x2_d1

/-- The matrix of edge counts. -/
def counts (x : IVec S2x320000 32) : FVec Ideal S10240x10240 .f32 :=
  Host.scatterAdd (F := Ideal) scatter_S10240x10240_S320000x2_S320000_n_01_01_1
    (broadcastInDim S10240x10240 ![] bcast_S_S10240x10240 (constant S_ .f32 0x00000000#32)) (pairs x)
    (broadcastInDim S320000 ![] bcast_S_S320000 (constant S_ .f32 0x3F800000#32))

variable (V : Valuation τ sig (Elt Ideal))

/-- What the host leaves for the grids as the matrix of edge counts. -/
theorem counts_read : StableHlo.after hostOps0 V (Proc.devRef .tc main_v20)
    = truncf .bf16 (counts (V (Proc.devRef .tc main_arg1))) bitsLt_bf16_f32 := by
  after_reads_simp
  rfl

/-- What the host leaves for the first grid as the features. -/
theorem pad_read : StableHlo.after hostOps0_1 V (Proc.devRef .tc main_v21)
    = pad S10240x128 ![0, 0] ![240, 0] ![0, 0] (V (Proc.devRef .tc main_arg0)) (sitofp (F := Ideal) .f32 (V (Proc.devRef .tc main_c_4)))
      pads_S10000x128_S10240x128_02400_000 h_S_ := by
  after_reads_simp
  rfl

/-- The biases and the normalisation's parameters, made rows. -/
theorem bias0_read : StableHlo.after hostOps0_2 V (Proc.devRef .tc main_v22)
    = shapeCast S1x128 (V (Proc.devRef .tc main_arg4)) shapeCasts_S128_S1x128 := by
  after_reads_simp
  rfl
theorem bias1_read : StableHlo.after hostOps1 V (Proc.devRef .tc main_v24)
    = shapeCast S1x128 (V (Proc.devRef .tc main_arg10)) shapeCasts_S128_S1x128 := by
  after_reads_simp
  rfl
theorem gain1_read : StableHlo.after hostOps1 V (Proc.devRef .tc main_v25)
    = shapeCast S1x128 (V (Proc.devRef .tc main_arg13)) shapeCasts_S128_S1x128 := by
  after_reads_simp
  rfl
theorem shift1_read : StableHlo.after hostOps1 V (Proc.devRef .tc main_v26)
    = shapeCast S1x128 (V (Proc.devRef .tc main_arg14)) shapeCasts_S128_S1x128 := by
  after_reads_simp
  rfl
theorem bias2_read : StableHlo.after hostOps2 V (Proc.devRef .tc main_v28)
    = shapeCast S1x128 (V (Proc.devRef .tc main_arg11)) shapeCasts_S128_S1x128 := by
  after_reads_simp
  rfl
theorem gain2_read : StableHlo.after hostOps2 V (Proc.devRef .tc main_v29)
    = shapeCast S1x128 (V (Proc.devRef .tc main_arg15)) shapeCasts_S128_S1x128 := by
  after_reads_simp
  rfl
theorem shift2_read : StableHlo.after hostOps2 V (Proc.devRef .tc main_v30)
    = shapeCast S1x128 (V (Proc.devRef .tc main_arg16)) shapeCasts_S128_S1x128 := by
  after_reads_simp
  rfl
theorem bias3_read : StableHlo.after hostOps3 V (Proc.devRef .tc main_v32)
    = shapeCast S1x128 (V (Proc.devRef .tc main_arg12)) shapeCasts_S128_S1x128 := by
  after_reads_simp
  rfl

/-- The rows of the nodes that exist, cut from the last grid's array. -/
theorem cut_read : StableHlo.after hostOps4 V (Proc.devRef .tc main_v34)
    = extractStridedSlice S10000x128 ![0, 0] (V (Proc.devRef .tc main_v33)) slices_S10240x128_S10000x128_0_0 := by
  after_reads_simp

/-- A vector made a row, read at a column. -/
theorem row_apply (x : FVec Ideal S128 .f32) (k : Fin 128) :
    shapeCast S1x128 x shapeCasts_S128_S1x128 (ix2 0 k) = x (ix1 k) := by
  refine shapeCast_apply x _ _ _ ?_
  refine (Shape.rowMajor_val_one _).trans (Eq.trans ?_ (Shape.rowMajor_val_two _).symm)
  show k.val = 0 * 128 + k.val
  omega

/-- The padded features at a node that exists. -/
theorem pad_node (x : FVec Ideal S10000x128 .f32) (v : FVec Ideal S_ .f32) (n : Fin 10000) (k : Fin 128) :
    pad S10240x128 ![0, 0] ![240, 0] ![0, 0] x v pads_S10000x128_S10240x128_02400_000 h_S_ (ix2 (n.castLE (by decide)) k) = x (ix2 n k) := by
  refine pad_apply_of_inside _ _ _ x v _ _ _ (ix2 n k) fun a => ?_
  match a with
  | ⟨0, _⟩ => show n.val = 0 + n.val * (0 + 1); omega
  | ⟨1, _⟩ => show k.val = 0 + k.val * (0 + 1); omega

/-- The cut array at a node. -/
theorem cut_node (x : FVec Ideal S10240x128 .f32) (n : Fin 10000) (k : Fin 128) :
    extractStridedSlice S10000x128 ![0, 0] x slices_S10240x128_S10000x128_0_0 (ix2 n k) = x (ix2 (n.castLE (by decide)) k) := by
  refine extractStridedSlice_apply _ x _ _ _ fun a => ?_
  match a with
  | ⟨0, _⟩ => show n.val = 0 + n.val; omega
  | ⟨1, _⟩ => show k.val = 0 + k.val; omega

variable (x : IVec S2x320000 32) (src dst : Fin 320000 → Fin 10000)
  (hsrc : ∀ e, x (ix2 0 e) = BitVec.ofNat 32 (src e).val) (hdst : ∀ e, x (ix2 1 e) = BitVec.ofNat 32 (dst e).val)

theorem sources_apply (e : Fin 320000) : sources x (ix1 e) = x (ix2 0 e) := by
  have h : sources x (ix1 e) = extractStridedSlice S1x320000 ![0, 0] x slices_S2x320000_S1x320000_0_0 (ix2 0 e) := by
    refine shapeCast_apply _ _ _ _ ?_
    refine (Shape.rowMajor_val_two _).trans (Eq.trans ?_ (Shape.rowMajor_val_one _).symm)
    show 0 * 320000 + e.val = e.val
    omega
  refine h.trans (extractStridedSlice_apply _ x _ _ _ fun a => ?_)
  match a with
  | ⟨0, _⟩ => rfl
  | ⟨1, _⟩ => show e.val = 0 + e.val; omega

theorem targets_apply (e : Fin 320000) : targets x (ix1 e) = x (ix2 1 e) := by
  have h : targets x (ix1 e) = extractStridedSlice S1x320000 ![1, 0] x slices_S2x320000_S1x320000_1_0 (ix2 0 e) := by
    refine shapeCast_apply _ _ _ _ ?_
    refine (Shape.rowMajor_val_two _).trans (Eq.trans ?_ (Shape.rowMajor_val_one _).symm)
    show 0 * 320000 + e.val = e.val
    omega
  refine h.trans (extractStridedSlice_apply _ x _ _ _ fun a => ?_)
  match a with
  | ⟨0, _⟩ => rfl
  | ⟨1, _⟩ => show e.val = 0 + e.val; omega

/-- A node number in range is not wrapped. -/
theorem wrapped_apply (w : IVec S320000 32) (e : Fin 320000) (n : Fin 10000) (h : w (ix1 e) = BitVec.ofNat 32 n.val) :
    wrapped w (ix1 e) = BitVec.ofNat 32 n.val := by
  have hn := n.isLt
  show Scalar.select (IntOp.cmpi .slt (w (ix1 e)) 0#32) (IntOp.addi (w (ix1 e)) 10240#32) (w (ix1 e)) = _
  rw [h]
  refine Routing.wrap_of_lt _ _ ?_
  rw [BitVec.toNat_ofNat]
  omega

include hdst in
theorem pairs_target (e : Fin 320000) : pairs x (ix2 e 0) = BitVec.ofNat 32 (dst e).val := by
  refine (concatenate_pair_apply_left (s₁ := S320000x1) (s₂ := S320000x1) _ _ _ _ (ix2 e (0 : Fin 2)) rfl (ix2 e (0 : Fin 1)) fun b => ?_).trans ?_
  · match b with
    | ⟨0, _⟩ => rfl
    | ⟨1, _⟩ => rfl
  · refine (broadcastInDim_apply _ _ _ _ (ix1 e) fun a => ?_).trans (wrapped_apply _ e _ ((targets_apply x e).trans (hdst e)))
    match a with
    | ⟨0, _⟩ => rfl

include hsrc in
theorem pairs_source (e : Fin 320000) : pairs x (ix2 e 1) = BitVec.ofNat 32 (src e).val := by
  refine (concatenate_pair_apply_right (s₁ := S320000x1) (s₂ := S320000x1) _ _ _ _ (ix2 e (1 : Fin 2)) rfl rfl (ix2 e (0 : Fin 1)) (fun b hb => ?_) ?_).trans ?_
  · match b, hb with
    | ⟨0, _⟩, _ => rfl
    | ⟨1, _⟩, hb => exact absurd rfl hb
  · rfl
  · refine (broadcastInDim_apply _ _ _ _ (ix1 e) fun a => ?_).trans (wrapped_apply _ e _ ((sources_apply x e).trans (hsrc e)))
    match a with
    | ⟨0, _⟩ => rfl

include hsrc hdst in
/-- Each entry of the matrix counts the edges from its column's node to its row's node. -/
theorem counts_apply (i s : Fin 10240) : counts x (ix2 i s) = edges src dst i s := by
  have toInt (n : Fin 10000) : (BitVec.ofNat 32 n.val).toInt = n.val :=
    StableHlo.Predicate.toInt_ofNat_small _ (by have := n.isLt; omega)
  have h := scatter_pair (R := 10240) (C := 10240) (n := 320000) scatter_S10240x10240_S320000x2_S320000_n_01_01_1 rfl rfl rfl rfl
    (broadcastInDim S10240x10240 ![] bcast_S_S10240x10240 (constant (F := Ideal) S_ .f32 0x00000000#32)) (pairs x)
    (broadcastInDim S320000 ![] bcast_S_S320000 (constant (F := Ideal) S_ .f32 0x3F800000#32)) i s
  have h0 : (broadcastInDim S10240x10240 ![] bcast_S_S10240x10240 (constant (F := Ideal) S_ .f32 0x00000000#32) (ix2 i s) : EReal) = 0 :=
    Ideal.ofBits_zero_f32
  have h1 : ∀ e : Fin 320000, (broadcastInDim S320000 ![] bcast_S_S320000 (constant (F := Ideal) S_ .f32 0x3F800000#32) (ix1 e) : EReal) = 1 :=
    fun _ => Ideal.ofBits_one_f32
  unfold counts
  rw [h, h0, edges]
  refine congrArg (fun z : EReal => 0 + z) (Finset.sum_congr (Finset.filter_congr fun e _ => ?_) fun e _ => h1 e)
  rw [pairs_target x dst hdst, pairs_source x src hsrc, toInt, toInt]
  exact and_congr Int.natCast_inj Int.natCast_inj

end Cert.KernelIdeal.Entry
-- ==== Proof.KernelIdeal.Operands.lean ====
module

public import proofs.«01_k».proof.Proof.KernelIdeal.Entry
public import proofs.«01_k».proof.Proof.KernelIdeal.Launch

/-!
The operands of the four grids, as each grid finds them, in terms of the memory the program is launched from.
-/

@[expose] public noncomputable section

namespace Cert.KernelIdeal.Operands

open Cert.KernelIdeal Cert.KernelIdeal.Gen Cert.KernelIdeal.Entry Cert.Spec Idealize.ShloMosaic.ValueIdx Idealize.ShloMosaic.TcCoe Idealize.SL.Sem
open Idealize.ShloMosaic hiding ix1 ix2 ix3 eq_ix1 eq_ix2 eq_ix3

variable (m : (ℓ : Loc nD τ sig) → Buf (Elt Ideal) ℓ) (outs : Outs (F := Ideal)) (c : Dev nD)

/-! The arguments a host stretch or a grid reads are still as launched. -/
theorem arg0_at1 : V1 m c (Proc.devRef .tc main_arg0) = m ((c : Thread nD τ).loc main_arg0) :=
  (V1_of m c main_arg0 (by decide))
theorem arg4_at2 : V2 m c (Proc.devRef .tc main_arg4) = m ((c : Thread nD τ).loc main_arg4) :=
  (V2_of m c main_arg4 (by decide)).trans <| (V1_of m c main_arg4 (by decide))
theorem arg3_at3 : V3 m c (Proc.devRef .tc main_arg3) = m ((c : Thread nD τ).loc main_arg3) :=
  (V3_of m c main_arg3 (by decide)).trans <| (V2_of m c main_arg3 (by decide)).trans <| (V1_of m c main_arg3 (by decide))
theorem arg7_at3 : V3 m c (Proc.devRef .tc main_arg7) = m ((c : Thread nD τ).loc main_arg7) :=
  (V3_of m c main_arg7 (by decide)).trans <| (V2_of m c main_arg7 (by decide)).trans <| (V1_of m c main_arg7 (by decide))
theorem arg10_at4 : V4 m outs c (Proc.devRef .tc main_arg10) = m ((c : Thread nD τ).loc main_arg10) :=
  (V4_of m outs c main_arg10 (by decide)).trans <| (V3_of m c main_arg10 (by decide)).trans <| (V2_of m c main_arg10 (by decide)).trans <| (V1_of m c main_arg10 (by decide))
theorem arg13_at4 : V4 m outs c (Proc.devRef .tc main_arg13) = m ((c : Thread nD τ).loc main_arg13) :=
  (V4_of m outs c main_arg13 (by decide)).trans <| (V3_of m c main_arg13 (by decide)).trans <| (V2_of m c main_arg13 (by decide)).trans <| (V1_of m c main_arg13 (by decide))
theorem arg14_at4 : V4 m outs c (Proc.devRef .tc main_arg14) = m ((c : Thread nD τ).loc main_arg14) :=
  (V4_of m outs c main_arg14 (by decide)).trans <| (V3_of m c main_arg14 (by decide)).trans <| (V2_of m c main_arg14 (by decide)).trans <| (V1_of m c main_arg14 (by decide))
theorem arg7_at5 : V5 m outs c (Proc.devRef .tc main_arg7) = m ((c : Thread nD τ).loc main_arg7) :=
  (V5_of m outs c main_arg7 (by decide)).trans <| (V4_of m outs c main_arg7 (by decide)).trans <| (V3_of m c main_arg7 (by decide)).trans <| (V2_of m c main_arg7 (by decide)).trans <| (V1_of m c main_arg7 (by decide))
theorem arg5_at5 : V5 m outs c (Proc.devRef .tc main_arg5) = m ((c : Thread nD τ).loc main_arg5) :=
  (V5_of m outs c main_arg5 (by decide)).trans <| (V4_of m outs c main_arg5 (by decide)).trans <| (V3_of m c main_arg5 (by decide)).trans <| (V2_of m c main_arg5 (by decide)).trans <| (V1_of m c main_arg5 (by decide))
theorem arg8_at5 : V5 m outs c (Proc.devRef .tc main_arg8) = m ((c : Thread nD τ).loc main_arg8) :=
  (V5_of m outs c main_arg8 (by decide)).trans <| (V4_of m outs c main_arg8 (by decide)).trans <| (V3_of m c main_arg8 (by decide)).trans <| (V2_of m c main_arg8 (by decide)).trans <| (V1_of m c main_arg8 (by decide))
theorem arg11_at6 : V6 m outs c (Proc.devRef .tc main_arg11) = m ((c : Thread nD τ).loc main_arg11) :=
  (V6_of m outs c main_arg11 (by decide)).trans <| (V5_of m outs c main_arg11 (by decide)).trans <| (V4_of m outs c main_arg11 (by decide)).trans <| (V3_of m c main_arg11 (by decide)).trans <| (V2_of m c main_arg11 (by decide)).trans <| (V1_of m c main_arg11 (by decide))
theorem arg15_at6 : V6 m outs c (Proc.devRef .tc main_arg15) = m ((c : Thread nD τ).loc main_arg15) :=
  (V6_of m outs c main_arg15 (by decide)).trans <| (V5_of m outs c main_arg15 (by decide)).trans <| (V4_of m outs c main_arg15 (by decide)).trans <| (V3_of m c main_arg15 (by decide)).trans <| (V2_of m c main_arg15 (by decide)).trans <| (V1_of m c main_arg15 (by decide))
theorem arg16_at6 : V6 m outs c (Proc.devRef .tc main_arg16) = m ((c : Thread nD τ).loc main_arg16) :=
  (V6_of m outs c main_arg16 (by decide)).trans <| (V5_of m outs c main_arg16 (by decide)).trans <| (V4_of m outs c main_arg16 (by decide)).trans <| (V3_of m c main_arg16 (by decide)).trans <| (V2_of m c main_arg16 (by decide)).trans <| (V1_of m c main_arg16 (by decide))
theorem arg8_at7 : V7 m outs c (Proc.devRef .tc main_arg8) = m ((c : Thread nD τ).loc main_arg8) :=
  (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide))
theorem arg6_at7 : V7 m outs c (Proc.devRef .tc main_arg6) = m ((c : Thread nD τ).loc main_arg6) :=
  (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide))
theorem arg9_at7 : V7 m outs c (Proc.devRef .tc main_arg9) = m ((c : Thread nD τ).loc main_arg9) :=
  (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide))
theorem arg12_at8 : V8 m outs c (Proc.devRef .tc main_arg12) = m ((c : Thread nD τ).loc main_arg12) :=
  (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| (V1_of m c main_arg12 (by decide))
theorem arg9_at9 : V9 m outs c (Proc.devRef .tc main_arg9) = m ((c : Thread nD τ).loc main_arg9) :=
  (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide))
theorem arg2_at11 : V11 m outs c (Proc.devRef .tc main_arg2) = m ((c : Thread nD τ).loc main_arg2) :=
  (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide))

/-! The padded features, at a node that exists. -/
theorem features (n : Fin 10000) (k : Fin 128) :
    (V3 m c (Proc.devRef .tc main_v21) : Vec Ideal S10240x128 .f32) (ix2 (n.castLE (by decide)) k)
      = (m ((c : Thread nD τ).loc main_arg0) : Vec Ideal S10000x128 .f32) (ix2 n k) := by
  have h : V3 m c (Proc.devRef .tc main_v21) = _ := (V3_of m c main_v21 (by decide)).trans (pad_read (V1 m c))
  rw [h, arg0_at1]
  exact pad_node _ _ n k

/-! The biases and the normalisation's parameters. -/
theorem bias0 (k : Fin 128) : (V3 m c (Proc.devRef .tc main_v22) : Vec Ideal S1x128 .f32) (ix2 0 k)
      = (m ((c : Thread nD τ).loc main_arg4) : Vec Ideal S128 .f32) (ix1 k) := by
  have h : V3 m c (Proc.devRef .tc main_v22) = _ := bias0_read (V2 m c)
  rw [h, arg4_at2]
  exact row_apply _ k
theorem bias1 (k : Fin 128) : (V5 m outs c (Proc.devRef .tc main_v24) : Vec Ideal S1x128 .f32) (ix2 0 k)
      = (m ((c : Thread nD τ).loc main_arg10) : Vec Ideal S128 .f32) (ix1 k) := by
  have h : V5 m outs c (Proc.devRef .tc main_v24) = _ := bias1_read (V4 m outs c)
  rw [h, arg10_at4]
  exact row_apply _ k
theorem gain1 (k : Fin 128) : (V5 m outs c (Proc.devRef .tc main_v25) : Vec Ideal S1x128 .f32) (ix2 0 k)
      = (m ((c : Thread nD τ).loc main_arg13) : Vec Ideal S128 .f32) (ix1 k) := by
  have h : V5 m outs c (Proc.devRef .tc main_v25) = _ := gain1_read (V4 m outs c)
  rw [h, arg13_at4]
  exact row_apply _ k
theorem shift1 (k : Fin 128) : (V5 m outs c (Proc.devRef .tc main_v26) : Vec Ideal S1x128 .f32) (ix2 0 k)
      = (m ((c : Thread nD τ).loc main_arg14) : Vec Ideal S128 .f32) (ix1 k) := by
  have h : V5 m outs c (Proc.devRef .tc main_v26) = _ := shift1_read (V4 m outs c)
  rw [h, arg14_at4]
  exact row_apply _ k
theorem bias2 (k : Fin 128) : (V7 m outs c (Proc.devRef .tc main_v28) : Vec Ideal S1x128 .f32) (ix2 0 k)
      = (m ((c : Thread nD τ).loc main_arg11) : Vec Ideal S128 .f32) (ix1 k) := by
  have h : V7 m outs c (Proc.devRef .tc main_v28) = _ := bias2_read (V6 m outs c)
  rw [h, arg11_at6]
  exact row_apply _ k
theorem gain2 (k : Fin 128) : (V7 m outs c (Proc.devRef .tc main_v29) : Vec Ideal S1x128 .f32) (ix2 0 k)
      = (m ((c : Thread nD τ).loc main_arg15) : Vec Ideal S128 .f32) (ix1 k) := by
  have h : V7 m outs c (Proc.devRef .tc main_v29) = _ := gain2_read (V6 m outs c)
  rw [h, arg15_at6]
  exact row_apply _ k
theorem shift2 (k : Fin 128) : (V7 m outs c (Proc.devRef .tc main_v30) : Vec Ideal S1x128 .f32) (ix2 0 k)
      = (m ((c : Thread nD τ).loc main_arg16) : Vec Ideal S128 .f32) (ix1 k) := by
  have h : V7 m outs c (Proc.devRef .tc main_v30) = _ := shift2_read (V6 m outs c)
  rw [h, arg16_at6]
  exact row_apply _ k
theorem bias3 (k : Fin 128) : (V9 m outs c (Proc.devRef .tc main_v32) : Vec Ideal S1x128 .f32) (ix2 0 k)
      = (m ((c : Thread nD τ).loc main_arg12) : Vec Ideal S128 .f32) (ix1 k) := by
  have h : V9 m outs c (Proc.devRef .tc main_v32) = _ := bias3_read (V8 m outs c)
  rw [h, arg12_at8]
  exact row_apply _ k

/-! The arrays the grids hand on. -/
theorem array_v23 : V5 m outs c (Proc.devRef .tc main_v23) = outs 4 main_v23 c :=
  (V5_of m outs c main_v23 (by decide)).trans (Launch.at_main_v23 m outs c)
theorem array_v27 : V7 m outs c (Proc.devRef .tc main_v27) = outs 6 main_v27 c :=
  (V7_of m outs c main_v27 (by decide)).trans (Launch.at_main_v27 m outs c)
theorem array_v31 : V9 m outs c (Proc.devRef .tc main_v31) = outs 8 main_v31 c :=
  (V9_of m outs c main_v31 (by decide)).trans (Launch.at_main_v31 m outs c)

/-! The matrix of edge counts, at each of the three grids that read it. -/

variable (src dst : Fin 320000 → Fin 10000)
  (hsrc : ∀ e, (m ((c : Thread nD τ).loc main_arg1) : IVec S2x320000 32) (ix2 0 e) = BitVec.ofNat 32 (src e).val)
  (hdst : ∀ e, (m ((c : Thread nD τ).loc main_arg1) : IVec S2x320000 32) (ix2 1 e) = BitVec.ofNat 32 (dst e).val)
include hsrc hdst

theorem matrix1 (i s : Fin 10240) : (V1 m c (Proc.devRef .tc main_v20) : Vec Ideal S10240x10240 .bf16) (ix2 i s) = edges src dst i s := by
  have h : V1 m c (Proc.devRef .tc main_v20) = _ := counts_read (V0 m c)
  rw [h]
  exact counts_apply _ src dst hsrc hdst i s
theorem matrix5 (i s : Fin 10240) : (V5 m outs c (Proc.devRef .tc main_v20) : Vec Ideal S10240x10240 .bf16) (ix2 i s) = edges src dst i s := by
  have h : V5 m outs c (Proc.devRef .tc main_v20) = V1 m c (Proc.devRef .tc main_v20) :=
    (V5_of m outs c main_v20 (by decide)).trans <| (V4_of m outs c main_v20 (by decide)).trans <| (V3_of m c main_v20 (by decide)).trans <| (V2_of m c main_v20 (by decide))
  rw [h]
  exact matrix1 m c src dst hsrc hdst i s
theorem matrix7 (i s : Fin 10240) : (V7 m outs c (Proc.devRef .tc main_v20) : Vec Ideal S10240x10240 .bf16) (ix2 i s) = edges src dst i s := by
  have h : V7 m outs c (Proc.devRef .tc main_v20) = V1 m c (Proc.devRef .tc main_v20) :=
    (V7_of m outs c main_v20 (by decide)).trans <| (V6_of m outs c main_v20 (by decide)).trans <| (V5_of m outs c main_v20 (by decide)).trans <| (V4_of m outs c main_v20 (by decide)).trans <| (V3_of m c main_v20 (by decide)).trans <| (V2_of m c main_v20 (by decide))
  rw [h]
  exact matrix1 m c src dst hsrc hdst i s
theorem matrix9 (i s : Fin 10240) : (V9 m outs c (Proc.devRef .tc main_v20) : Vec Ideal S10240x10240 .bf16) (ix2 i s) = edges src dst i s := by
  have h : V9 m outs c (Proc.devRef .tc main_v20) = V1 m c (Proc.devRef .tc main_v20) :=
    (V9_of m outs c main_v20 (by decide)).trans <| (V8_of m outs c main_v20 (by decide)).trans <| (V7_of m outs c main_v20 (by decide)).trans <| (V6_of m outs c main_v20 (by decide)).trans <| (V5_of m outs c main_v20 (by decide)).trans <| (V4_of m outs c main_v20 (by decide)).trans <| (V3_of m c main_v20 (by decide)).trans <| (V2_of m c main_v20 (by decide))
  rw [h]
  exact matrix1 m c src dst hsrc hdst i s

end Cert.KernelIdeal.Operands
-- ==== Proof.KernelIdeal.Block0.lean ====
module

public import proofs.«01_k».proof.Proof.Gen.Own.KernelIdeal.K0.Frame
public import proofs.«01_k».proof.Proof.Spec.Blocks

@[expose] public section

set_option maxRecDepth 16384

noncomputable section

namespace Cert.KernelIdeal.Block0

open Cert.KernelIdeal Cert.KernelIdeal.Gen
open Idealize.ShloMosaic Idealize.ShloMosaic.TcCoe
open Idealize.SL Idealize.SL.RA
open Cert.Spec

/-- The sigmoid of the first product, at an element of a block. -/
theorem pay3_apply (x : Vec Ideal S1024x128 .f32) (w : Vec Ideal S128x128 .f32) (b : Vec Ideal S1x128 .f32) (r : Fin 1024) (t : Fin 128) :
    k0_pay3 x w b (ix2 r t) = sigm ((∑ k : Fin 128, x (ix2 r k) * w (ix2 k t)) + b (ix2 0 t)) := by
  unfold k0_pay3 sigm
  pointwise [dot_S1024x128_S128x128_S1024x128_1_0_0_1_n_n, shapeCast_self]

/-- The logarithm of the sigmoid, at an element of a block. -/
theorem pay4_apply (x : Vec Ideal S1024x128 .f32) (w : Vec Ideal S128x128 .f32) (b : Vec Ideal S1x128 .f32) (r : Fin 1024) (t : Fin 128) :
    k0_pay4 x w b (ix2 r t) = Ideal.log (sigm ((∑ k : Fin 128, x (ix2 r k) * w (ix2 k t)) + b (ix2 0 t))) :=
  congrArg Ideal.log (pay3_apply x w b r t)

/-- The logarithm of the sigmoid's complement, at an element of a block. -/
theorem pay5_apply (x : Vec Ideal S1024x128 .f32) (w : Vec Ideal S128x128 .f32) (b : Vec Ideal S1x128 .f32) (r : Fin 1024) (t : Fin 128) :
    k0_pay5 x w b (ix2 r t) = Ideal.log (1 - sigm ((∑ k : Fin 128, x (ix2 r k) * w (ix2 k t)) + b (ix2 0 t))) := by
  rw [← pay3_apply]
  exact congrArg (fun o => Ideal.log (o - k0_pay3 x w b (ix2 r t))) Ideal.ofBits_one_f32

/-- The sixteen groups of columns side by side, at a column. -/
theorem pay2_apply (v22 v26 v30 v34 v38 v42 v46 v50 v54 v58 v62 v66 v70 v74 v77 v81 : FVec Ideal S1024x128 .f32) (r : Fin 1024) (j p : Fin 4) (t : Fin 128) :
    k0_pay2 v22 v26 v30 v34 v38 v42 v46 v50 v54 v58 v62 v66 v70 v74 v77 v81 (ix2 r (col j p t))
      = (![v22, v26, v30, v34, v38, v42, v46, v50, v54, v58, v62, v66, v70, v74, exp v77, exp v81] (pieceNo j p)) (ix2 r t) :=
  concat_col (M := 1024) ![v22, v26, v30, v34, v38, v42, v46, v50, v54, v58, v62, v66, v70, v74, exp v77, exp v81] concatenates_S1024x128_S1024x128_S1024x128_S1024x128_S1024x128_S1024x128_S1024x128_S1024x128_S1024x128_S1024x128_S1024x128_S1024x128_S1024x128_S1024x128_S1024x128_S1024x128_S1024x2048_d1 r j p t

/-- A scalar read of the aggregators' parameters is the entry at its place. -/
theorem ld_entry {a b : ℕ} (x : Vec Ideal S4x12 .f32) (inb) (h) :
    View.ld x (Rect.unit (s := S4x12) ![a, b] ![1, 1] inb) (Shape.Idx.first h)
      = x (ix2 ⟨a, by have h0 := inb 0; simpa using h0⟩ ⟨b, by have h1 := inb 1; simpa using h1⟩) := by
  refine congrArg x (funext fun d => ?_)
  match d with
  | ⟨0, _⟩ => rfl
  | ⟨1, _⟩ => rfl

theorem hz : (![0, 0] : Fin 2 → Nat) = fun _ => 0 := by funext a; fin_cases a <;> rfl

section
variable {Ix : Type} [DecidableEq Ix] {U : Type} [URA U] {Lvl : Type} [Preorder Lvl]
variable (𝒱₀ : Variants)

/-- What the prefix call leaves in an output block. -/
theorem out_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .smem S4x12 .f32) (harg4 : arg4.IsWhole) (arg5 : Memref sig .tc .vmem S1024x2048 .bf16) (harg5 : arg5.IsWhole)
    (x0 : Vec Ideal S1024x128 .f32) (x1 : Vec Ideal S128x128 .f32) (x2 : Vec Ideal S1x128 .f32) (x3 : Vec Ideal S4x12 .f32)
    (r : Fin 1024) (j p : Fin 4) (t : Fin 128) :
    Own.K0.out0_A_4 (F := Ideal) (Ix := Ix) (U := U) (Lvl := Lvl) 𝒱₀ c i arg1 harg1 arg2 harg2 arg3 harg3 arg4 harg4 arg5 harg5 x0 x1 x2 x3 (ix2 r (col j p t))
      = kpow (fun a b => x3 (ix2 a b)) (sigm ((∑ k : Fin 128, x0 (ix2 r k) * x1 (ix2 k t)) + x2 (ix2 0 t))) j p := by
  unfold Own.K0.out0_A_4
  rw [View.read_writes_eq_canon _ _ _ (Own.K0.cover0_A_4 (Ix := Ix) (U := U) (Lvl := Lvl) 𝒱₀ c i arg1 harg1 arg2 harg2 arg3 harg3 arg4 harg4 arg5 harg5 x0 x1 x2 x3)]
  unfold Own.K0.kernelRun0_A
  dsimp only
  rw [View.canon_unit_zero hz]
  rw [pay2_apply]
  sl_unfold_words
  simp only [View.readAt_eq_ld, harg1.read_unread, harg2.read_unread, harg3.read_unread, harg4.read_unread, View.ld_unit_zero (S := S1024x128) hz, View.ld_unit_zero (S := S128x128) hz, View.ld_unit_zero (S := S1x128) hz]
  have h4 := pay4_apply x0 x1 x2 r t
  have h5 := pay5_apply x0 x1 x2 r t
  unfold kpow
  generalize sigm ((∑ k : Fin 128, x0 (ix2 r k) * x1 (ix2 k t)) + x2 (ix2 0 t)) = z at h4 h5
  match j, p with
  | 0, 0 => exact congrArg₂ (fun a l => Ideal.exp (a * l)) (ld_entry (a := 0) (b := 1) x3 _ _) h4
  | 0, 1 => exact congrArg₂ (fun a l => Ideal.exp (a * l)) (ld_entry (a := 0) (b := 3) x3 _ _) h5
  | 0, 2 => exact congrArg₂ (fun a l => Ideal.exp (a * l)) (ld_entry (a := 0) (b := 5) x3 _ _) h4
  | 0, 3 => exact congrArg₂ (fun a l => Ideal.exp (a * l)) (ld_entry (a := 0) (b := 7) x3 _ _) h5
  | 1, 0 => exact congrArg₂ (fun a l => Ideal.exp (a * l)) (ld_entry (a := 1) (b := 1) x3 _ _) h4
  | 1, 1 => exact congrArg₂ (fun a l => Ideal.exp (a * l)) (ld_entry (a := 1) (b := 3) x3 _ _) h5
  | 1, 2 => exact congrArg₂ (fun a l => Ideal.exp (a * l)) (ld_entry (a := 1) (b := 5) x3 _ _) h4
  | 1, 3 => exact congrArg₂ (fun a l => Ideal.exp (a * l)) (ld_entry (a := 1) (b := 7) x3 _ _) h5
  | 2, 0 => exact congrArg₂ (fun a l => Ideal.exp (a * l)) (ld_entry (a := 2) (b := 1) x3 _ _) h4
  | 2, 1 => exact congrArg₂ (fun a l => Ideal.exp (a * l)) (ld_entry (a := 2) (b := 3) x3 _ _) h5
  | 2, 2 => exact congrArg₂ (fun a l => Ideal.exp (a * l)) (ld_entry (a := 2) (b := 5) x3 _ _) h4
  | 2, 3 => exact congrArg₂ (fun a l => Ideal.exp (a * l)) (ld_entry (a := 2) (b := 7) x3 _ _) h5
  | 3, 0 => exact congrArg₂ (fun a l => Ideal.exp (a * l)) (ld_entry (a := 3) (b := 1) x3 _ _) h4
  | 3, 1 => exact congrArg₂ (fun a l => Ideal.exp (a * l)) (ld_entry (a := 3) (b := 3) x3 _ _) h5
  | 3, 2 => exact congrArg₂ (fun a l => Ideal.exp (a * l)) (ld_entry (a := 3) (b := 5) x3 _ _) h4
  | 3, 3 => exact congrArg₂ (fun a l => Ideal.exp (a * l)) (ld_entry (a := 3) (b := 7) x3 _ _) h5
end

end Cert.KernelIdeal.Block0

end
-- ==== Proof.KernelIdeal.Arr0.lean ====
module

public import proofs.«01_k».proof.Proof.KernelIdeal.Block0
public import Idealize.ShloMosaic.Lib.Pipeline.Value

@[expose] public section

set_option maxRecDepth 16384

noncomputable section

namespace Cert.KernelIdeal.Arr0

open Cert.KernelIdeal Cert.KernelIdeal.Gen Cert.KernelIdeal.Own.K0
open Idealize.ShloMosaic Idealize.ShloMosaic.TcCoe
open Idealize.SL Idealize.SL.RA
open Idealize.ShloMosaic.Pipeline (Dat)
open Cert.Spec

variable {Ix : Type} [DecidableEq Ix] {U : Type} [URA U] {Lvl : Type} [Preorder Lvl]
variable (𝒱₀ : Variants) (V : (c : Dev nD) → (b : Ref sig .tc) → Buf (Elt Ideal) ((c : Thread nD τ).loc b))

/-! What the preparation call leaves in its output array, from the contents of its operands at entry. -/

abbrev X0 (c : Dev nD) : Vec Ideal S10240x128 .f32 := V c (Pipeline.arrRef spec0 0)
abbrev X1 (c : Dev nD) : Vec Ideal S128x128 .f32 := V c (Pipeline.arrRef spec0 1)
abbrev X2 (c : Dev nD) : Vec Ideal S1x128 .f32 := V c (Pipeline.arrRef spec0 2)
abbrev X3 (c : Dev nD) : Vec Ideal S4x12 .f32 := V c (Pipeline.arrRef spec0 3)

theorem index_0 : ∀ t : Fin cfg0.N, win0_0.index t (0 : Fin 2) = t.val ∧ win0_0.index t (1 : Fin 2) = 0 :=
  (by decide +kernel : ∀ t : Fin grid0.N, _)
theorem index_out : ∀ t : Fin cfg0.N, win0_4.index t (0 : Fin 2) = t.val ∧ win0_4.index t (1 : Fin 2) = 0 :=
  (by decide +kernel : ∀ t : Fin grid0.N, _)
theorem flush_out : ∀ t : Fin cfg0.N, (cfg0.win 4).flush t = true :=
  (by decide +kernel : ∀ t : Fin grid0.N, win0_4.flush t = true)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)

/-- The features' block at a point. -/
theorem blk_0 (c : Dev nD) (t : Fin cfg0.N) (r : Fin 1024) (k : Fin 128) (i : Fin 10240) (hi : i.val = t.val * 1024 + r.val) :
    (iblk V c 0 t : Vec Ideal S1024x128 .f32) (ix2 r k) = X0 V c (ix2 i k) := by
  refine congrArg (X0 V c) (Shape.idx_ext₂ ?_ ?_)
  · exact ((win0_0.rect_emb_val t (ix2 r k) (0 : Fin 2)).trans (congrArg (fun n => n * 1024 + r.val) (index_0 t).1)).trans hi.symm
  · exact win0_0.rect_emb_val_of_index_zero t (1 : Fin 2) (index_0 t).2 (ix2 r k)

/-! The other operands are held whole. -/
theorem blk_1 (c : Dev nD) (t : Fin cfg0.N) : (iblk V c 1 t : Vec Ideal S128x128 .f32) = X1 V c := by
  funext y
  refine congrArg (X1 V c) (Shape.idx_ext₂ ?_ ?_)
  · exact win0_1.rect_emb_val_of_index_zero t (0 : Fin 2) (index_1 t).1 y
  · exact win0_1.rect_emb_val_of_index_zero t (1 : Fin 2) (index_1 t).2 y
theorem blk_2 (c : Dev nD) (t : Fin cfg0.N) : (iblk V c 2 t : Vec Ideal S1x128 .f32) = X2 V c := by
  funext y
  refine congrArg (X2 V c) (Shape.idx_ext₂ ?_ ?_)
  · exact win0_2.rect_emb_val_of_index_zero t (0 : Fin 2) (index_2 t).1 y
  · exact win0_2.rect_emb_val_of_index_zero t (1 : Fin 2) (index_2 t).2 y
theorem blk_3 (c : Dev nD) (t : Fin cfg0.N) : (iblk V c 3 t : Vec Ideal S4x12 .f32) = X3 V c := by
  funext y
  refine congrArg (X3 V c) (Shape.idx_ext₂ ?_ ?_)
  · exact win0_3.rect_emb_val_of_index_zero t (0 : Fin 2) (index_3 t).1 y
  · exact win0_3.rect_emb_val_of_index_zero t (1 : Fin 2) (index_3 t).2 y

/-- What a point leaves in the output's staging buffer. -/
theorem outsAt_apply (c : Dev nD) (t : Fin cfg0.N) (r : Fin 1024) (i : Fin 10240) (j p : Fin 4) (u : Fin 128) (hi : i.val = t.val * 1024 + r.val) :
    outsAt0 (Ix := Ix) (U := U) (Lvl := Lvl) 𝒱₀ V c t (ix2 r (col j p u))
      = kpow (fun a b => X3 V c (ix2 a b)) (sigm ((∑ k : Fin 128, X0 V c (ix2 i k) * X1 V c (ix2 k u)) + X2 V c (ix2 0 u))) j p := by
  unfold outsAt0
  refine (Block0.out_eq (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t)
    (iblk V c 0 t) (iblk V c 1 t) (iblk V c 2 t) (iblk V c 3 t) r j p u).trans ?_
  rw [blk_1, blk_2, blk_3]
  simp only [blk_0 V c t r _ i hi]

variable (D : (c : Dev nD) → CellTallies nD τ sig Ix)

/-- The output array after the call, at an element. -/
theorem arr_apply (c : Dev nD) (i : Fin 10240) (j p : Fin 4) (u : Fin 128) :
    ((dat (Ix := Ix) (U := U) (Lvl := Lvl) 𝒱₀ V D c).arrAt 4 cfg0.N : Vec Ideal S10240x2048 .bf16) (ix2 i (col j p u))
      = kpow (fun a b => X3 V c (ix2 a b)) (sigm ((∑ k : Fin 128, X0 V c (ix2 i k) * X1 V c (ix2 k u)) + X2 V c (ix2 0 u))) j p := by
  refine Dat.arrAt_forall_of_cover (dat (Ix := Ix) (U := U) (Lvl := Lvl) 𝒱₀ V D c) 4
    (fun idx x => ∀ (i : Fin 10240) (j p : Fin 4) (u : Fin 128), idx = ix2 i (col j p u) → x = kpow (fun a b => X3 V c (ix2 a b)) (sigm ((∑ k : Fin 128, X0 V c (ix2 i k) * X1 V c (ix2 k u)) + X2 V c (ix2 0 u))) j p) ?_ ?_ (ix2 i (col j p u)) i j p u rfl
  · intro t hf y i j p u hy
    have e0 : i.val = t.val * 1024 + (y (0 : Fin 2)).val :=
      (congrArg Fin.val (congrFun hy (0 : Fin 2))).symm.trans ((win0_4.rect_emb_val t y (0 : Fin 2)).trans (congrArg (fun n => n * 1024 + (y (0 : Fin 2)).val) (index_out t).1))
    have e1 : (y (1 : Fin 2)).val = ((ix2 i (col j p u) : S10240x2048.Idx) (1 : Fin 2)).val :=
      (win0_4.rect_emb_val_of_index_zero t (1 : Fin 2) (index_out t).2 y).symm.trans (congrArg Fin.val (congrFun hy (1 : Fin 2)))
    have hy' : (y : S1024x2048.Idx) = ix2 (y (0 : Fin 2)) (col j p u) := Shape.idx_ext₂ rfl e1
    show (cfg0.win 4).cut (grid0.coords t) ((dat (Ix := Ix) (U := U) (Lvl := Lvl) 𝒱₀ V D c).after 4 t) y = _
    rw [after0_4]
    exact (congrArg (outsAt0 (Ix := Ix) (U := U) (Lvl := Lvl) 𝒱₀ V c t) hy').trans (outsAt_apply 𝒱₀ V c t (y (0 : Fin 2)) i j p u e0)
  · intro idx
    have h0 : (idx (0 : Fin 2)).val < 10240 := (idx (0 : Fin 2)).isLt
    have h1 : (idx (1 : Fin 2)).val < 2048 := (idx (1 : Fin 2)).isLt
    have hN : cfg0.N = 10 := N_0
    have ht : (idx (0 : Fin 2)).val / 1024 < cfg0.N := by omega
    refine ⟨⟨(idx (0 : Fin 2)).val / 1024, ht⟩, flush_out _, ?_⟩
    show idx ∈ ((View.whole main_v23).slice (win0_4.rect ⟨(idx (0 : Fin 2)).val / 1024, ht⟩)).set
    rw [View.set_slice_whole, Rect.mem_set_unit]
    obtain ⟨i0, i1⟩ := index_out ⟨(idx (0 : Fin 2)).val / 1024, ht⟩
    intro a
    match a with
    | ⟨0, _⟩ =>
      show win0_4.index _ (0 : Fin 2) * 1024 ≤ (idx (0 : Fin 2)).val ∧ (idx (0 : Fin 2)).val < win0_4.index _ (0 : Fin 2) * 1024 + 1024
      rw [i0]; dsimp only; omega
    | ⟨1, _⟩ =>
      show win0_4.index _ (1 : Fin 2) * 2048 ≤ (idx (1 : Fin 2)).val ∧ (idx (1 : Fin 2)).val < win0_4.index _ (1 : Fin 2) * 2048 + 2048
      rw [i1]; omega

end Cert.KernelIdeal.Arr0

end
-- ==== Proof.KernelIdeal.Block1.lean ====
module

public import proofs.«01_k».proof.Proof.KernelIdeal.Run1
public import proofs.«01_k».proof.Proof.KernelIdeal.Block0
public import Idealize.ShloMosaic.Lib.Pipeline.Value
public import Idealize.ShloMosaic.Lib.Pointwise

@[expose] public section

set_option maxRecDepth 16384

noncomputable section

namespace Cert.KernelIdeal.Block1

open Cert.KernelIdeal Cert.KernelIdeal.Gen Cert.KernelIdeal.Sweep1
open Idealize.ShloMosaic Idealize.ShloMosaic.TcCoe
open Idealize.SL Idealize.SL.RA
open Cert.Spec

section
variable {L : Fin 4 → Fin 12 → EReal} {V : Fin 128 → EReal} (v : FVec Ideal S1024x128 .f32) (g b : Vec Ideal S1x128 .f32) (w : Vec Ideal S128x128 .f32) (r : Fin 1024)

/-- The sigmoid of the next layer's product, at an element of a block. -/
theorem sigm_apply (hv : ∀ k, v (ix2 r k) = V k) (t : Fin 128) :
    k1_pay24 v (k1_pay23 g) (Ideal.ofBits .f32 0x3F7FFFAC#32) b w (ix2 r t) = sigm (∑ k : Fin 128, max (V k * (g (ix2 0 k) * (Ideal.ofBits .f32 0x3F7FFFAC#32)) + b (ix2 0 k)) 0 * w (ix2 k t)) := by
  unfold k1_pay24 k1_pay23 sigm
  simp only [← hv]
  pointwise [dot_S1024x128_S128x128_S1024x128_1_0_0_1_n_n, shapeCast_self]

/-- The sixteen groups of powers side by side, at a column. -/
theorem powers_apply (hv : ∀ k, v (ix2 r k) = V k) (a0 a1 a2 a3 a4 a5 a6 a7 a8 a9 a10 a11 a12 a13 a14 a15 : EReal)
    (h0 : a0 = L 0 1) (h1 : a1 = L 0 3) (h2 : a2 = L 0 5) (h3 : a3 = L 0 7) (h4 : a4 = L 1 1) (h5 : a5 = L 1 3) (h6 : a6 = L 1 5) (h7 : a7 = L 1 7) (h8 : a8 = L 2 1) (h9 : a9 = L 2 3) (h10 : a10 = L 2 5) (h11 : a11 = L 2 7) (h12 : a12 = L 3 1) (h13 : a13 = L 3 3) (h14 : a14 = L 3 5) (h15 : a15 = L 3 7)
    (j p : Fin 4) (t : Fin 128) :
    k1_pay5 (k1_pay27 v (k1_pay23 g) (Ideal.ofBits .f32 0x3F7FFFAC#32) b w a0) (k1_pay28 v (k1_pay23 g) (Ideal.ofBits .f32 0x3F7FFFAC#32) b w a1) (k1_pay29 v (k1_pay23 g) (Ideal.ofBits .f32 0x3F7FFFAC#32) b w a2) (k1_pay30 v (k1_pay23 g) (Ideal.ofBits .f32 0x3F7FFFAC#32) b w a3) (k1_pay31 (k1_pay25 v (k1_pay23 g) (Ideal.ofBits .f32 0x3F7FFFAC#32) b w) a4) (k1_pay32 (k1_pay26 v (k1_pay23 g) (Ideal.ofBits .f32 0x3F7FFFAC#32) b w) a5) (k1_pay33 (k1_pay25 v (k1_pay23 g) (Ideal.ofBits .f32 0x3F7FFFAC#32) b w) a6) (k1_pay34 (k1_pay26 v (k1_pay23 g) (Ideal.ofBits .f32 0x3F7FFFAC#32) b w) a7) (k1_pay35 (k1_pay25 v (k1_pay23 g) (Ideal.ofBits .f32 0x3F7FFFAC#32) b w) a8) (k1_pay36 (k1_pay26 v (k1_pay23 g) (Ideal.ofBits .f32 0x3F7FFFAC#32) b w) a9) (k1_pay37 (k1_pay25 v (k1_pay23 g) (Ideal.ofBits .f32 0x3F7FFFAC#32) b w) a10) (k1_pay38 (k1_pay26 v (k1_pay23 g) (Ideal.ofBits .f32 0x3F7FFFAC#32) b w) a11) (k1_pay39 (k1_pay25 v (k1_pay23 g) (Ideal.ofBits .f32 0x3F7FFFAC#32) b w) a12) (k1_pay40 (k1_pay26 v (k1_pay23 g) (Ideal.ofBits .f32 0x3F7FFFAC#32) b w) a13) (k1_pay3 (k1_pay25 v (k1_pay23 g) (Ideal.ofBits .f32 0x3F7FFFAC#32) b w) a14) (k1_pay4 (k1_pay26 v (k1_pay23 g) (Ideal.ofBits .f32 0x3F7FFFAC#32) b w) a15) (ix2 r (col j p t))
      = kpow L (sigm (∑ k : Fin 128, max (V k * (g (ix2 0 k) * (Ideal.ofBits .f32 0x3F7FFFAC#32)) + b (ix2 0 k)) 0 * w (ix2 k t))) j p := by
  refine (concat_col (M := 1024) ![(k1_pay27 v (k1_pay23 g) (Ideal.ofBits .f32 0x3F7FFFAC#32) b w a0), (k1_pay28 v (k1_pay23 g) (Ideal.ofBits .f32 0x3F7FFFAC#32) b w a1), (k1_pay29 v (k1_pay23 g) (Ideal.ofBits .f32 0x3F7FFFAC#32) b w a2), (k1_pay30 v (k1_pay23 g) (Ideal.ofBits .f32 0x3F7FFFAC#32) b w a3), (k1_pay31 (k1_pay25 v (k1_pay23 g) (Ideal.ofBits .f32 0x3F7FFFAC#32) b w) a4), (k1_pay32 (k1_pay26 v (k1_pay23 g) (Ideal.ofBits .f32 0x3F7FFFAC#32) b w) a5), (k1_pay33 (k1_pay25 v (k1_pay23 g) (Ideal.ofBits .f32 0x3F7FFFAC#32) b w) a6), (k1_pay34 (k1_pay26 v (k1_pay23 g) (Ideal.ofBits .f32 0x3F7FFFAC#32) b w) a7), (k1_pay35 (k1_pay25 v (k1_pay23 g) (Ideal.ofBits .f32 0x3F7FFFAC#32) b w) a8), (k1_pay36 (k1_pay26 v (k1_pay23 g) (Ideal.ofBits .f32 0x3F7FFFAC#32) b w) a9), (k1_pay37 (k1_pay25 v (k1_pay23 g) (Ideal.ofBits .f32 0x3F7FFFAC#32) b w) a10), (k1_pay38 (k1_pay26 v (k1_pay23 g) (Ideal.ofBits .f32 0x3F7FFFAC#32) b w) a11), (k1_pay39 (k1_pay25 v (k1_pay23 g) (Ideal.ofBits .f32 0x3F7FFFAC#32) b w) a12), (k1_pay40 (k1_pay26 v (k1_pay23 g) (Ideal.ofBits .f32 0x3F7FFFAC#32) b w) a13), exp (k1_pay3 (k1_pay25 v (k1_pay23 g) (Ideal.ofBits .f32 0x3F7FFFAC#32) b w) a14), exp (k1_pay4 (k1_pay26 v (k1_pay23 g) (Ideal.ofBits .f32 0x3F7FFFAC#32) b w) a15)] concatenates_S1024x128_S1024x128_S1024x128_S1024x128_S1024x128_S1024x128_S1024x128_S1024x128_S1024x128_S1024x128_S1024x128_S1024x128_S1024x128_S1024x128_S1024x128_S1024x128_S1024x2048_d1 r j p t).trans ?_
  have h24 := sigm_apply v g b w r hv t
  have h25 : k1_pay25 v (k1_pay23 g) (Ideal.ofBits .f32 0x3F7FFFAC#32) b w (ix2 r t) = Ideal.log (sigm (∑ k : Fin 128, max (V k * (g (ix2 0 k) * (Ideal.ofBits .f32 0x3F7FFFAC#32)) + b (ix2 0 k)) 0 * w (ix2 k t))) :=
    congrArg Ideal.log h24
  have h26 : k1_pay26 v (k1_pay23 g) (Ideal.ofBits .f32 0x3F7FFFAC#32) b w (ix2 r t) = Ideal.log (1 - sigm (∑ k : Fin 128, max (V k * (g (ix2 0 k) * (Ideal.ofBits .f32 0x3F7FFFAC#32)) + b (ix2 0 k)) 0 * w (ix2 k t))) := by
    rw [← h24]
    exact congrArg (fun o => Ideal.log (o - k1_pay24 v (k1_pay23 g) (Ideal.ofBits .f32 0x3F7FFFAC#32) b w (ix2 r t))) Ideal.ofBits_one_f32
  unfold kpow
  generalize sigm _ = z at h25 h26
  match j, p with
  | 0, 0 => exact congrArg₂ (fun a l => Ideal.exp (a * l)) h0 h25
  | 0, 1 => exact congrArg₂ (fun a l => Ideal.exp (a * l)) h1 h26
  | 0, 2 => exact congrArg₂ (fun a l => Ideal.exp (a * l)) h2 h25
  | 0, 3 => exact congrArg₂ (fun a l => Ideal.exp (a * l)) h3 h26
  | 1, 0 => exact congrArg₂ (fun a l => Ideal.exp (a * l)) h4 h25
  | 1, 1 => exact congrArg₂ (fun a l => Ideal.exp (a * l)) h5 h26
  | 1, 2 => exact congrArg₂ (fun a l => Ideal.exp (a * l)) h6 h25
  | 1, 3 => exact congrArg₂ (fun a l => Ideal.exp (a * l)) h7 h26
  | 2, 0 => exact congrArg₂ (fun a l => Ideal.exp (a * l)) h8 h25
  | 2, 1 => exact congrArg₂ (fun a l => Ideal.exp (a * l)) h9 h26
  | 2, 2 => exact congrArg₂ (fun a l => Ideal.exp (a * l)) h10 h25
  | 2, 3 => exact congrArg₂ (fun a l => Ideal.exp (a * l)) h11 h26
  | 3, 0 => exact congrArg₂ (fun a l => Ideal.exp (a * l)) h12 h25
  | 3, 1 => exact congrArg₂ (fun a l => Ideal.exp (a * l)) h13 h26
  | 3, 2 => exact congrArg₂ (fun a l => Ideal.exp (a * l)) h14 h25
  | 3, 3 => exact congrArg₂ (fun a l => Ideal.exp (a * l)) h15 h26

end

variable {Ix : Type} [DecidableEq Ix] {U : Type} [URA U] {Lvl : Type} [Preorder Lvl]
variable (𝒱₀ : Variants)

/-- What the last column block of a layer call leaves in an output block: the powers of the sigmoid of the next layer's product, from
    the sums the accumulator then holds. -/
theorem out_eq (c : Dev nD) (i : grid1.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec Ideal S1024x2048 .bf16) (x1 : Vec Ideal S2048x2048 .bf16) (x2 : Vec Ideal S4x12 .f32) (x3 : Vec Ideal S1x128 .f32) (x4 : Vec Ideal S1x128 .f32) (x5 : Vec Ideal S1x128 .f32) (x6 : Vec Ideal S128x128 .f32) (x7 : Vec Ideal S4x12 .f32) (xs : Vec Ideal S1024x2048 .f32)
    (r : Fin 1024) (j p : Fin 4) (t : Fin 128) :
    Sweep1.outC (F := Ideal) (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs (ix2 r (col j p t))
      = kpow (fun a b => x7 (ix2 a b)) (sigm (∑ k : Fin 128, max ((kmean (fun a b => x2 (ix2 a b)) (fun j p => (k1_pay2 xs x0 x1 : Vec Ideal S1024x2048 .f32) (ix2 r (col j p k))) + x3 (ix2 0 k))
          * (x4 (ix2 0 k) * (Ideal.ofBits .f32 0x3F7FFFAC#32)) + x5 (ix2 0 k)) 0 * x6 (ix2 k t))) j p := by
  unfold Sweep1.outC
  rw [View.read_writes_eq_canon _ _ _ (Sweep1.coverC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs)]
  unfold Sweep1.runC
  dsimp only
  rw [View.canon_unit_zero Sweep1.hz]
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x2048) Sweep1.hz, View.ld_unit_zero (S := S1024x128) Sweep1.hz, View.ld_unit_zero (S := S2048x2048) Sweep1.hz, View.ld_unit_zero (S := S1x128) Sweep1.hz, View.ld_unit_zero (S := S128x128) Sweep1.hz, View.readCov_unit_zero (S := S1024x2048) _ Sweep1.hz]
  generalize k1_pay2 xs x0 x1 = A
  refine powers_apply (L := fun a b => x7 (ix2 a b)) (V := fun k => kmean (fun a b => x2 (ix2 a b)) (fun j p => A (ix2 r (col j p k))) + x3 (ix2 0 k)) _ x4 x5 x6 r (fun k => ?_) _ _ _ _ _ _ _ _ _ _ _ _ _ _ _ _ (Block0.ld_entry (a := 0) (b := 1) x7 _ _) (Block0.ld_entry (a := 0) (b := 3) x7 _ _) (Block0.ld_entry (a := 0) (b := 5) x7 _ _) (Block0.ld_entry (a := 0) (b := 7) x7 _ _) (Block0.ld_entry (a := 1) (b := 1) x7 _ _) (Block0.ld_entry (a := 1) (b := 3) x7 _ _) (Block0.ld_entry (a := 1) (b := 5) x7 _ _) (Block0.ld_entry (a := 1) (b := 7) x7 _ _) (Block0.ld_entry (a := 2) (b := 1) x7 _ _) (Block0.ld_entry (a := 2) (b := 3) x7 _ _) (Block0.ld_entry (a := 2) (b := 5) x7 _ _) (Block0.ld_entry (a := 2) (b := 7) x7 _ _) (Block0.ld_entry (a := 3) (b := 1) x7 _ _) (Block0.ld_entry (a := 3) (b := 3) x7 _ _) (Block0.ld_entry (a := 3) (b := 5) x7 _ _) (Block0.ld_entry (a := 3) (b := 7) x7 _ _) j p t
  unfold k1_pay6 k1_pay7 k1_pay8 k1_pay9 k1_pay10 k1_pay11 k1_pay12 k1_pay13 k1_pay14 k1_pay15 k1_pay16 k1_pay17 k1_pay18 k1_pay19 k1_pay20 k1_pay21 k1_pay22
  pointwise [shapeCast_self]
  have h0 (h : (k : ℕ) < 2048) : (⟨k, h⟩ : Fin 2048) = col 0 0 k := Fin.ext (by show (k : ℕ) = _; simp [col])
  rw [h0]
  rfl

end Cert.KernelIdeal.Block1

end
-- ==== Proof.KernelIdeal.Arr1.lean ====
module

public import proofs.«01_k».proof.Proof.KernelIdeal.Body1
public import proofs.«01_k».proof.Proof.KernelIdeal.Block1

@[expose] public section

set_option maxRecDepth 16384

noncomputable section

namespace Cert.KernelIdeal.Arr1

open Cert.KernelIdeal Cert.KernelIdeal.Gen Cert.KernelIdeal.Sweep1
open Idealize.ShloMosaic Idealize.ShloMosaic.TcCoe
open Idealize.SL Idealize.SL.RA
open Idealize.ShloMosaic.Pipeline (Dat)
open Cert.Spec

variable {Ix : Type} [DecidableEq Ix] {U : Type} [URA U] {Lvl : Type} [Preorder Lvl]
variable (𝒱₀ : Variants) (V : (c : Dev nD) → (b : Ref sig .tc) → Buf (Elt Ideal) ((c : Thread nD τ).loc b))

/-! What custom call 1 leaves in its output array, from the contents of its operands at entry. -/

/-! The operands' contents at entry. -/
abbrev X0 (c : Dev nD) : Vec Ideal S10240x10240 .bf16 := V c (Pipeline.arrRef spec1 0)
abbrev X1 (c : Dev nD) : Vec Ideal S10240x2048 .bf16 := V c (Pipeline.arrRef spec1 1)
abbrev X2 (c : Dev nD) : Vec Ideal S4x12 .f32 := V c (Pipeline.arrRef spec1 2)
abbrev X3 (c : Dev nD) : Vec Ideal S1x128 .f32 := V c (Pipeline.arrRef spec1 3)
abbrev X4 (c : Dev nD) : Vec Ideal S1x128 .f32 := V c (Pipeline.arrRef spec1 4)
abbrev X5 (c : Dev nD) : Vec Ideal S1x128 .f32 := V c (Pipeline.arrRef spec1 5)
abbrev X6 (c : Dev nD) : Vec Ideal S128x128 .f32 := V c (Pipeline.arrRef spec1 6)
abbrev X7 (c : Dev nD) : Vec Ideal S4x12 .f32 := V c (Pipeline.arrRef spec1 7)

/-- The product of the adjacency's row `i` with the operand's column `q`. -/
def total (c : Dev nD) (i : Fin 10240) (q : Fin 2048) : EReal := ∑ s : Fin 10240, X0 V c (ix2 i s) * X1 V c (ix2 s q)

theorem index_0 : ∀ t : Fin cfg1.N, win1_0.index t (0 : Fin 2) = t.val / 5 ∧ win1_0.index t (1 : Fin 2) = t.val % 5 :=
  (by decide +kernel : ∀ t : Fin grid1.N, _)
theorem index_1 : ∀ t : Fin cfg1.N, win1_1.index t (0 : Fin 2) = t.val % 5 ∧ win1_1.index t (1 : Fin 2) = 0 :=
  (by decide +kernel : ∀ t : Fin grid1.N, _)
theorem index_out : ∀ t : Fin cfg1.N, win1_8.index t (0 : Fin 2) = t.val / 5 ∧ win1_8.index t (1 : Fin 2) = 0 :=
  (by decide +kernel : ∀ t : Fin grid1.N, _)
theorem flush_out : ∀ t : Fin cfg1.N, (cfg1.win 8).flush t = true ↔ t.val % 5 = 4 :=
  (by decide +kernel : ∀ t : Fin grid1.N, win1_8.flush t = true ↔ t.val % 5 = 4)
theorem index_2 : ∀ t : Fin cfg1.N, win1_2.index t (0 : Fin 2) = 0 ∧ win1_2.index t (1 : Fin 2) = 0 :=
  (by decide +kernel : ∀ t : Fin grid1.N, _)
theorem index_3 : ∀ t : Fin cfg1.N, win1_3.index t (0 : Fin 2) = 0 ∧ win1_3.index t (1 : Fin 2) = 0 :=
  (by decide +kernel : ∀ t : Fin grid1.N, _)
theorem index_4 : ∀ t : Fin cfg1.N, win1_4.index t (0 : Fin 2) = 0 ∧ win1_4.index t (1 : Fin 2) = 0 :=
  (by decide +kernel : ∀ t : Fin grid1.N, _)
theorem index_5 : ∀ t : Fin cfg1.N, win1_5.index t (0 : Fin 2) = 0 ∧ win1_5.index t (1 : Fin 2) = 0 :=
  (by decide +kernel : ∀ t : Fin grid1.N, _)
theorem index_6 : ∀ t : Fin cfg1.N, win1_6.index t (0 : Fin 2) = 0 ∧ win1_6.index t (1 : Fin 2) = 0 :=
  (by decide +kernel : ∀ t : Fin grid1.N, _)
theorem index_7 : ∀ t : Fin cfg1.N, win1_7.index t (0 : Fin 2) = 0 ∧ win1_7.index t (1 : Fin 2) = 0 :=
  (by decide +kernel : ∀ t : Fin grid1.N, _)

/-! The blocks of the two large operands at a point. -/
abbrev blkA (c : Dev nD) (t : Fin cfg1.N) : Vec Ideal S1024x2048 .bf16 := iblk V c 0 t
abbrev blkB (c : Dev nD) (t : Fin cfg1.N) : Vec Ideal S2048x2048 .bf16 := iblk V c 1 t

/-- The adjacency's block at a point. -/
theorem blk_0 (c : Dev nD) (t : Fin cfg1.N) (r : Fin 1024) (s : Fin 2048) (i : Fin 10240) (s' : Fin 10240)
    (hi : i.val = t.val / 5 * 1024 + r.val) (hs : s'.val = t.val % 5 * 2048 + s.val) :
    blkA V c t (ix2 r s) = X0 V c (ix2 i s') := by
  refine congrArg (X0 V c) (Shape.idx_ext₂ ?_ ?_)
  · exact ((win1_0.rect_emb_val t (ix2 r s) (0 : Fin 2)).trans (congrArg (fun n => n * 1024 + r.val) (index_0 t).1)).trans hi.symm
  · exact ((win1_0.rect_emb_val t (ix2 r s) (1 : Fin 2)).trans (congrArg (fun n => n * 2048 + s.val) (index_0 t).2)).trans hs.symm

/-- The other operand's block at a point. -/
theorem blk_1 (c : Dev nD) (t : Fin cfg1.N) (s : Fin 2048) (q : Fin 2048) (s' : Fin 10240) (hs : s'.val = t.val % 5 * 2048 + s.val) :
    blkB V c t (ix2 s q) = X1 V c (ix2 s' q) := by
  refine congrArg (X1 V c) (Shape.idx_ext₂ ?_ ?_)
  · exact ((win1_1.rect_emb_val t (ix2 s q) (0 : Fin 2)).trans (congrArg (fun n => n * 2048 + s.val) (index_1 t).1)).trans hs.symm
  · exact win1_1.rect_emb_val_of_index_zero t (1 : Fin 2) (index_1 t).2 (ix2 s q)

/-! The other operands are held whole. -/
theorem blk_2 (c : Dev nD) (t : Fin cfg1.N) : (iblk V c 2 t : Vec Ideal S4x12 .f32) = X2 V c := by
  funext y
  refine congrArg (X2 V c) (Shape.idx_ext₂ ?_ ?_)
  · exact win1_2.rect_emb_val_of_index_zero t (0 : Fin 2) (index_2 t).1 y
  · exact win1_2.rect_emb_val_of_index_zero t (1 : Fin 2) (index_2 t).2 y
theorem blk_3 (c : Dev nD) (t : Fin cfg1.N) : (iblk V c 3 t : Vec Ideal S1x128 .f32) = X3 V c := by
  funext y
  refine congrArg (X3 V c) (Shape.idx_ext₂ ?_ ?_)
  · exact win1_3.rect_emb_val_of_index_zero t (0 : Fin 2) (index_3 t).1 y
  · exact win1_3.rect_emb_val_of_index_zero t (1 : Fin 2) (index_3 t).2 y
theorem blk_4 (c : Dev nD) (t : Fin cfg1.N) : (iblk V c 4 t : Vec Ideal S1x128 .f32) = X4 V c := by
  funext y
  refine congrArg (X4 V c) (Shape.idx_ext₂ ?_ ?_)
  · exact win1_4.rect_emb_val_of_index_zero t (0 : Fin 2) (index_4 t).1 y
  · exact win1_4.rect_emb_val_of_index_zero t (1 : Fin 2) (index_4 t).2 y
theorem blk_5 (c : Dev nD) (t : Fin cfg1.N) : (iblk V c 5 t : Vec Ideal S1x128 .f32) = X5 V c := by
  funext y
  refine congrArg (X5 V c) (Shape.idx_ext₂ ?_ ?_)
  · exact win1_5.rect_emb_val_of_index_zero t (0 : Fin 2) (index_5 t).1 y
  · exact win1_5.rect_emb_val_of_index_zero t (1 : Fin 2) (index_5 t).2 y
theorem blk_6 (c : Dev nD) (t : Fin cfg1.N) : (iblk V c 6 t : Vec Ideal S128x128 .f32) = X6 V c := by
  funext y
  refine congrArg (X6 V c) (Shape.idx_ext₂ ?_ ?_)
  · exact win1_6.rect_emb_val_of_index_zero t (0 : Fin 2) (index_6 t).1 y
  · exact win1_6.rect_emb_val_of_index_zero t (1 : Fin 2) (index_6 t).2 y
theorem blk_7 (c : Dev nD) (t : Fin cfg1.N) : (iblk V c 7 t : Vec Ideal S4x12 .f32) = X7 V c := by
  funext y
  refine congrArg (X7 V c) (Shape.idx_ext₂ ?_ ?_)
  · exact win1_7.rect_emb_val_of_index_zero t (0 : Fin 2) (index_7 t).1 y
  · exact win1_7.rect_emb_val_of_index_zero t (1 : Fin 2) (index_7 t).2 y

/-- One point's step of the accumulator, at an element. -/
theorem step_apply (xs : Vec Ideal S1024x2048 .f32) (a : Vec Ideal S1024x2048 .bf16) (b : Vec Ideal S2048x2048 .bf16) (r : Fin 1024) (q : Fin 2048) :
    k1_pay2 xs a b (ix2 r q) = xs (ix2 r q) + ∑ s : Fin 2048, a (ix2 r s) * b (ix2 s q) := by
  unfold k1_pay2
  pointwise [dot_S1024x2048_S2048x2048_S1024x2048_1_0_0_1_n_n, shapeCast_self]

/-- The accumulator's start, at an element. -/
theorem start_apply (r : Fin 1024) (q : Fin 2048) : (k1_pay1 (F := Ideal)) (ix2 r q) = (0 : EReal) := by
  unfold k1_pay1
  pointwise [shapeCast_self]

/-- One summand of the product, by the column's number. -/
def summand (c : Dev nD) (i : Fin 10240) (q : Fin 2048) (s : ℕ) : EReal :=
  if h : s < 10240 then X0 V c (ix2 i ⟨s, h⟩) * X1 V c (ix2 ⟨s, h⟩ q) else 0

/-- One column block's share of the product. -/
theorem share_eq (c : Dev nD) (t : Fin cfg1.N) (r : Fin 1024) (q : Fin 2048) (i : Fin 10240) (hi : i.val = t.val / 5 * 1024 + r.val) :
    ∑ s : Fin 2048, blkA V c t (ix2 r s) * blkB V c t (ix2 s q)
      = ∑ s ∈ Finset.range 2048, summand V c i q (t.val % 5 * 2048 + s) := by
  rw [Finset.sum_range]
  refine Finset.sum_congr rfl fun s _ => ?_
  have hlt : t.val % 5 * 2048 + s.val < 10240 := by have := Nat.mod_lt t.val (show 0 < 5 by decide); have := s.isLt; omega
  unfold summand
  rw [dif_pos hlt, blk_0 V c t r s i ⟨_, hlt⟩ hi rfl, blk_1 V c t s q ⟨_, hlt⟩ rfl]

/-- The accumulator after a point: the summands of the column blocks so far. -/
theorem acc_apply (c : Dev nD) (q : Fin 2048) (r : Fin 1024) (i : Fin 10240) (n : ℕ) : ∀ (t : Fin cfg1.N), t.val % 5 = n → i.val = t.val / 5 * 1024 + r.val →
    acc V c t.val t.isLt (ix2 r q) = ∑ s ∈ Finset.range ((n + 1) * 2048), summand V c i q s := by
  induction n with
  | zero =>
    intro t ht hi
    rw [acc_first V c t ht, step_apply, start_apply, share_eq V c t r q i hi, ht, zero_add]
    simp only [Nat.zero_mul, Nat.zero_add, Nat.one_mul]
  | succ n ih =>
    intro t ht hi
    have h0 : ¬t.val % 5 = 0 := by omega
    have hlt : t.val - 1 < cfg1.N := lt_of_le_of_lt (Nat.sub_le _ _) t.isLt
    have e := ih ⟨t.val - 1, hlt⟩ (by show (t.val - 1) % 5 = n; omega) (by show i.val = (t.val - 1) / 5 * 1024 + r.val; rw [hi]; congr 2; omega)
    rw [acc_next V c t h0, step_apply, share_eq V c t r q i hi, ht]
    rw [show (n + 1 + 1) * 2048 = (n + 1) * 2048 + 2048 by omega, Finset.sum_range_add]
    exact congrArg (· + _) e

/-- After a row block's last column block the accumulator holds the whole product. -/
theorem acc_last (c : Dev nD) (t : Fin cfg1.N) (ht : t.val % 5 = 4) (r : Fin 1024) (q : Fin 2048) (i : Fin 10240) (hi : i.val = t.val / 5 * 1024 + r.val) :
    acc V c t.val t.isLt (ix2 r q) = total V c i q := by
  rw [acc_apply V c q r i 4 t ht hi]
  show ∑ s ∈ Finset.range 10240, _ = _
  rw [Finset.sum_range]
  refine Finset.sum_congr rfl fun s _ => ?_
  unfold summand
  rw [dif_pos s.isLt]

/-- What a last point leaves in the output's staging buffer. -/
theorem outsAt_apply (c : Dev nD) (t : Fin cfg1.N) (ht : t.val % 5 = 4) (r : Fin 1024) (i : Fin 10240) (j p : Fin 4) (u : Fin 128) (hi : i.val = t.val / 5 * 1024 + r.val) :
    outsAt (Ix := Ix) (U := U) (Lvl := Lvl) 𝒱₀ V c t (ix2 r (col j p u))
      = kpow (fun a b => X7 V c (ix2 a b)) (sigm (∑ k : Fin 128, max ((kmean (fun a b => X2 V c (ix2 a b)) (fun j p => total V c i (col j p k)) + X3 V c (ix2 0 k))
          * (X4 V c (ix2 0 k) * (Ideal.ofBits .f32 0x3F7FFFAC#32)) + X5 V c (ix2 0 k)) 0 * X6 V c (ix2 k u))) j p := by
  have h0 : ¬cond_first (grid1.coords t) := fun h => by have := (hcond_first t).mp h; omega
  have h1 : cond_last (grid1.coords t) := (hcond_last t).mpr ht
  rw [outsAt_last (Ix := Ix) (U := U) (Lvl := Lvl) 𝒱₀ V c t h0 h1]
  refine (Block1.out_eq (Ix := Ix) (U := U) (Lvl := Lvl) 𝒱₀ c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h0 h1
    (iblk V c 0 t) (iblk V c 1 t) (iblk V c 2 t) (iblk V c 3 t) (iblk V c 4 t) (iblk V c 5 t) (iblk V c 6 t) (iblk V c 7 t) _ r j p u).trans ?_
  have e : ∀ (j p : Fin 4) (k : Fin 128), (k1_pay2 (acc V c (t.val - 1) (by have := t.isLt; omega)) (iblk V c 0 t) (iblk V c 1 t) : Vec Ideal S1024x2048 .f32) (ix2 r (col j p k)) = total V c i (col j p k) :=
    fun j p k => (congrFun (acc_next V c t (by omega)).symm _).trans (acc_last V c t ht r (col j p k) i hi)
  rw [blk_2, blk_3, blk_4, blk_5, blk_6, blk_7]
  simp only [e]

variable (D : (c : Dev nD) → CellTallies nD τ sig Ix)

/-- The output array after the call, at an element. -/
theorem arr_apply (c : Dev nD) (i : Fin 10240) (j p : Fin 4) (u : Fin 128) :
    ((dat (Ix := Ix) (U := U) (Lvl := Lvl) 𝒱₀ V D c).arrAt 8 cfg1.N : Vec Ideal S10240x2048 .bf16) (ix2 i (col j p u))
      = kpow (fun a b => X7 V c (ix2 a b)) (sigm (∑ k : Fin 128, max ((kmean (fun a b => X2 V c (ix2 a b)) (fun j p => total V c i (col j p k)) + X3 V c (ix2 0 k))
          * (X4 V c (ix2 0 k) * (Ideal.ofBits .f32 0x3F7FFFAC#32)) + X5 V c (ix2 0 k)) 0 * X6 V c (ix2 k u))) j p := by
  refine Dat.arrAt_forall_of_cover (dat (Ix := Ix) (U := U) (Lvl := Lvl) 𝒱₀ V D c) 8
    (fun idx x => ∀ (i : Fin 10240) (j p : Fin 4) (u : Fin 128), idx = (ix2 i (col j p u)) → x = kpow (fun a b => X7 V c (ix2 a b)) (sigm (∑ k : Fin 128, max ((kmean (fun a b => X2 V c (ix2 a b)) (fun j p => total V c i (col j p k)) + X3 V c (ix2 0 k))
          * (X4 V c (ix2 0 k) * (Ideal.ofBits .f32 0x3F7FFFAC#32)) + X5 V c (ix2 0 k)) 0 * X6 V c (ix2 k u))) j p) ?_ ?_ (ix2 i (col j p u)) i j p u rfl
  · intro t hf y i j p u hy
    have ht := (flush_out t).mp hf
    have e0 : i.val = t.val / 5 * 1024 + (y (0 : Fin 2)).val :=
      (congrArg Fin.val (congrFun hy (0 : Fin 2))).symm.trans ((win1_8.rect_emb_val t y (0 : Fin 2)).trans (congrArg (fun n => n * 1024 + (y (0 : Fin 2)).val) (index_out t).1))
    have e1 : (y (1 : Fin 2)).val = (((ix2 i (col j p u)) : S10240x2048.Idx) (1 : Fin 2)).val :=
      (win1_8.rect_emb_val_of_index_zero t (1 : Fin 2) (index_out t).2 y).symm.trans (congrArg Fin.val (congrFun hy (1 : Fin 2)))
    have hy' : (y : S1024x2048.Idx) = (ix2 (y (0 : Fin 2)) (col j p u)) := Shape.idx_ext₂ rfl e1
    show outsAt (Ix := Ix) (U := U) (Lvl := Lvl) 𝒱₀ V c t y = _
    exact (congrArg (outsAt (Ix := Ix) (U := U) (Lvl := Lvl) 𝒱₀ V c t) hy').trans (outsAt_apply 𝒱₀ V c t ht (y (0 : Fin 2)) i j p u e0)
  · intro idx
    have h0 : (idx (0 : Fin 2)).val < 10240 := (idx (0 : Fin 2)).isLt
    have h1 : (idx (1 : Fin 2)).val < 2048 := (idx (1 : Fin 2)).isLt
    have hN : cfg1.N = 50 := N_1
    have ht : 5 * ((idx (0 : Fin 2)).val / 1024) + 4 < cfg1.N := by omega
    refine ⟨⟨5 * ((idx (0 : Fin 2)).val / 1024) + 4, ht⟩, (flush_out _).mpr (by show (5 * ((idx (0 : Fin 2)).val / 1024) + 4) % 5 = 4; omega), ?_⟩
    show idx ∈ ((View.whole main_v27).slice (win1_8.rect ⟨5 * ((idx (0 : Fin 2)).val / 1024) + 4, ht⟩)).set
    rw [View.set_slice_whole, Rect.mem_set_unit]
    obtain ⟨i0, i1⟩ := index_out ⟨5 * ((idx (0 : Fin 2)).val / 1024) + 4, ht⟩
    intro a
    match a with
    | ⟨0, _⟩ =>
      show win1_8.index _ (0 : Fin 2) * 1024 ≤ (idx (0 : Fin 2)).val ∧ (idx (0 : Fin 2)).val < win1_8.index _ (0 : Fin 2) * 1024 + 1024
      rw [i0]; dsimp only; omega
    | ⟨1, _⟩ =>
      show win1_8.index _ (1 : Fin 2) * 2048 ≤ (idx (1 : Fin 2)).val ∧ (idx (1 : Fin 2)).val < win1_8.index _ (1 : Fin 2) * 2048 + 2048
      rw [i1]; omega

end Cert.KernelIdeal.Arr1

end
-- ==== Proof.KernelIdeal.Block2.lean ====
module

public import proofs.«01_k».proof.Proof.KernelIdeal.Run2
public import proofs.«01_k».proof.Proof.KernelIdeal.Block0
public import Idealize.ShloMosaic.Lib.Pipeline.Value
public import Idealize.ShloMosaic.Lib.Pointwise

@[expose] public section

set_option maxRecDepth 16384

noncomputable section

namespace Cert.KernelIdeal.Block2

open Cert.KernelIdeal Cert.KernelIdeal.Gen Cert.KernelIdeal.Sweep2
open Idealize.ShloMosaic Idealize.ShloMosaic.TcCoe
open Idealize.SL Idealize.SL.RA
open Cert.Spec

section
variable {L : Fin 4 → Fin 12 → EReal} {V : Fin 128 → EReal} (v : FVec Ideal S1024x128 .f32) (g b : Vec Ideal S1x128 .f32) (w : Vec Ideal S128x128 .f32) (r : Fin 1024)

/-- The sigmoid of the next layer's product, at an element of a block. -/
theorem sigm_apply (hv : ∀ k, v (ix2 r k) = V k) (t : Fin 128) :
    k2_pay24 v (k2_pay23 g) (Ideal.ofBits .f32 0x3F7FFFAC#32) b w (ix2 r t) = sigm (∑ k : Fin 128, max (V k * (g (ix2 0 k) * (Ideal.ofBits .f32 0x3F7FFFAC#32)) + b (ix2 0 k)) 0 * w (ix2 k t)) := by
  unfold k2_pay24 k2_pay23 sigm
  simp only [← hv]
  pointwise [dot_S1024x128_S128x128_S1024x128_1_0_0_1_n_n, shapeCast_self]

/-- The sixteen groups of powers side by side, at a column. -/
theorem powers_apply (hv : ∀ k, v (ix2 r k) = V k) (a0 a1 a2 a3 a4 a5 a6 a7 a8 a9 a10 a11 a12 a13 a14 a15 : EReal)
    (h0 : a0 = L 0 1) (h1 : a1 = L 0 3) (h2 : a2 = L 0 5) (h3 : a3 = L 0 7) (h4 : a4 = L 1 1) (h5 : a5 = L 1 3) (h6 : a6 = L 1 5) (h7 : a7 = L 1 7) (h8 : a8 = L 2 1) (h9 : a9 = L 2 3) (h10 : a10 = L 2 5) (h11 : a11 = L 2 7) (h12 : a12 = L 3 1) (h13 : a13 = L 3 3) (h14 : a14 = L 3 5) (h15 : a15 = L 3 7)
    (j p : Fin 4) (t : Fin 128) :
    k2_pay5 (k2_pay27 v (k2_pay23 g) (Ideal.ofBits .f32 0x3F7FFFAC#32) b w a0) (k2_pay28 v (k2_pay23 g) (Ideal.ofBits .f32 0x3F7FFFAC#32) b w a1) (k2_pay29 v (k2_pay23 g) (Ideal.ofBits .f32 0x3F7FFFAC#32) b w a2) (k2_pay30 v (k2_pay23 g) (Ideal.ofBits .f32 0x3F7FFFAC#32) b w a3) (k2_pay31 (k2_pay25 v (k2_pay23 g) (Ideal.ofBits .f32 0x3F7FFFAC#32) b w) a4) (k2_pay32 (k2_pay26 v (k2_pay23 g) (Ideal.ofBits .f32 0x3F7FFFAC#32) b w) a5) (k2_pay33 (k2_pay25 v (k2_pay23 g) (Ideal.ofBits .f32 0x3F7FFFAC#32) b w) a6) (k2_pay34 (k2_pay26 v (k2_pay23 g) (Ideal.ofBits .f32 0x3F7FFFAC#32) b w) a7) (k2_pay35 (k2_pay25 v (k2_pay23 g) (Ideal.ofBits .f32 0x3F7FFFAC#32) b w) a8) (k2_pay36 (k2_pay26 v (k2_pay23 g) (Ideal.ofBits .f32 0x3F7FFFAC#32) b w) a9) (k2_pay37 (k2_pay25 v (k2_pay23 g) (Ideal.ofBits .f32 0x3F7FFFAC#32) b w) a10) (k2_pay38 (k2_pay26 v (k2_pay23 g) (Ideal.ofBits .f32 0x3F7FFFAC#32) b w) a11) (k2_pay39 (k2_pay25 v (k2_pay23 g) (Ideal.ofBits .f32 0x3F7FFFAC#32) b w) a12) (k2_pay40 (k2_pay26 v (k2_pay23 g) (Ideal.ofBits .f32 0x3F7FFFAC#32) b w) a13) (k2_pay3 (k2_pay25 v (k2_pay23 g) (Ideal.ofBits .f32 0x3F7FFFAC#32) b w) a14) (k2_pay4 (k2_pay26 v (k2_pay23 g) (Ideal.ofBits .f32 0x3F7FFFAC#32) b w) a15) (ix2 r (col j p t))
      = kpow L (sigm (∑ k : Fin 128, max (V k * (g (ix2 0 k) * (Ideal.ofBits .f32 0x3F7FFFAC#32)) + b (ix2 0 k)) 0 * w (ix2 k t))) j p := by
  refine (concat_col (M := 1024) ![(k2_pay27 v (k2_pay23 g) (Ideal.ofBits .f32 0x3F7FFFAC#32) b w a0), (k2_pay28 v (k2_pay23 g) (Ideal.ofBits .f32 0x3F7FFFAC#32) b w a1), (k2_pay29 v (k2_pay23 g) (Ideal.ofBits .f32 0x3F7FFFAC#32) b w a2), (k2_pay30 v (k2_pay23 g) (Ideal.ofBits .f32 0x3F7FFFAC#32) b w a3), (k2_pay31 (k2_pay25 v (k2_pay23 g) (Ideal.ofBits .f32 0x3F7FFFAC#32) b w) a4), (k2_pay32 (k2_pay26 v (k2_pay23 g) (Ideal.ofBits .f32 0x3F7FFFAC#32) b w) a5), (k2_pay33 (k2_pay25 v (k2_pay23 g) (Ideal.ofBits .f32 0x3F7FFFAC#32) b w) a6), (k2_pay34 (k2_pay26 v (k2_pay23 g) (Ideal.ofBits .f32 0x3F7FFFAC#32) b w) a7), (k2_pay35 (k2_pay25 v (k2_pay23 g) (Ideal.ofBits .f32 0x3F7FFFAC#32) b w) a8), (k2_pay36 (k2_pay26 v (k2_pay23 g) (Ideal.ofBits .f32 0x3F7FFFAC#32) b w) a9), (k2_pay37 (k2_pay25 v (k2_pay23 g) (Ideal.ofBits .f32 0x3F7FFFAC#32) b w) a10), (k2_pay38 (k2_pay26 v (k2_pay23 g) (Ideal.ofBits .f32 0x3F7FFFAC#32) b w) a11), (k2_pay39 (k2_pay25 v (k2_pay23 g) (Ideal.ofBits .f32 0x3F7FFFAC#32) b w) a12), (k2_pay40 (k2_pay26 v (k2_pay23 g) (Ideal.ofBits .f32 0x3F7FFFAC#32) b w) a13), exp (k2_pay3 (k2_pay25 v (k2_pay23 g) (Ideal.ofBits .f32 0x3F7FFFAC#32) b w) a14), exp (k2_pay4 (k2_pay26 v (k2_pay23 g) (Ideal.ofBits .f32 0x3F7FFFAC#32) b w) a15)] concatenates_S1024x128_S1024x128_S1024x128_S1024x128_S1024x128_S1024x128_S1024x128_S1024x128_S1024x128_S1024x128_S1024x128_S1024x128_S1024x128_S1024x128_S1024x128_S1024x128_S1024x2048_d1 r j p t).trans ?_
  have h24 := sigm_apply v g b w r hv t
  have h25 : k2_pay25 v (k2_pay23 g) (Ideal.ofBits .f32 0x3F7FFFAC#32) b w (ix2 r t) = Ideal.log (sigm (∑ k : Fin 128, max (V k * (g (ix2 0 k) * (Ideal.ofBits .f32 0x3F7FFFAC#32)) + b (ix2 0 k)) 0 * w (ix2 k t))) :=
    congrArg Ideal.log h24
  have h26 : k2_pay26 v (k2_pay23 g) (Ideal.ofBits .f32 0x3F7FFFAC#32) b w (ix2 r t) = Ideal.log (1 - sigm (∑ k : Fin 128, max (V k * (g (ix2 0 k) * (Ideal.ofBits .f32 0x3F7FFFAC#32)) + b (ix2 0 k)) 0 * w (ix2 k t))) := by
    rw [← h24]
    exact congrArg (fun o => Ideal.log (o - k2_pay24 v (k2_pay23 g) (Ideal.ofBits .f32 0x3F7FFFAC#32) b w (ix2 r t))) Ideal.ofBits_one_f32
  unfold kpow
  generalize sigm _ = z at h25 h26
  match j, p with
  | 0, 0 => exact congrArg₂ (fun a l => Ideal.exp (a * l)) h0 h25
  | 0, 1 => exact congrArg₂ (fun a l => Ideal.exp (a * l)) h1 h26
  | 0, 2 => exact congrArg₂ (fun a l => Ideal.exp (a * l)) h2 h25
  | 0, 3 => exact congrArg₂ (fun a l => Ideal.exp (a * l)) h3 h26
  | 1, 0 => exact congrArg₂ (fun a l => Ideal.exp (a * l)) h4 h25
  | 1, 1 => exact congrArg₂ (fun a l => Ideal.exp (a * l)) h5 h26
  | 1, 2 => exact congrArg₂ (fun a l => Ideal.exp (a * l)) h6 h25
  | 1, 3 => exact congrArg₂ (fun a l => Ideal.exp (a * l)) h7 h26
  | 2, 0 => exact congrArg₂ (fun a l => Ideal.exp (a * l)) h8 h25
  | 2, 1 => exact congrArg₂ (fun a l => Ideal.exp (a * l)) h9 h26
  | 2, 2 => exact congrArg₂ (fun a l => Ideal.exp (a * l)) h10 h25
  | 2, 3 => exact congrArg₂ (fun a l => Ideal.exp (a * l)) h11 h26
  | 3, 0 => exact congrArg₂ (fun a l => Ideal.exp (a * l)) h12 h25
  | 3, 1 => exact congrArg₂ (fun a l => Ideal.exp (a * l)) h13 h26
  | 3, 2 => exact congrArg₂ (fun a l => Ideal.exp (a * l)) h14 h25
  | 3, 3 => exact congrArg₂ (fun a l => Ideal.exp (a * l)) h15 h26

end

variable {Ix : Type} [DecidableEq Ix] {U : Type} [URA U] {Lvl : Type} [Preorder Lvl]
variable (𝒱₀ : Variants)

/-- What the last column block of a layer call leaves in an output block: the powers of the sigmoid of the next layer's product, from
    the sums the accumulator then holds. -/
theorem out_eq (c : Dev nD) (i : grid2.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .smem S4x12 .f32) (harg9 : arg9.IsWhole) (arg10 : Memref sig .tc .vmem S1024x2048 .bf16) (harg10 : arg10.IsWhole) (arg11 : Memref sig .tc .vmem S1024x2048 .f32) (harg11 : arg11.IsWhole)
    (hc0 : ¬cond_first i) (hc1 : cond_last i)
    (x0 : Vec Ideal S1024x2048 .bf16) (x1 : Vec Ideal S2048x2048 .bf16) (x2 : Vec Ideal S4x12 .f32) (x3 : Vec Ideal S1x128 .f32) (x4 : Vec Ideal S1x128 .f32) (x5 : Vec Ideal S1x128 .f32) (x6 : Vec Ideal S128x128 .f32) (x7 : Vec Ideal S4x12 .f32) (xs : Vec Ideal S1024x2048 .f32)
    (r : Fin 1024) (j p : Fin 4) (t : Fin 128) :
    Sweep2.outC (F := Ideal) (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs (ix2 r (col j p t))
      = kpow (fun a b => x7 (ix2 a b)) (sigm (∑ k : Fin 128, max ((kmean (fun a b => x2 (ix2 a b)) (fun j p => (k2_pay2 xs x0 x1 : Vec Ideal S1024x2048 .f32) (ix2 r (col j p k))) + x3 (ix2 0 k))
          * (x4 (ix2 0 k) * (Ideal.ofBits .f32 0x3F7FFFAC#32)) + x5 (ix2 0 k)) 0 * x6 (ix2 k t))) j p := by
  unfold Sweep2.outC
  rw [View.read_writes_eq_canon _ _ _ (Sweep2.coverC (Ix := Ix) (U := U) (Lvl := Lvl) 𝒱₀ c i arg2 harg2 arg3 harg3 arg4 harg4 arg5 harg5 arg6 harg6 arg7 harg7 arg8 harg8 arg9 harg9 arg10 harg10 arg11 harg11 hc0 hc1 x0 x1 x2 x3 x4 x5 x6 x7 xs)]
  unfold Sweep2.runC
  dsimp only
  rw [View.canon_unit_zero Sweep2.hz]
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x2048) Sweep2.hz, View.ld_unit_zero (S := S1024x128) Sweep2.hz, View.ld_unit_zero (S := S2048x2048) Sweep2.hz, View.ld_unit_zero (S := S1x128) Sweep2.hz, View.ld_unit_zero (S := S128x128) Sweep2.hz, View.readCov_unit_zero (S := S1024x2048) _ Sweep2.hz]
  generalize k2_pay2 xs x0 x1 = A
  refine powers_apply (L := fun a b => x7 (ix2 a b)) (V := fun k => kmean (fun a b => x2 (ix2 a b)) (fun j p => A (ix2 r (col j p k))) + x3 (ix2 0 k)) _ x4 x5 x6 r (fun k => ?_) _ _ _ _ _ _ _ _ _ _ _ _ _ _ _ _ (Block0.ld_entry (a := 0) (b := 1) x7 _ _) (Block0.ld_entry (a := 0) (b := 3) x7 _ _) (Block0.ld_entry (a := 0) (b := 5) x7 _ _) (Block0.ld_entry (a := 0) (b := 7) x7 _ _) (Block0.ld_entry (a := 1) (b := 1) x7 _ _) (Block0.ld_entry (a := 1) (b := 3) x7 _ _) (Block0.ld_entry (a := 1) (b := 5) x7 _ _) (Block0.ld_entry (a := 1) (b := 7) x7 _ _) (Block0.ld_entry (a := 2) (b := 1) x7 _ _) (Block0.ld_entry (a := 2) (b := 3) x7 _ _) (Block0.ld_entry (a := 2) (b := 5) x7 _ _) (Block0.ld_entry (a := 2) (b := 7) x7 _ _) (Block0.ld_entry (a := 3) (b := 1) x7 _ _) (Block0.ld_entry (a := 3) (b := 3) x7 _ _) (Block0.ld_entry (a := 3) (b := 5) x7 _ _) (Block0.ld_entry (a := 3) (b := 7) x7 _ _) j p t
  unfold k2_pay6 k2_pay7 k2_pay8 k2_pay9 k2_pay10 k2_pay11 k2_pay12 k2_pay13 k2_pay14 k2_pay15 k2_pay16 k2_pay17 k2_pay18 k2_pay19 k2_pay20 k2_pay21 k2_pay22
  pointwise [shapeCast_self]
  have h0 (h : (k : ℕ) < 2048) : (⟨k, h⟩ : Fin 2048) = col 0 0 k := Fin.ext (by show (k : ℕ) = _; simp [col])
  rw [h0]
  rfl

end Cert.KernelIdeal.Block2

end
-- ==== Proof.KernelIdeal.Arr2.lean ====
module

public import proofs.«01_k».proof.Proof.KernelIdeal.Body2
public import proofs.«01_k».proof.Proof.KernelIdeal.Block2

@[expose] public section

set_option maxRecDepth 16384

noncomputable section

namespace Cert.KernelIdeal.Arr2

open Cert.KernelIdeal Cert.KernelIdeal.Gen Cert.KernelIdeal.Sweep2
open Idealize.ShloMosaic Idealize.ShloMosaic.TcCoe
open Idealize.SL Idealize.SL.RA
open Idealize.ShloMosaic.Pipeline (Dat)
open Cert.Spec

variable {Ix : Type} [DecidableEq Ix] {U : Type} [URA U] {Lvl : Type} [Preorder Lvl]
variable (𝒱₀ : Variants) (V : (c : Dev nD) → (b : Ref sig .tc) → Buf (Elt Ideal) ((c : Thread nD τ).loc b))

/-! What custom call 2 leaves in its output array, from the contents of its operands at entry. -/

/-! The operands' contents at entry. -/
abbrev X0 (c : Dev nD) : Vec Ideal S10240x10240 .bf16 := V c (Pipeline.arrRef spec2 0)
abbrev X1 (c : Dev nD) : Vec Ideal S10240x2048 .bf16 := V c (Pipeline.arrRef spec2 1)
abbrev X2 (c : Dev nD) : Vec Ideal S4x12 .f32 := V c (Pipeline.arrRef spec2 2)
abbrev X3 (c : Dev nD) : Vec Ideal S1x128 .f32 := V c (Pipeline.arrRef spec2 3)
abbrev X4 (c : Dev nD) : Vec Ideal S1x128 .f32 := V c (Pipeline.arrRef spec2 4)
abbrev X5 (c : Dev nD) : Vec Ideal S1x128 .f32 := V c (Pipeline.arrRef spec2 5)
abbrev X6 (c : Dev nD) : Vec Ideal S128x128 .f32 := V c (Pipeline.arrRef spec2 6)
abbrev X7 (c : Dev nD) : Vec Ideal S4x12 .f32 := V c (Pipeline.arrRef spec2 7)

/-- The product of the adjacency's row `i` with the operand's column `q`. -/
def total (c : Dev nD) (i : Fin 10240) (q : Fin 2048) : EReal := ∑ s : Fin 10240, X0 V c (ix2 i s) * X1 V c (ix2 s q)

theorem index_0 : ∀ t : Fin cfg2.N, win2_0.index t (0 : Fin 2) = t.val / 5 ∧ win2_0.index t (1 : Fin 2) = t.val % 5 :=
  (by decide +kernel : ∀ t : Fin grid2.N, _)
theorem index_1 : ∀ t : Fin cfg2.N, win2_1.index t (0 : Fin 2) = t.val % 5 ∧ win2_1.index t (1 : Fin 2) = 0 :=
  (by decide +kernel : ∀ t : Fin grid2.N, _)
theorem index_out : ∀ t : Fin cfg2.N, win2_8.index t (0 : Fin 2) = t.val / 5 ∧ win2_8.index t (1 : Fin 2) = 0 :=
  (by decide +kernel : ∀ t : Fin grid2.N, _)
theorem flush_out : ∀ t : Fin cfg2.N, (cfg2.win 8).flush t = true ↔ t.val % 5 = 4 :=
  (by decide +kernel : ∀ t : Fin grid2.N, win2_8.flush t = true ↔ t.val % 5 = 4)
theorem index_2 : ∀ t : Fin cfg2.N, win2_2.index t (0 : Fin 2) = 0 ∧ win2_2.index t (1 : Fin 2) = 0 :=
  (by decide +kernel : ∀ t : Fin grid2.N, _)
theorem index_3 : ∀ t : Fin cfg2.N, win2_3.index t (0 : Fin 2) = 0 ∧ win2_3.index t (1 : Fin 2) = 0 :=
  (by decide +kernel : ∀ t : Fin grid2.N, _)
theorem index_4 : ∀ t : Fin cfg2.N, win2_4.index t (0 : Fin 2) = 0 ∧ win2_4.index t (1 : Fin 2) = 0 :=
  (by decide +kernel : ∀ t : Fin grid2.N, _)
theorem index_5 : ∀ t : Fin cfg2.N, win2_5.index t (0 : Fin 2) = 0 ∧ win2_5.index t (1 : Fin 2) = 0 :=
  (by decide +kernel : ∀ t : Fin grid2.N, _)
theorem index_6 : ∀ t : Fin cfg2.N, win2_6.index t (0 : Fin 2) = 0 ∧ win2_6.index t (1 : Fin 2) = 0 :=
  (by decide +kernel : ∀ t : Fin grid2.N, _)
theorem index_7 : ∀ t : Fin cfg2.N, win2_7.index t (0 : Fin 2) = 0 ∧ win2_7.index t (1 : Fin 2) = 0 :=
  (by decide +kernel : ∀ t : Fin grid2.N, _)

/-! The blocks of the two large operands at a point. -/
abbrev blkA (c : Dev nD) (t : Fin cfg2.N) : Vec Ideal S1024x2048 .bf16 := iblk V c 0 t
abbrev blkB (c : Dev nD) (t : Fin cfg2.N) : Vec Ideal S2048x2048 .bf16 := iblk V c 1 t

/-- The adjacency's block at a point. -/
theorem blk_0 (c : Dev nD) (t : Fin cfg2.N) (r : Fin 1024) (s : Fin 2048) (i : Fin 10240) (s' : Fin 10240)
    (hi : i.val = t.val / 5 * 1024 + r.val) (hs : s'.val = t.val % 5 * 2048 + s.val) :
    blkA V c t (ix2 r s) = X0 V c (ix2 i s') := by
  refine congrArg (X0 V c) (Shape.idx_ext₂ ?_ ?_)
  · exact ((win2_0.rect_emb_val t (ix2 r s) (0 : Fin 2)).trans (congrArg (fun n => n * 1024 + r.val) (index_0 t).1)).trans hi.symm
  · exact ((win2_0.rect_emb_val t (ix2 r s) (1 : Fin 2)).trans (congrArg (fun n => n * 2048 + s.val) (index_0 t).2)).trans hs.symm

/-- The other operand's block at a point. -/
theorem blk_1 (c : Dev nD) (t : Fin cfg2.N) (s : Fin 2048) (q : Fin 2048) (s' : Fin 10240) (hs : s'.val = t.val % 5 * 2048 + s.val) :
    blkB V c t (ix2 s q) = X1 V c (ix2 s' q) := by
  refine congrArg (X1 V c) (Shape.idx_ext₂ ?_ ?_)
  · exact ((win2_1.rect_emb_val t (ix2 s q) (0 : Fin 2)).trans (congrArg (fun n => n * 2048 + s.val) (index_1 t).1)).trans hs.symm
  · exact win2_1.rect_emb_val_of_index_zero t (1 : Fin 2) (index_1 t).2 (ix2 s q)

/-! The other operands are held whole. -/
theorem blk_2 (c : Dev nD) (t : Fin cfg2.N) : (iblk V c 2 t : Vec Ideal S4x12 .f32) = X2 V c := by
  funext y
  refine congrArg (X2 V c) (Shape.idx_ext₂ ?_ ?_)
  · exact win2_2.rect_emb_val_of_index_zero t (0 : Fin 2) (index_2 t).1 y
  · exact win2_2.rect_emb_val_of_index_zero t (1 : Fin 2) (index_2 t).2 y
theorem blk_3 (c : Dev nD) (t : Fin cfg2.N) : (iblk V c 3 t : Vec Ideal S1x128 .f32) = X3 V c := by
  funext y
  refine congrArg (X3 V c) (Shape.idx_ext₂ ?_ ?_)
  · exact win2_3.rect_emb_val_of_index_zero t (0 : Fin 2) (index_3 t).1 y
  · exact win2_3.rect_emb_val_of_index_zero t (1 : Fin 2) (index_3 t).2 y
theorem blk_4 (c : Dev nD) (t : Fin cfg2.N) : (iblk V c 4 t : Vec Ideal S1x128 .f32) = X4 V c := by
  funext y
  refine congrArg (X4 V c) (Shape.idx_ext₂ ?_ ?_)
  · exact win2_4.rect_emb_val_of_index_zero t (0 : Fin 2) (index_4 t).1 y
  · exact win2_4.rect_emb_val_of_index_zero t (1 : Fin 2) (index_4 t).2 y
theorem blk_5 (c : Dev nD) (t : Fin cfg2.N) : (iblk V c 5 t : Vec Ideal S1x128 .f32) = X5 V c := by
  funext y
  refine congrArg (X5 V c) (Shape.idx_ext₂ ?_ ?_)
  · exact win2_5.rect_emb_val_of_index_zero t (0 : Fin 2) (index_5 t).1 y
  · exact win2_5.rect_emb_val_of_index_zero t (1 : Fin 2) (index_5 t).2 y
theorem blk_6 (c : Dev nD) (t : Fin cfg2.N) : (iblk V c 6 t : Vec Ideal S128x128 .f32) = X6 V c := by
  funext y
  refine congrArg (X6 V c) (Shape.idx_ext₂ ?_ ?_)
  · exact win2_6.rect_emb_val_of_index_zero t (0 : Fin 2) (index_6 t).1 y
  · exact win2_6.rect_emb_val_of_index_zero t (1 : Fin 2) (index_6 t).2 y
theorem blk_7 (c : Dev nD) (t : Fin cfg2.N) : (iblk V c 7 t : Vec Ideal S4x12 .f32) = X7 V c := by
  funext y
  refine congrArg (X7 V c) (Shape.idx_ext₂ ?_ ?_)
  · exact win2_7.rect_emb_val_of_index_zero t (0 : Fin 2) (index_7 t).1 y
  · exact win2_7.rect_emb_val_of_index_zero t (1 : Fin 2) (index_7 t).2 y

/-- One point's step of the accumulator, at an element. -/
theorem step_apply (xs : Vec Ideal S1024x2048 .f32) (a : Vec Ideal S1024x2048 .bf16) (b : Vec Ideal S2048x2048 .bf16) (r : Fin 1024) (q : Fin 2048) :
    k2_pay2 xs a b (ix2 r q) = xs (ix2 r q) + ∑ s : Fin 2048, a (ix2 r s) * b (ix2 s q) := by
  unfold k2_pay2
  pointwise [dot_S1024x2048_S2048x2048_S1024x2048_1_0_0_1_n_n, shapeCast_self]

/-- The accumulator's start, at an element. -/
theorem start_apply (r : Fin 1024) (q : Fin 2048) : (k2_pay1 (F := Ideal)) (ix2 r q) = (0 : EReal) := by
  unfold k2_pay1
  pointwise [shapeCast_self]

/-- One summand of the product, by the column's number. -/
def summand (c : Dev nD) (i : Fin 10240) (q : Fin 2048) (s : ℕ) : EReal :=
  if h : s < 10240 then X0 V c (ix2 i ⟨s, h⟩) * X1 V c (ix2 ⟨s, h⟩ q) else 0

/-- One column block's share of the product. -/
theorem share_eq (c : Dev nD) (t : Fin cfg2.N) (r : Fin 1024) (q : Fin 2048) (i : Fin 10240) (hi : i.val = t.val / 5 * 1024 + r.val) :
    ∑ s : Fin 2048, blkA V c t (ix2 r s) * blkB V c t (ix2 s q)
      = ∑ s ∈ Finset.range 2048, summand V c i q (t.val % 5 * 2048 + s) := by
  rw [Finset.sum_range]
  refine Finset.sum_congr rfl fun s _ => ?_
  have hlt : t.val % 5 * 2048 + s.val < 10240 := by have := Nat.mod_lt t.val (show 0 < 5 by decide); have := s.isLt; omega
  unfold summand
  rw [dif_pos hlt, blk_0 V c t r s i ⟨_, hlt⟩ hi rfl, blk_1 V c t s q ⟨_, hlt⟩ rfl]

/-- The accumulator after a point: the summands of the column blocks so far. -/
theorem acc_apply (c : Dev nD) (q : Fin 2048) (r : Fin 1024) (i : Fin 10240) (n : ℕ) : ∀ (t : Fin cfg2.N), t.val % 5 = n → i.val = t.val / 5 * 1024 + r.val →
    acc V c t.val t.isLt (ix2 r q) = ∑ s ∈ Finset.range ((n + 1) * 2048), summand V c i q s := by
  induction n with
  | zero =>
    intro t ht hi
    rw [acc_first V c t ht, step_apply, start_apply, share_eq V c t r q i hi, ht, zero_add]
    simp only [Nat.zero_mul, Nat.zero_add, Nat.one_mul]
  | succ n ih =>
    intro t ht hi
    have h0 : ¬t.val % 5 = 0 := by omega
    have hlt : t.val - 1 < cfg2.N := lt_of_le_of_lt (Nat.sub_le _ _) t.isLt
    have e := ih ⟨t.val - 1, hlt⟩ (by show (t.val - 1) % 5 = n; omega) (by show i.val = (t.val - 1) / 5 * 1024 + r.val; rw [hi]; congr 2; omega)
    rw [acc_next V c t h0, step_apply, share_eq V c t r q i hi, ht]
    rw [show (n + 1 + 1) * 2048 = (n + 1) * 2048 + 2048 by omega, Finset.sum_range_add]
    exact congrArg (· + _) e

/-- After a row block's last column block the accumulator holds the whole product. -/
theorem acc_last (c : Dev nD) (t : Fin cfg2.N) (ht : t.val % 5 = 4) (r : Fin 1024) (q : Fin 2048) (i : Fin 10240) (hi : i.val = t.val / 5 * 1024 + r.val) :
    acc V c t.val t.isLt (ix2 r q) = total V c i q := by
  rw [acc_apply V c q r i 4 t ht hi]
  show ∑ s ∈ Finset.range 10240, _ = _
  rw [Finset.sum_range]
  refine Finset.sum_congr rfl fun s _ => ?_
  unfold summand
  rw [dif_pos s.isLt]

/-- What a last point leaves in the output's staging buffer. -/
theorem outsAt_apply (c : Dev nD) (t : Fin cfg2.N) (ht : t.val % 5 = 4) (r : Fin 1024) (i : Fin 10240) (j p : Fin 4) (u : Fin 128) (hi : i.val = t.val / 5 * 1024 + r.val) :
    outsAt (Ix := Ix) (U := U) (Lvl := Lvl) 𝒱₀ V c t (ix2 r (col j p u))
      = kpow (fun a b => X7 V c (ix2 a b)) (sigm (∑ k : Fin 128, max ((kmean (fun a b => X2 V c (ix2 a b)) (fun j p => total V c i (col j p k)) + X3 V c (ix2 0 k))
          * (X4 V c (ix2 0 k) * (Ideal.ofBits .f32 0x3F7FFFAC#32)) + X5 V c (ix2 0 k)) 0 * X6 V c (ix2 k u))) j p := by
  have h0 : ¬cond_first (grid2.coords t) := fun h => by have := (hcond_first t).mp h; omega
  have h1 : cond_last (grid2.coords t) := (hcond_last t).mpr ht
  rw [outsAt_last (Ix := Ix) (U := U) (Lvl := Lvl) 𝒱₀ V c t h0 h1]
  refine (Block2.out_eq (Ix := Ix) (U := U) (Lvl := Lvl) 𝒱₀ c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h0 h1
    (iblk V c 0 t) (iblk V c 1 t) (iblk V c 2 t) (iblk V c 3 t) (iblk V c 4 t) (iblk V c 5 t) (iblk V c 6 t) (iblk V c 7 t) _ r j p u).trans ?_
  have e : ∀ (j p : Fin 4) (k : Fin 128), (k2_pay2 (acc V c (t.val - 1) (by have := t.isLt; omega)) (iblk V c 0 t) (iblk V c 1 t) : Vec Ideal S1024x2048 .f32) (ix2 r (col j p k)) = total V c i (col j p k) :=
    fun j p k => (congrFun (acc_next V c t (by omega)).symm _).trans (acc_last V c t ht r (col j p k) i hi)
  rw [blk_2, blk_3, blk_4, blk_5, blk_6, blk_7]
  simp only [e]

variable (D : (c : Dev nD) → CellTallies nD τ sig Ix)

/-- The output array after the call, at an element. -/
theorem arr_apply (c : Dev nD) (i : Fin 10240) (j p : Fin 4) (u : Fin 128) :
    ((dat (Ix := Ix) (U := U) (Lvl := Lvl) 𝒱₀ V D c).arrAt 8 cfg2.N : Vec Ideal S10240x2048 .bf16) (ix2 i (col j p u))
      = kpow (fun a b => X7 V c (ix2 a b)) (sigm (∑ k : Fin 128, max ((kmean (fun a b => X2 V c (ix2 a b)) (fun j p => total V c i (col j p k)) + X3 V c (ix2 0 k))
          * (X4 V c (ix2 0 k) * (Ideal.ofBits .f32 0x3F7FFFAC#32)) + X5 V c (ix2 0 k)) 0 * X6 V c (ix2 k u))) j p := by
  refine Dat.arrAt_forall_of_cover (dat (Ix := Ix) (U := U) (Lvl := Lvl) 𝒱₀ V D c) 8
    (fun idx x => ∀ (i : Fin 10240) (j p : Fin 4) (u : Fin 128), idx = (ix2 i (col j p u)) → x = kpow (fun a b => X7 V c (ix2 a b)) (sigm (∑ k : Fin 128, max ((kmean (fun a b => X2 V c (ix2 a b)) (fun j p => total V c i (col j p k)) + X3 V c (ix2 0 k))
          * (X4 V c (ix2 0 k) * (Ideal.ofBits .f32 0x3F7FFFAC#32)) + X5 V c (ix2 0 k)) 0 * X6 V c (ix2 k u))) j p) ?_ ?_ (ix2 i (col j p u)) i j p u rfl
  · intro t hf y i j p u hy
    have ht := (flush_out t).mp hf
    have e0 : i.val = t.val / 5 * 1024 + (y (0 : Fin 2)).val :=
      (congrArg Fin.val (congrFun hy (0 : Fin 2))).symm.trans ((win2_8.rect_emb_val t y (0 : Fin 2)).trans (congrArg (fun n => n * 1024 + (y (0 : Fin 2)).val) (index_out t).1))
    have e1 : (y (1 : Fin 2)).val = (((ix2 i (col j p u)) : S10240x2048.Idx) (1 : Fin 2)).val :=
      (win2_8.rect_emb_val_of_index_zero t (1 : Fin 2) (index_out t).2 y).symm.trans (congrArg Fin.val (congrFun hy (1 : Fin 2)))
    have hy' : (y : S1024x2048.Idx) = (ix2 (y (0 : Fin 2)) (col j p u)) := Shape.idx_ext₂ rfl e1
    show outsAt (Ix := Ix) (U := U) (Lvl := Lvl) 𝒱₀ V c t y = _
    exact (congrArg (outsAt (Ix := Ix) (U := U) (Lvl := Lvl) 𝒱₀ V c t) hy').trans (outsAt_apply 𝒱₀ V c t ht (y (0 : Fin 2)) i j p u e0)
  · intro idx
    have h0 : (idx (0 : Fin 2)).val < 10240 := (idx (0 : Fin 2)).isLt
    have h1 : (idx (1 : Fin 2)).val < 2048 := (idx (1 : Fin 2)).isLt
    have hN : cfg2.N = 50 := N_2
    have ht : 5 * ((idx (0 : Fin 2)).val / 1024) + 4 < cfg2.N := by omega
    refine ⟨⟨5 * ((idx (0 : Fin 2)).val / 1024) + 4, ht⟩, (flush_out _).mpr (by show (5 * ((idx (0 : Fin 2)).val / 1024) + 4) % 5 = 4; omega), ?_⟩
    show idx ∈ ((View.whole main_v31).slice (win2_8.rect ⟨5 * ((idx (0 : Fin 2)).val / 1024) + 4, ht⟩)).set
    rw [View.set_slice_whole, Rect.mem_set_unit]
    obtain ⟨i0, i1⟩ := index_out ⟨5 * ((idx (0 : Fin 2)).val / 1024) + 4, ht⟩
    intro a
    match a with
    | ⟨0, _⟩ =>
      show win2_8.index _ (0 : Fin 2) * 1024 ≤ (idx (0 : Fin 2)).val ∧ (idx (0 : Fin 2)).val < win2_8.index _ (0 : Fin 2) * 1024 + 1024
      rw [i0]; dsimp only; omega
    | ⟨1, _⟩ =>
      show win2_8.index _ (1 : Fin 2) * 2048 ≤ (idx (1 : Fin 2)).val ∧ (idx (1 : Fin 2)).val < win2_8.index _ (1 : Fin 2) * 2048 + 2048
      rw [i1]; omega

end Cert.KernelIdeal.Arr2

end
-- ==== Proof.KernelIdeal.Block3.lean ====
module

public import proofs.«01_k».proof.Proof.KernelIdeal.Run3
public import proofs.«01_k».proof.Proof.Spec.Blocks
public import Idealize.ShloMosaic.Lib.Pipeline.Value
public import Idealize.ShloMosaic.Lib.Pointwise

@[expose] public section

set_option maxRecDepth 16384

noncomputable section

namespace Cert.KernelIdeal.Block3

open Cert.KernelIdeal Cert.KernelIdeal.Gen Cert.KernelIdeal.Sweep3
open Idealize.ShloMosaic Idealize.ShloMosaic.TcCoe
open Idealize.SL Idealize.SL.RA
open Cert.Spec

variable {Ix : Type} [DecidableEq Ix] {U : Type} [URA U] {Lvl : Type} [Preorder Lvl]
variable (𝒱₀ : Variants)

/-- What the last column block of the final call leaves in an output block. -/
theorem out_eq (c : Dev nD) (i : grid3.Coords) (arg2 : Memref sig .tc .vmem S1024x2048 .bf16) (harg2 : arg2.IsWhole) (arg3 : Memref sig .tc .vmem S2048x2048 .bf16) (harg3 : arg3.IsWhole) (arg4 : Memref sig .tc .smem S4x12 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x2048 .f32) (harg7 : arg7.IsWhole)
    (hc0 : ¬cond_first i) (hc1 : cond_last i)
    (x0 : Vec Ideal S1024x2048 .bf16) (x1 : Vec Ideal S2048x2048 .bf16) (x2 : Vec Ideal S4x12 .f32) (x3 : Vec Ideal S1x128 .f32) (xs : Vec Ideal S1024x2048 .f32)
    (r : Fin 1024) (t : Fin 128) :
    Sweep3.outC (F := Ideal) (Ix := Ix) (U := U) (Lvl := Lvl) 𝒱₀ c i arg2 harg2 arg3 harg3 arg4 harg4 arg5 harg5 arg6 harg6 arg7 harg7 hc0 hc1 x0 x1 x2 x3 xs (ix2 r t)
      = kmean (fun a b => x2 (ix2 a b)) (fun j p => (k3_pay2 xs x0 x1 : Vec Ideal S1024x2048 .f32) (ix2 r (col j p t))) + x3 (ix2 0 t) := by
  unfold Sweep3.outC
  rw [View.read_writes_eq_canon _ _ _ (Sweep3.coverC (Ix := Ix) (U := U) (Lvl := Lvl) 𝒱₀ c i arg2 harg2 arg3 harg3 arg4 harg4 arg5 harg5 arg6 harg6 arg7 harg7 hc0 hc1 x0 x1 x2 x3 xs)]
  unfold Sweep3.runC
  dsimp only
  rw [View.canon_unit_zero Sweep3.hz]
  sl_unfold_words
  simp only [View.readAt_eq_ld, harg2.read_unread, harg3.read_unread, harg4.read_unread, harg5.read_unread, harg6.read_unread, harg7.read_unread, View.ld_unit_zero (S := S1024x2048) Sweep3.hz, View.ld_unit_zero (S := S1024x128) Sweep3.hz, View.ld_unit_zero (S := S2048x2048) Sweep3.hz, View.ld_unit_zero (S := S1x128) Sweep3.hz]
  simp only [View.readCov_unit_zero (S := S1024x2048) _ Sweep3.hz]
  generalize k3_pay2 xs x0 x1 = A
  unfold k3_pay3 k3_pay4 k3_pay5 k3_pay6 k3_pay7 k3_pay8 k3_pay9 k3_pay10 k3_pay11 k3_pay12 k3_pay13 k3_pay14 k3_pay15 k3_pay16 k3_pay17 k3_pay18 k3_pay19
  pointwise [shapeCast_self]
  have h0 (h : (t : ℕ) < 2048) : (⟨t, h⟩ : Fin 2048) = col 0 0 t := Fin.ext (by show (t : ℕ) = _; simp [col])
  rw [h0]
  rfl

end Cert.KernelIdeal.Block3

end
-- ==== Proof.KernelIdeal.Arr3.lean ====
module

public import proofs.«01_k».proof.Proof.KernelIdeal.Body3
public import proofs.«01_k».proof.Proof.KernelIdeal.Block3

@[expose] public section

set_option maxRecDepth 16384

noncomputable section

namespace Cert.KernelIdeal.Arr3

open Cert.KernelIdeal Cert.KernelIdeal.Gen Cert.KernelIdeal.Sweep3
open Idealize.ShloMosaic Idealize.ShloMosaic.TcCoe
open Idealize.SL Idealize.SL.RA
open Idealize.ShloMosaic.Pipeline (Dat)
open Cert.Spec

variable {Ix : Type} [DecidableEq Ix] {U : Type} [URA U] {Lvl : Type} [Preorder Lvl]
variable (𝒱₀ : Variants) (V : (c : Dev nD) → (b : Ref sig .tc) → Buf (Elt Ideal) ((c : Thread nD τ).loc b))

/-! What custom call 3 leaves in its output array, from the contents of its operands at entry. -/

/-! The operands' contents at entry. -/
abbrev X0 (c : Dev nD) : Vec Ideal S10240x10240 .bf16 := V c (Pipeline.arrRef spec3 0)
abbrev X1 (c : Dev nD) : Vec Ideal S10240x2048 .bf16 := V c (Pipeline.arrRef spec3 1)
abbrev X2 (c : Dev nD) : Vec Ideal S4x12 .f32 := V c (Pipeline.arrRef spec3 2)
abbrev X3 (c : Dev nD) : Vec Ideal S1x128 .f32 := V c (Pipeline.arrRef spec3 3)

/-- The product of the adjacency's row `i` with the operand's column `q`. -/
def total (c : Dev nD) (i : Fin 10240) (q : Fin 2048) : EReal := ∑ s : Fin 10240, X0 V c (ix2 i s) * X1 V c (ix2 s q)

theorem index_0 : ∀ t : Fin cfg3.N, win3_0.index t (0 : Fin 2) = t.val / 5 ∧ win3_0.index t (1 : Fin 2) = t.val % 5 :=
  (by decide +kernel : ∀ t : Fin grid3.N, _)
theorem index_1 : ∀ t : Fin cfg3.N, win3_1.index t (0 : Fin 2) = t.val % 5 ∧ win3_1.index t (1 : Fin 2) = 0 :=
  (by decide +kernel : ∀ t : Fin grid3.N, _)
theorem index_out : ∀ t : Fin cfg3.N, win3_4.index t (0 : Fin 2) = t.val / 5 ∧ win3_4.index t (1 : Fin 2) = 0 :=
  (by decide +kernel : ∀ t : Fin grid3.N, _)
theorem flush_out : ∀ t : Fin cfg3.N, (cfg3.win 4).flush t = true ↔ t.val % 5 = 4 :=
  (by decide +kernel : ∀ t : Fin grid3.N, win3_4.flush t = true ↔ t.val % 5 = 4)
theorem index_2 : ∀ t : Fin cfg3.N, win3_2.index t (0 : Fin 2) = 0 ∧ win3_2.index t (1 : Fin 2) = 0 :=
  (by decide +kernel : ∀ t : Fin grid3.N, _)
theorem index_3 : ∀ t : Fin cfg3.N, win3_3.index t (0 : Fin 2) = 0 ∧ win3_3.index t (1 : Fin 2) = 0 :=
  (by decide +kernel : ∀ t : Fin grid3.N, _)

/-! The blocks of the two large operands at a point. -/
abbrev blkA (c : Dev nD) (t : Fin cfg3.N) : Vec Ideal S1024x2048 .bf16 := iblk V c 0 t
abbrev blkB (c : Dev nD) (t : Fin cfg3.N) : Vec Ideal S2048x2048 .bf16 := iblk V c 1 t

/-- The adjacency's block at a point. -/
theorem blk_0 (c : Dev nD) (t : Fin cfg3.N) (r : Fin 1024) (s : Fin 2048) (i : Fin 10240) (s' : Fin 10240)
    (hi : i.val = t.val / 5 * 1024 + r.val) (hs : s'.val = t.val % 5 * 2048 + s.val) :
    blkA V c t (ix2 r s) = X0 V c (ix2 i s') := by
  refine congrArg (X0 V c) (Shape.idx_ext₂ ?_ ?_)
  · exact ((win3_0.rect_emb_val t (ix2 r s) (0 : Fin 2)).trans (congrArg (fun n => n * 1024 + r.val) (index_0 t).1)).trans hi.symm
  · exact ((win3_0.rect_emb_val t (ix2 r s) (1 : Fin 2)).trans (congrArg (fun n => n * 2048 + s.val) (index_0 t).2)).trans hs.symm

/-- The other operand's block at a point. -/
theorem blk_1 (c : Dev nD) (t : Fin cfg3.N) (s : Fin 2048) (q : Fin 2048) (s' : Fin 10240) (hs : s'.val = t.val % 5 * 2048 + s.val) :
    blkB V c t (ix2 s q) = X1 V c (ix2 s' q) := by
  refine congrArg (X1 V c) (Shape.idx_ext₂ ?_ ?_)
  · exact ((win3_1.rect_emb_val t (ix2 s q) (0 : Fin 2)).trans (congrArg (fun n => n * 2048 + s.val) (index_1 t).1)).trans hs.symm
  · exact win3_1.rect_emb_val_of_index_zero t (1 : Fin 2) (index_1 t).2 (ix2 s q)

/-! The other operands are held whole. -/
theorem blk_2 (c : Dev nD) (t : Fin cfg3.N) : (iblk V c 2 t : Vec Ideal S4x12 .f32) = X2 V c := by
  funext y
  refine congrArg (X2 V c) (Shape.idx_ext₂ ?_ ?_)
  · exact win3_2.rect_emb_val_of_index_zero t (0 : Fin 2) (index_2 t).1 y
  · exact win3_2.rect_emb_val_of_index_zero t (1 : Fin 2) (index_2 t).2 y
theorem blk_3 (c : Dev nD) (t : Fin cfg3.N) : (iblk V c 3 t : Vec Ideal S1x128 .f32) = X3 V c := by
  funext y
  refine congrArg (X3 V c) (Shape.idx_ext₂ ?_ ?_)
  · exact win3_3.rect_emb_val_of_index_zero t (0 : Fin 2) (index_3 t).1 y
  · exact win3_3.rect_emb_val_of_index_zero t (1 : Fin 2) (index_3 t).2 y

/-- One point's step of the accumulator, at an element. -/
theorem step_apply (xs : Vec Ideal S1024x2048 .f32) (a : Vec Ideal S1024x2048 .bf16) (b : Vec Ideal S2048x2048 .bf16) (r : Fin 1024) (q : Fin 2048) :
    k3_pay2 xs a b (ix2 r q) = xs (ix2 r q) + ∑ s : Fin 2048, a (ix2 r s) * b (ix2 s q) := by
  unfold k3_pay2
  pointwise [dot_S1024x2048_S2048x2048_S1024x2048_1_0_0_1_n_n, shapeCast_self]

/-- The accumulator's start, at an element. -/
theorem start_apply (r : Fin 1024) (q : Fin 2048) : (k3_pay1 (F := Ideal)) (ix2 r q) = (0 : EReal) := by
  unfold k3_pay1
  pointwise [shapeCast_self]

/-- One summand of the product, by the column's number. -/
def summand (c : Dev nD) (i : Fin 10240) (q : Fin 2048) (s : ℕ) : EReal :=
  if h : s < 10240 then X0 V c (ix2 i ⟨s, h⟩) * X1 V c (ix2 ⟨s, h⟩ q) else 0

/-- One column block's share of the product. -/
theorem share_eq (c : Dev nD) (t : Fin cfg3.N) (r : Fin 1024) (q : Fin 2048) (i : Fin 10240) (hi : i.val = t.val / 5 * 1024 + r.val) :
    ∑ s : Fin 2048, blkA V c t (ix2 r s) * blkB V c t (ix2 s q)
      = ∑ s ∈ Finset.range 2048, summand V c i q (t.val % 5 * 2048 + s) := by
  rw [Finset.sum_range]
  refine Finset.sum_congr rfl fun s _ => ?_
  have hlt : t.val % 5 * 2048 + s.val < 10240 := by have := Nat.mod_lt t.val (show 0 < 5 by decide); have := s.isLt; omega
  unfold summand
  rw [dif_pos hlt, blk_0 V c t r s i ⟨_, hlt⟩ hi rfl, blk_1 V c t s q ⟨_, hlt⟩ rfl]

/-- The accumulator after a point: the summands of the column blocks so far. -/
theorem acc_apply (c : Dev nD) (q : Fin 2048) (r : Fin 1024) (i : Fin 10240) (n : ℕ) : ∀ (t : Fin cfg3.N), t.val % 5 = n → i.val = t.val / 5 * 1024 + r.val →
    acc V c t.val t.isLt (ix2 r q) = ∑ s ∈ Finset.range ((n + 1) * 2048), summand V c i q s := by
  induction n with
  | zero =>
    intro t ht hi
    rw [acc_first V c t ht, step_apply, start_apply, share_eq V c t r q i hi, ht, zero_add]
    simp only [Nat.zero_mul, Nat.zero_add, Nat.one_mul]
  | succ n ih =>
    intro t ht hi
    have h0 : ¬t.val % 5 = 0 := by omega
    have hlt : t.val - 1 < cfg3.N := lt_of_le_of_lt (Nat.sub_le _ _) t.isLt
    have e := ih ⟨t.val - 1, hlt⟩ (by show (t.val - 1) % 5 = n; omega) (by show i.val = (t.val - 1) / 5 * 1024 + r.val; rw [hi]; congr 2; omega)
    rw [acc_next V c t h0, step_apply, share_eq V c t r q i hi, ht]
    rw [show (n + 1 + 1) * 2048 = (n + 1) * 2048 + 2048 by omega, Finset.sum_range_add]
    exact congrArg (· + _) e

/-- After a row block's last column block the accumulator holds the whole product. -/
theorem acc_last (c : Dev nD) (t : Fin cfg3.N) (ht : t.val % 5 = 4) (r : Fin 1024) (q : Fin 2048) (i : Fin 10240) (hi : i.val = t.val / 5 * 1024 + r.val) :
    acc V c t.val t.isLt (ix2 r q) = total V c i q := by
  rw [acc_apply V c q r i 4 t ht hi]
  show ∑ s ∈ Finset.range 10240, _ = _
  rw [Finset.sum_range]
  refine Finset.sum_congr rfl fun s _ => ?_
  unfold summand
  rw [dif_pos s.isLt]

/-- What a last point leaves in the output's staging buffer. -/
theorem outsAt_apply (c : Dev nD) (t : Fin cfg3.N) (ht : t.val % 5 = 4) (r : Fin 1024) (i : Fin 10240) (u : Fin 128) (hi : i.val = t.val / 5 * 1024 + r.val) :
    outsAt (Ix := Ix) (U := U) (Lvl := Lvl) 𝒱₀ V c t (ix2 r u)
      = kmean (fun a b => X2 V c (ix2 a b)) (fun j p => total V c i (col j p u)) + X3 V c (ix2 0 u) := by
  have h0 : ¬cond_first (grid3.coords t) := fun h => by have := (hcond_first t).mp h; omega
  have h1 : cond_last (grid3.coords t) := (hcond_last t).mpr ht
  rw [outsAt_last (Ix := Ix) (U := U) (Lvl := Lvl) 𝒱₀ V c t h0 h1]
  refine (Block3.out_eq (Ix := Ix) (U := U) (Lvl := Lvl) 𝒱₀ c (grid3.coords t) (ms0 t) (hs0 t) (ms1 t) (hs1 t) (ms2 t) (hs2 t) (ms3 t) (hs3 t) (ms4 t) (hs4 t) scM (Memref.isWhole_whole _) h0 h1
    (iblk V c 0 t) (iblk V c 1 t) (iblk V c 2 t) (iblk V c 3 t) _ r u).trans ?_
  have e : ∀ (j p : Fin 4) (k : Fin 128), (k3_pay2 (acc V c (t.val - 1) (by have := t.isLt; omega)) (iblk V c 0 t) (iblk V c 1 t) : Vec Ideal S1024x2048 .f32) (ix2 r (col j p k)) = total V c i (col j p k) :=
    fun j p k => (congrFun (acc_next V c t (by omega)).symm _).trans (acc_last V c t ht r (col j p k) i hi)
  rw [blk_2, blk_3]
  simp only [e]

variable (D : (c : Dev nD) → CellTallies nD τ sig Ix)

/-- The output array after the call, at an element. -/
theorem arr_apply (c : Dev nD) (i : Fin 10240) (u : Fin 128) :
    ((dat (Ix := Ix) (U := U) (Lvl := Lvl) 𝒱₀ V D c).arrAt 4 cfg3.N : Vec Ideal S10240x128 .f32) (ix2 i u)
      = kmean (fun a b => X2 V c (ix2 a b)) (fun j p => total V c i (col j p u)) + X3 V c (ix2 0 u) := by
  refine Dat.arrAt_forall_of_cover (dat (Ix := Ix) (U := U) (Lvl := Lvl) 𝒱₀ V D c) 4
    (fun idx x => ∀ (i : Fin 10240) (u : Fin 128), idx = (ix2 i u) → x = kmean (fun a b => X2 V c (ix2 a b)) (fun j p => total V c i (col j p u)) + X3 V c (ix2 0 u)) ?_ ?_ (ix2 i u) i u rfl
  · intro t hf y i u hy
    have ht := (flush_out t).mp hf
    have e0 : i.val = t.val / 5 * 1024 + (y (0 : Fin 2)).val :=
      (congrArg Fin.val (congrFun hy (0 : Fin 2))).symm.trans ((win3_4.rect_emb_val t y (0 : Fin 2)).trans (congrArg (fun n => n * 1024 + (y (0 : Fin 2)).val) (index_out t).1))
    have e1 : (y (1 : Fin 2)).val = (((ix2 i u) : S10240x128.Idx) (1 : Fin 2)).val :=
      (win3_4.rect_emb_val_of_index_zero t (1 : Fin 2) (index_out t).2 y).symm.trans (congrArg Fin.val (congrFun hy (1 : Fin 2)))
    have hy' : (y : S1024x128.Idx) = (ix2 (y (0 : Fin 2)) u) := Shape.idx_ext₂ rfl e1
    show outsAt (Ix := Ix) (U := U) (Lvl := Lvl) 𝒱₀ V c t y = _
    exact (congrArg (outsAt (Ix := Ix) (U := U) (Lvl := Lvl) 𝒱₀ V c t) hy').trans (outsAt_apply 𝒱₀ V c t ht (y (0 : Fin 2)) i u e0)
  · intro idx
    have h0 : (idx (0 : Fin 2)).val < 10240 := (idx (0 : Fin 2)).isLt
    have h1 : (idx (1 : Fin 2)).val < 128 := (idx (1 : Fin 2)).isLt
    have hN : cfg3.N = 50 := N_3
    have ht : 5 * ((idx (0 : Fin 2)).val / 1024) + 4 < cfg3.N := by omega
    refine ⟨⟨5 * ((idx (0 : Fin 2)).val / 1024) + 4, ht⟩, (flush_out _).mpr (by show (5 * ((idx (0 : Fin 2)).val / 1024) + 4) % 5 = 4; omega), ?_⟩
    show idx ∈ ((View.whole main_v33).slice (win3_4.rect ⟨5 * ((idx (0 : Fin 2)).val / 1024) + 4, ht⟩)).set
    rw [View.set_slice_whole, Rect.mem_set_unit]
    obtain ⟨i0, i1⟩ := index_out ⟨5 * ((idx (0 : Fin 2)).val / 1024) + 4, ht⟩
    intro a
    match a with
    | ⟨0, _⟩ =>
      show win3_4.index _ (0 : Fin 2) * 1024 ≤ (idx (0 : Fin 2)).val ∧ (idx (0 : Fin 2)).val < win3_4.index _ (0 : Fin 2) * 1024 + 1024
      rw [i0]; dsimp only; omega
    | ⟨1, _⟩ =>
      show win3_4.index _ (1 : Fin 2) * 128 ≤ (idx (1 : Fin 2)).val ∧ (idx (1 : Fin 2)).val < win3_4.index _ (1 : Fin 2) * 128 + 128
      rw [i1]; omega

end Cert.KernelIdeal.Arr3

end
-- ==== Proof.ReferenceIdeal.Take.lean ====
module

public import proofs.«01_k».proof.Proof.Gen.ReferenceIdeal.Read
public import proofs.«01_k».proof.Proof.Spec.Network
public import proofs.«01_k».proof.Proof.Spec.Scatter
public import Idealize.ShloMosaic.Lib.ReduceAll
public import Idealize.ShloMosaic.Lib.Routing.Ops
public import Idealize.ShloMosaic.Lib.WordCmp

/-!
The reference's row lookups: with every node number in range, a lookup reads the named row.
-/

@[expose] public noncomputable section

namespace Cert.ReferenceIdeal.Read

open Cert.ReferenceIdeal Cert.ReferenceIdeal.Gen Idealize.ShloMosaic.ValueIdx
open Idealize.ShloMosaic hiding ix1 ix2 ix3 eq_ix1 eq_ix2 eq_ix3

/-- A word below 10000 passes the lookup's range check and is not wrapped. -/
theorem word_checks (n : Fin 10000) :
    IntOp.cmpi .slt (BitVec.ofNat 32 n.val) 0#32 = 0#1
      ∧ IntOp.andi (IntOp.cmpi .sge (BitVec.ofNat 32 n.val) 0#32) (IntOp.cmpi .sle (BitVec.ofNat 32 n.val) 9999#32) = 1#1 := by
  have hn := n.isLt
  have h : (BitVec.ofNat 32 n.val).toInt = n.val := StableHlo.Predicate.toInt_ofNat_small _ (by omega)
  have h0 : (0#32).toInt = 0 := rfl
  have h9 : (9999#32).toInt = 9999 := rfl
  rw [WordCmp.cmpi_slt_eq, WordCmp.cmpi_sge_eq, WordCmp.cmpi_sle_eq, h, h0, h9, WordCmp.andi_ofBool,
    WordCmp.ofBool_decide_eq_zero_iff, WordCmp.ofBool_eq_one_iff, Bool.and_eq_true, decide_eq_true_iff, decide_eq_true_iff]
  omega

variable (x1 : (⟨S2x320000, .i32⟩ : BufTy).Contents (Elt Ideal)) (x2 : (⟨S2048, .i32⟩ : BufTy).Contents (Elt Ideal))

/-- The source of edge `e`, as the reference reads it. -/
theorem src_word (y : S320000.Idx) : val_main_v1 (F := Ideal) x1 y = x1 (ix2 0 (y 0)) := by
  rw [val_main_v1_apply, val_main_v0_apply]
  refine congrArg x1 (funext fun a => Fin.ext ?_)
  match a with
  | ⟨0, _⟩ => rfl
  | ⟨1, _⟩ => exact Nat.mod_eq_of_lt (y 0).isLt

/-- The target of edge `e`, as the reference reads it. -/
theorem dst_word (y : S320000.Idx) : val_main_v3 (F := Ideal) x1 y = x1 (ix2 1 (y 0)) := by
  rw [val_main_v3_apply, val_main_v2_apply]
  refine congrArg x1 (funext fun a => Fin.ext ?_)
  match a with
  | ⟨0, _⟩ => rfl
  | ⟨1, _⟩ => exact Nat.mod_eq_of_lt (y 0).isLt

variable (src : Fin 320000 → Fin 10000) (hsrc : ∀ e, x1 (ix2 0 e) = BitVec.ofNat 32 (src e).val)
include hsrc

theorem start_word (y : S320000.Idx) : val_main_call0_v4 (F := Ideal) x1 y = BitVec.ofNat 32 (src (y 0)).val := by
  have h : val_main_v1 (F := Ideal) x1 y = BitVec.ofNat 32 (src (y 0)).val := (src_word x1 y).trans (hsrc (y 0))
  rw [val_main_call0_v4_apply, val_main_call0_v1_apply, val_main_call0_v0_apply, val_main_call0_c_apply, h,
    (word_checks _).1]
  rfl

/-- The range check of the edges' lookup holds at every edge. -/
theorem in_range (y : S320000.Idx) : val_main_call0_v12 (F := Ideal) x1 y = 1#1 := by
  unfold val_main_call0_v12
  refine Host.reduce_andi_one _ _ _ _ _ rfl fun i => ?_
  rw [val_main_call0_v11_apply, val_main_call0_v7_apply, val_main_call0_v10_apply, val_main_call0_v5_apply,
    start_word x1 src hsrc]
  exact (word_checks _).2

/-- The edges' lookup reads the source's row. -/
theorem take_edges (Z : (⟨S10000x128, .f32⟩ : BufTy).Contents (Elt Ideal)) (y : S320000x128.Idx) :
    select (val_main_call0_v14 (F := Ideal) x1)
      (Host.gather gather_S10000x128_S320000x1_S320000x128_1_0_n_n_0_1_1128 Z (val_main_call0_v5 (F := Ideal) x1))
      (val_main_call0_v15 (F := Ideal)) y = Z (ix2 (src (y 0)) (y 1)) := by
  show Scalar.select (val_main_call0_v14 (F := Ideal) x1 y) _ _ = _
  rw [val_main_call0_v14_apply, in_range x1 src hsrc]
  show Host.gather gather_S10000x128_S320000x1_S320000x128_1_0_n_n_0_1_1128 Z (val_main_call0_v5 (F := Ideal) x1) y = _
  rw [eq_ix2 y]
  refine Routing.gather_row (nb := 10000) (B := 128) (n := 320000) _ rfl rfl rfl rfl rfl Z _ _ _ _ ?_ (by norm_num)
  rw [val_main_call0_v5_apply, start_word x1 src hsrc]
  rfl

omit hsrc
variable (out : Fin 2048 → Fin 10000) (hout : ∀ e, x2 (ix1 e) = BitVec.ofNat 32 (out e).val)
include hout

theorem start_word_out (y : S2048.Idx) : val_main_call5_v4 (F := Ideal) x2 y = BitVec.ofNat 32 (out (y 0)).val := by
  have h : x2 y = BitVec.ofNat 32 (out (y 0)).val := (congrArg x2 (eq_ix1 y)).trans (hout (y 0))
  rw [val_main_call5_v4_apply, val_main_call5_v1_apply, val_main_call5_v0_apply, val_main_call5_c_apply, h,
    (word_checks _).1]
  rfl

/-- The range check of the last lookup holds at every asked node. -/
theorem in_range_out (y : S2048.Idx) : val_main_call5_v12 (F := Ideal) x2 y = 1#1 := by
  unfold val_main_call5_v12
  refine Host.reduce_andi_one _ _ _ _ _ rfl fun i => ?_
  rw [val_main_call5_v11_apply, val_main_call5_v7_apply, val_main_call5_v10_apply, val_main_call5_v5_apply,
    start_word_out x2 out hout]
  exact (word_checks _).2

/-- The last lookup reads the asked node's row. -/
theorem take_out (Z : (⟨S10000x128, .f32⟩ : BufTy).Contents (Elt Ideal)) (y : S2048x128.Idx) :
    select (val_main_call5_v14 (F := Ideal) x2)
      (Host.gather gather_S10000x128_S2048x1_S2048x128_1_0_n_n_0_1_1128 Z (val_main_call5_v5 (F := Ideal) x2))
      (val_main_call5_v15 (F := Ideal)) y = Z (ix2 (out (y 0)) (y 1)) := by
  show Scalar.select (val_main_call5_v14 (F := Ideal) x2 y) _ _ = _
  rw [val_main_call5_v14_apply, in_range_out x2 out hout]
  show Host.gather gather_S10000x128_S2048x1_S2048x128_1_0_n_n_0_1_1128 Z (val_main_call5_v5 (F := Ideal) x2) y = _
  rw [eq_ix2 y]
  refine Routing.gather_row (nb := 10000) (B := 128) (n := 2048) _ rfl rfl rfl rfl rfl Z _ _ _ _ ?_ (by norm_num)
  rw [val_main_call5_v5_apply, start_word_out x2 out hout]
  rfl

end Cert.ReferenceIdeal.Read
-- ==== Proof.KernelIdeal.Value.lean ====
module

public import proofs.«01_k».proof.Proof.KernelIdeal.Operands
public import proofs.«01_k».proof.Proof.KernelIdeal.Arr0
public import proofs.«01_k».proof.Proof.KernelIdeal.Arr1
public import proofs.«01_k».proof.Proof.KernelIdeal.Arr2
public import proofs.«01_k».proof.Proof.KernelIdeal.Arr3
public import proofs.«01_k».proof.Proof.ReferenceIdeal.Take

/-!
The kernel's result: the four grids' arrays one after the other, at the nodes that exist, and the rows asked for.
-/

@[expose] public noncomputable section

namespace Cert.KernelIdeal.Value

open Cert.KernelIdeal Cert.KernelIdeal.Gen Cert.KernelIdeal.Operands Cert.Spec Idealize.ShloMosaic.ValueIdx Idealize.ShloMosaic.TcCoe Idealize.SL.Sem
open Idealize.ShloMosaic hiding ix1 ix2 ix3 eq_ix1 eq_ix2 eq_ix3

variable (m : (ℓ : Loc nD τ sig) → Buf (Elt Ideal) ℓ) (c : Dev nD)

/-! The arguments as plain families of extended reals. -/

abbrev X (n : Fin 10000) (k : Fin 128) : EReal := (m ((c : Thread nD τ).loc main_arg0) : Vec Ideal S10000x128 .f32) (ix2 n k)
abbrev W0 (k u : Fin 128) : EReal := (m ((c : Thread nD τ).loc main_arg3) : Vec Ideal S128x128 .f32) (ix2 k u)
abbrev W1 (k u : Fin 128) : EReal := (m ((c : Thread nD τ).loc main_arg5) : Vec Ideal S128x128 .f32) (ix2 k u)
abbrev W2 (k u : Fin 128) : EReal := (m ((c : Thread nD τ).loc main_arg6) : Vec Ideal S128x128 .f32) (ix2 k u)
abbrev B0 (u : Fin 128) : EReal := (m ((c : Thread nD τ).loc main_arg4) : Vec Ideal S128 .f32) (ix1 u)
abbrev L0 (a : Fin 4) (b : Fin 12) : EReal := (m ((c : Thread nD τ).loc main_arg7) : Vec Ideal S4x12 .f32) (ix2 a b)
abbrev L1 (a : Fin 4) (b : Fin 12) : EReal := (m ((c : Thread nD τ).loc main_arg8) : Vec Ideal S4x12 .f32) (ix2 a b)
abbrev L2 (a : Fin 4) (b : Fin 12) : EReal := (m ((c : Thread nD τ).loc main_arg9) : Vec Ideal S4x12 .f32) (ix2 a b)
abbrev C0 (u : Fin 128) : EReal := (m ((c : Thread nD τ).loc main_arg10) : Vec Ideal S128 .f32) (ix1 u)
abbrev C1 (u : Fin 128) : EReal := (m ((c : Thread nD τ).loc main_arg11) : Vec Ideal S128 .f32) (ix1 u)
abbrev C2 (u : Fin 128) : EReal := (m ((c : Thread nD τ).loc main_arg12) : Vec Ideal S128 .f32) (ix1 u)
abbrev G0 (u : Fin 128) : EReal := (m ((c : Thread nD τ).loc main_arg13) : Vec Ideal S128 .f32) (ix1 u)
abbrev E0 (u : Fin 128) : EReal := (m ((c : Thread nD τ).loc main_arg14) : Vec Ideal S128 .f32) (ix1 u)
abbrev G1 (u : Fin 128) : EReal := (m ((c : Thread nD τ).loc main_arg15) : Vec Ideal S128 .f32) (ix1 u)
abbrev E1 (u : Fin 128) : EReal := (m ((c : Thread nD τ).loc main_arg16) : Vec Ideal S128 .f32) (ix1 u)

/-- The messages of the first layer. -/
abbrev first (n : Fin 10000) (u : Fin 128) : EReal := firstLayer (X m c) (W0 m c) (B0 m c) n u

/-- The first grid's array at a node that exists: the powers of the first layer's messages. -/
theorem first_grid (n : Fin 10000) (j p : Fin 4) (u : Fin 128) :
    (Launch.outs4 m 4 main_v23 c : Vec Ideal S10240x2048 .bf16) (ix2 (n.castLE (by decide)) (col j p u))
      = kpow (L0 m c) (first m c n u) j p := by
  have h := Arr0.arr_apply (Ix := Unit) (U := UR sig nD τ) (Lvl := ℕ) Variants.none (Launch.Ve0 m) (fun _ => 0) c (n.castLE (by decide)) j p u
  refine (congrFun (Launch.hout0 m c) _).trans (Eq.trans ?_ (h.trans ?_))
  · rfl
  · have e3 : Arr0.X3 (Launch.Ve0 m) c = m ((c : Thread nD τ).loc main_arg7) := arg7_at3 m c
    have e1 : Arr0.X1 (Launch.Ve0 m) c = m ((c : Thread nD τ).loc main_arg3) := arg3_at3 m c
    rw [e3, e1]
    refine congrArg (fun z => kpow (L0 m c) (sigm z) j p) (congrArg₂ (fun a b : EReal => a + b) (Finset.sum_congr rfl fun k _ => ?_) ?_)
    · exact congrArg (fun z : EReal => z * W0 m c k u) (features m c n k)
    · exact bias0 m c u

variable (src dst : Fin 320000 → Fin 10000)

/-- The messages of the second and third layers. -/
abbrev second (n : Fin 10000) (u : Fin 128) : EReal :=
  nextLayer src dst (L0 m c) (C0 m c) (G0 m c) (E0 m c) (W1 m c) (first m c) n u
abbrev third (n : Fin 10000) (u : Fin 128) : EReal :=
  nextLayer src dst (L1 m c) (C1 m c) (G1 m c) (E1 m c) (W2 m c) (second m c src dst) n u

variable
  (hsrc : ∀ e, (m ((c : Thread nD τ).loc main_arg1) : IVec S2x320000 32) (ix2 0 e) = BitVec.ofNat 32 (src e).val)
  (hdst : ∀ e, (m ((c : Thread nD τ).loc main_arg1) : IVec S2x320000 32) (ix2 1 e) = BitVec.ofNat 32 (dst e).val)
  (hL0 : ∀ j p, 0 ≤ L0 m c j ((![1, 3, 5, 7] : Fin 4 → Fin 12) p))
  (hL1 : ∀ j p, 0 ≤ L1 m c j ((![1, 3, 5, 7] : Fin 4 → Fin 12) p))
  (hL2 : ∀ j p, 0 ≤ L2 m c j ((![1, 3, 5, 7] : Fin 4 → Fin 12) p))

include hsrc hdst hL0 in
/-- What the second grid gathers at a node that exists. -/
theorem gather1 (n : Fin 10000) (k : Fin 128) :
    kmean (L0 m c) (fun j p => Arr1.total (Launch.Ve1 m (Launch.outs4 m)) c (n.castLE (by decide)) (col j p k))
      = gathered src dst (L0 m c) (fun i => first m c i k) n.val := by
  have e : (fun j p => Arr1.total (Launch.Ve1 m (Launch.outs4 m)) c (n.castLE (by decide)) (col j p k))
      = fun j p => ∑ s : Fin 10240, edges src dst ((n.castLE (by decide) : Fin 10240)) s
          * (Launch.outs4 m 4 main_v23 c : Vec Ideal S10240x2048 .bf16) (ix2 s (col j p k)) := by
    funext j p
    have e1 : Arr1.X1 (Launch.Ve1 m (Launch.outs4 m)) c = Launch.outs4 m 4 main_v23 c := array_v23 m (Launch.outs4 m) c
    refine Finset.sum_congr rfl fun s _ => ?_
    rw [e1]
    exact congrArg (fun z : EReal => z * (Launch.outs4 m 4 main_v23 c : Vec Ideal S10240x2048 .bf16) (ix2 s (col j p k)))
      (matrix5 m (Launch.outs4 m) c src dst hsrc hdst _ s)
  rw [e]
  exact layer_eq src dst (by decide) (L0 m c) hL0 (fun i => first m c i k) (fun i => unit01_sigm _)
    (fun j p s => (Launch.outs4 m 4 main_v23 c : Vec Ideal S10240x2048 .bf16) (ix2 s (col j p k)))
    (fun j p i => first_grid m c i j p k) (n.castLE (by decide))

include hsrc hdst hL0 in
/-- The second grid's array at a node that exists: the powers of the second layer's messages. -/
theorem second_grid (n : Fin 10000) (j p : Fin 4) (u : Fin 128) :
    (Launch.outs4 m 6 main_v27 c : Vec Ideal S10240x2048 .bf16) (ix2 (n.castLE (by decide)) (col j p u))
      = kpow (L1 m c) (second m c src dst n u) j p := by
  have h := Arr1.arr_apply (Ix := Unit) (U := UR sig nD τ) (Lvl := ℕ) Variants.none (Launch.Ve1 m (Launch.outs4 m)) (fun _ => 0) c (n.castLE (by decide)) j p u
  refine (congrFun (Launch.hout1 m c) _).trans (Eq.trans ?_ (h.trans ?_))
  · rfl
  · have e2 : Arr1.X2 (Launch.Ve1 m (Launch.outs4 m)) c = m ((c : Thread nD τ).loc main_arg7) := arg7_at5 m _ c
    have e6 : Arr1.X6 (Launch.Ve1 m (Launch.outs4 m)) c = m ((c : Thread nD τ).loc main_arg5) := arg5_at5 m _ c
    have e7 : Arr1.X7 (Launch.Ve1 m (Launch.outs4 m)) c = m ((c : Thread nD τ).loc main_arg8) := arg8_at5 m _ c
    rw [e2, e6, e7]
    refine congrArg (fun z => kpow (L1 m c) (sigm z) j p) (Finset.sum_congr rfl fun k _ => ?_)
    have eb : Arr1.X3 (Launch.Ve1 m (Launch.outs4 m)) c (ix2 0 k) = C0 m c k := bias1 m _ c k
    have eg : Arr1.X4 (Launch.Ve1 m (Launch.outs4 m)) c (ix2 0 k) = G0 m c k := gain1 m _ c k
    have es : Arr1.X5 (Launch.Ve1 m (Launch.outs4 m)) c (ix2 0 k) = E0 m c k := shift1 m _ c k
    refine congrArg (fun z : EReal => max z 0 * W1 m c k u) (congrArg₂ (fun a b : EReal => a + b) ?_ es)
    refine (norm_eq _ _ _).trans (congrArg₂ (fun a b : EReal => a * b) (congrArg (fun z : EReal => z * _) (congrArg₂ (fun a b : EReal => a + b) ?_ eb)) eg)
    exact gather1 m c src dst hsrc hdst hL0 n k

include hsrc hdst hL0 hL1 in
/-- What the third grid gathers at a node that exists. -/
theorem gather2 (n : Fin 10000) (k : Fin 128) :
    kmean (L1 m c) (fun j p => Arr2.total (Launch.Ve2 m (Launch.outs4 m)) c (n.castLE (by decide)) (col j p k))
      = gathered src dst (L1 m c) (fun i => second m c src dst i k) n.val := by
  have e : (fun j p => Arr2.total (Launch.Ve2 m (Launch.outs4 m)) c (n.castLE (by decide)) (col j p k))
      = fun j p => ∑ s : Fin 10240, edges src dst ((n.castLE (by decide) : Fin 10240)) s
          * (Launch.outs4 m 6 main_v27 c : Vec Ideal S10240x2048 .bf16) (ix2 s (col j p k)) := by
    funext j p
    have e1 : Arr2.X1 (Launch.Ve2 m (Launch.outs4 m)) c = Launch.outs4 m 6 main_v27 c := array_v27 m (Launch.outs4 m) c
    refine Finset.sum_congr rfl fun s _ => ?_
    rw [e1]
    exact congrArg (fun z : EReal => z * (Launch.outs4 m 6 main_v27 c : Vec Ideal S10240x2048 .bf16) (ix2 s (col j p k)))
      (matrix7 m (Launch.outs4 m) c src dst hsrc hdst _ s)
  rw [e]
  exact layer_eq src dst (by decide) (L1 m c) hL1 (fun i => second m c src dst i k) (fun i => unit01_sigm _)
    (fun j p s => (Launch.outs4 m 6 main_v27 c : Vec Ideal S10240x2048 .bf16) (ix2 s (col j p k)))
    (fun j p i => second_grid m c src dst hsrc hdst hL0 i j p k) (n.castLE (by decide))

include hsrc hdst hL0 hL1 in
/-- The third grid's array at a node that exists: the powers of the third layer's messages. -/
theorem third_grid (n : Fin 10000) (j p : Fin 4) (u : Fin 128) :
    (Launch.outs4 m 8 main_v31 c : Vec Ideal S10240x2048 .bf16) (ix2 (n.castLE (by decide)) (col j p u))
      = kpow (L2 m c) (third m c src dst n u) j p := by
  have h := Arr2.arr_apply (Ix := Unit) (U := UR sig nD τ) (Lvl := ℕ) Variants.none (Launch.Ve2 m (Launch.outs4 m)) (fun _ => 0) c (n.castLE (by decide)) j p u
  refine (congrFun (Launch.hout2 m c) _).trans (Eq.trans ?_ (h.trans ?_))
  · rfl
  · have e2 : Arr2.X2 (Launch.Ve2 m (Launch.outs4 m)) c = m ((c : Thread nD τ).loc main_arg8) := arg8_at7 m _ c
    have e6 : Arr2.X6 (Launch.Ve2 m (Launch.outs4 m)) c = m ((c : Thread nD τ).loc main_arg6) := arg6_at7 m _ c
    have e7 : Arr2.X7 (Launch.Ve2 m (Launch.outs4 m)) c = m ((c : Thread nD τ).loc main_arg9) := arg9_at7 m _ c
    rw [e2, e6, e7]
    refine congrArg (fun z => kpow (L2 m c) (sigm z) j p) (Finset.sum_congr rfl fun k _ => ?_)
    have eb : Arr2.X3 (Launch.Ve2 m (Launch.outs4 m)) c (ix2 0 k) = C1 m c k := bias2 m _ c k
    have eg : Arr2.X4 (Launch.Ve2 m (Launch.outs4 m)) c (ix2 0 k) = G1 m c k := gain2 m _ c k
    have es : Arr2.X5 (Launch.Ve2 m (Launch.outs4 m)) c (ix2 0 k) = E1 m c k := shift2 m _ c k
    refine congrArg (fun z : EReal => max z 0 * W2 m c k u) (congrArg₂ (fun a b : EReal => a + b) ?_ es)
    refine (norm_eq _ _ _).trans (congrArg₂ (fun a b : EReal => a * b) (congrArg (fun z : EReal => z * _) (congrArg₂ (fun a b : EReal => a + b) ?_ eb)) eg)
    exact gather2 m c src dst hsrc hdst hL0 hL1 n k

include hsrc hdst hL0 hL1 hL2 in
/-- What the last grid gathers at a node that exists. -/
theorem gather3 (n : Fin 10000) (k : Fin 128) :
    kmean (L2 m c) (fun j p => Arr3.total (Launch.Ve3 m (Launch.outs4 m)) c (n.castLE (by decide)) (col j p k))
      = gathered src dst (L2 m c) (fun i => third m c src dst i k) n.val := by
  have e : (fun j p => Arr3.total (Launch.Ve3 m (Launch.outs4 m)) c (n.castLE (by decide)) (col j p k))
      = fun j p => ∑ s : Fin 10240, edges src dst ((n.castLE (by decide) : Fin 10240)) s
          * (Launch.outs4 m 8 main_v31 c : Vec Ideal S10240x2048 .bf16) (ix2 s (col j p k)) := by
    funext j p
    have e1 : Arr3.X1 (Launch.Ve3 m (Launch.outs4 m)) c = Launch.outs4 m 8 main_v31 c := array_v31 m (Launch.outs4 m) c
    refine Finset.sum_congr rfl fun s _ => ?_
    rw [e1]
    exact congrArg (fun z : EReal => z * (Launch.outs4 m 8 main_v31 c : Vec Ideal S10240x2048 .bf16) (ix2 s (col j p k)))
      (matrix9 m (Launch.outs4 m) c src dst hsrc hdst _ s)
  rw [e]
  exact layer_eq src dst (by decide) (L2 m c) hL2 (fun i => third m c src dst i k) (fun i => unit01_sigm _)
    (fun j p s => (Launch.outs4 m 8 main_v31 c : Vec Ideal S10240x2048 .bf16) (ix2 s (col j p k)))
    (fun j p i => third_grid m c src dst hsrc hdst hL0 hL1 i j p k) (n.castLE (by decide))

include hsrc hdst hL0 hL1 hL2 in
/-- The last grid's array at a node that exists: the network's value. -/
theorem last_grid (n : Fin 10000) (u : Fin 128) :
    (Launch.outs4 m 10 main_v33 c : Vec Ideal S10240x128 .f32) (ix2 (n.castLE (by decide)) u)
      = network src dst (X m c) (W0 m c) (W1 m c) (W2 m c) (B0 m c) (L0 m c) (L1 m c) (L2 m c) (C0 m c) (C1 m c) (C2 m c)
          (G0 m c) (E0 m c) (G1 m c) (E1 m c) n u := by
  have h := Arr3.arr_apply (Ix := Unit) (U := UR sig nD τ) (Lvl := ℕ) Variants.none (Launch.Ve3 m (Launch.outs4 m)) (fun _ => 0) c (n.castLE (by decide)) u
  refine (congrFun (Launch.hout3 m c) _).trans (Eq.trans ?_ (h.trans ?_))
  · rfl
  · have e2 : Arr3.X2 (Launch.Ve3 m (Launch.outs4 m)) c = m ((c : Thread nD τ).loc main_arg9) := arg9_at9 m _ c
    have eb : Arr3.X3 (Launch.Ve3 m (Launch.outs4 m)) c (ix2 0 u) = C2 m c u := bias3 m _ c u
    rw [e2]
    exact congrArg₂ (fun a b : EReal => a + b) (gather3 m c src dst hsrc hdst hL0 hL1 hL2 n u) eb

/-- The last lookup's operations, over any contents of the buffers: the reference's own lookup, of the cut array. -/
theorem take_read (V : Valuation τ sig (Elt Ideal)) : StableHlo.after hostOps4_1 V (Proc.devRef .tc main_v35)
    = select (ReferenceIdeal.Read.val_main_call5_v14 (F := Ideal) (V (Proc.devRef .tc main_arg2)))
      (Host.gather ReferenceIdeal.gather_S10000x128_S2048x1_S2048x128_1_0_n_n_0_1_1128 (V (Proc.devRef .tc main_v34))
        (ReferenceIdeal.Read.val_main_call5_v5 (F := Ideal) (V (Proc.devRef .tc main_arg2))))
      (ReferenceIdeal.Read.val_main_call5_v15 (F := Ideal)) := by
  after_reads_simp
  rfl

variable (out : Fin 2048 → Fin 10000)
  (hout : ∀ e, (m ((c : Thread nD τ).loc main_arg2) : IVec S2048 32) (ix1 e) = BitVec.ofNat 32 (out e).val)

include hsrc hdst hL0 hL1 hL2 hout in
/-- The kernel's result: the network's value at the nodes asked for. -/
theorem result (y : S2048x128.Idx) :
    (V12 m (Launch.outs4 m) c (Proc.devRef .tc main_v35) : Vec Ideal S2048x128 .f32) y
      = network src dst (X m c) (W0 m c) (W1 m c) (W2 m c) (B0 m c) (L0 m c) (L1 m c) (L2 m c) (C0 m c) (C1 m c) (C2 m c)
          (G0 m c) (E0 m c) (G1 m c) (E1 m c) (out (y 0)) (y 1) := by
  have h : V12 m (Launch.outs4 m) c (Proc.devRef .tc main_v35) = _ := take_read (V11 m (Launch.outs4 m) c)
  have h2 : V11 m (Launch.outs4 m) c (Proc.devRef .tc main_arg2) = m ((c : Thread nD τ).loc main_arg2) := arg2_at11 m _ c
  have h3 : V11 m (Launch.outs4 m) c (Proc.devRef .tc main_v34) = _ := Entry.cut_read (V10 m (Launch.outs4 m) c)
  have h4 : V10 m (Launch.outs4 m) c (Proc.devRef .tc main_v33) = Launch.outs4 m 10 main_v33 c := Launch.at_main_v33 m _ c
  rw [h, h2, h3, h4]
  refine (ReferenceIdeal.Read.take_out _ out hout _ y).trans ?_
  refine (Entry.cut_node _ _ _).trans ?_
  exact last_grid m c src dst hsrc hdst hL0 hL1 hL2 (out (y 0)) (y 1)

end Cert.KernelIdeal.Value
-- ==== Proof.ReferenceIdeal.Layer1.lean ====
module

public import proofs.«01_k».proof.Proof.ReferenceIdeal.Take

/-!
The reference's first gathering layer: what each node gathers from its neighbours, and what the layer makes of it.
-/

@[expose] public noncomputable section

namespace Cert.ReferenceIdeal.Read.Layer1

open Cert.ReferenceIdeal Cert.ReferenceIdeal.Gen Cert.Spec Idealize.ShloMosaic.ValueIdx
open Idealize.ShloMosaic hiding ix1 ix2 ix3 eq_ix1 eq_ix2 eq_ix3

variable
  (x0 : (⟨S10000x128, .f32⟩ : BufTy).Contents (Elt Ideal))
  (x1 : (⟨S2x320000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x7 : (⟨S4x12, .f32⟩ : BufTy).Contents (Elt Ideal))
  (x10 : (⟨S128, .f32⟩ : BufTy).Contents (Elt Ideal))
  (x13 : (⟨S128, .f32⟩ : BufTy).Contents (Elt Ideal))
  (x14 : (⟨S128, .f32⟩ : BufTy).Contents (Elt Ideal))
  (src dst : Fin 320000 → Fin 10000) (hsrc : ∀ e, x1 (ix2 0 e) = BitVec.ofNat 32 (src e).val)
  (hdst : ∀ e, x1 (ix2 1 e) = BitVec.ofNat 32 (dst e).val)

/-- The parameters as a table. -/
abbrev L (a : Fin 4) (b : Fin 12) : EReal := x7 (ix2 a b)

/-- The messages as a table. -/
abbrev Z (n : Fin 10000) (t : Fin 128) : EReal := (val_main_v13 (F := Ideal) x0 x3 x4) (ix2 n t)

/-- The sum over the edges into node `i`. -/
abbrev S (i : Fin 10000) (t : Fin 128) (j p : Fin 4) : EReal :=
  ∑ e ∈ Finset.univ.filter (fun e : Fin 320000 => (dst e).val = i.val), rpow (L x7) (Z x0 x3 x4 (src e) t) j p

theorem par0 (y : S1x4x1.Idx) : (val_main_v20 (F := Ideal) x7) y = (L x7) (y 1) 0 := by
  rw [val_main_v20_apply, val_main_v19_apply, val_main_v18_apply]
  refine congrArg x7 (funext fun a => Fin.ext ?_)
  match a with
  | ⟨0, _⟩ => exact Nat.div_one _
  | ⟨1, _⟩ => rfl

theorem par1 (y : S1x4x1.Idx) : (val_main_v23 (F := Ideal) x7) y = (L x7) (y 1) 1 := by
  rw [val_main_v23_apply, val_main_v22_apply, val_main_v21_apply]
  refine congrArg x7 (funext fun a => Fin.ext ?_)
  match a with
  | ⟨0, _⟩ => exact Nat.div_one _
  | ⟨1, _⟩ => rfl

theorem par2 (y : S1x4x1.Idx) : (val_main_v26 (F := Ideal) x7) y = (L x7) (y 1) 2 := by
  rw [val_main_v26_apply, val_main_v25_apply, val_main_v24_apply]
  refine congrArg x7 (funext fun a => Fin.ext ?_)
  match a with
  | ⟨0, _⟩ => exact Nat.div_one _
  | ⟨1, _⟩ => rfl

theorem par3 (y : S1x4x1.Idx) : (val_main_v29 (F := Ideal) x7) y = (L x7) (y 1) 3 := by
  rw [val_main_v29_apply, val_main_v28_apply, val_main_v27_apply]
  refine congrArg x7 (funext fun a => Fin.ext ?_)
  match a with
  | ⟨0, _⟩ => exact Nat.div_one _
  | ⟨1, _⟩ => rfl

theorem par4 (y : S1x4x1.Idx) : (val_main_v32 (F := Ideal) x7) y = (L x7) (y 1) 4 := by
  rw [val_main_v32_apply, val_main_v31_apply, val_main_v30_apply]
  refine congrArg x7 (funext fun a => Fin.ext ?_)
  match a with
  | ⟨0, _⟩ => exact Nat.div_one _
  | ⟨1, _⟩ => rfl

theorem par5 (y : S1x4x1.Idx) : (val_main_v35 (F := Ideal) x7) y = (L x7) (y 1) 5 := by
  rw [val_main_v35_apply, val_main_v34_apply, val_main_v33_apply]
  refine congrArg x7 (funext fun a => Fin.ext ?_)
  match a with
  | ⟨0, _⟩ => exact Nat.div_one _
  | ⟨1, _⟩ => rfl

theorem par6 (y : S1x4x1.Idx) : (val_main_v38 (F := Ideal) x7) y = (L x7) (y 1) 6 := by
  rw [val_main_v38_apply, val_main_v37_apply, val_main_v36_apply]
  refine congrArg x7 (funext fun a => Fin.ext ?_)
  match a with
  | ⟨0, _⟩ => exact Nat.div_one _
  | ⟨1, _⟩ => rfl

theorem par7 (y : S1x4x1.Idx) : (val_main_v41 (F := Ideal) x7) y = (L x7) (y 1) 7 := by
  rw [val_main_v41_apply, val_main_v40_apply, val_main_v39_apply]
  refine congrArg x7 (funext fun a => Fin.ext ?_)
  match a with
  | ⟨0, _⟩ => exact Nat.div_one _
  | ⟨1, _⟩ => rfl

theorem par8 (y : S1x4x1.Idx) : (val_main_v44 (F := Ideal) x7) y = (L x7) (y 1) 8 := by
  rw [val_main_v44_apply, val_main_v43_apply, val_main_v42_apply]
  refine congrArg x7 (funext fun a => Fin.ext ?_)
  match a with
  | ⟨0, _⟩ => exact Nat.div_one _
  | ⟨1, _⟩ => rfl

theorem par9 (y : S1x4x1.Idx) : (val_main_v47 (F := Ideal) x7) y = (L x7) (y 1) 9 := by
  rw [val_main_v47_apply, val_main_v46_apply, val_main_v45_apply]
  refine congrArg x7 (funext fun a => Fin.ext ?_)
  match a with
  | ⟨0, _⟩ => exact Nat.div_one _
  | ⟨1, _⟩ => rfl

theorem par10 (y : S1x4x1.Idx) : (val_main_v50 (F := Ideal) x7) y = (L x7) (y 1) 10 := by
  rw [val_main_v50_apply, val_main_v49_apply, val_main_v48_apply]
  refine congrArg x7 (funext fun a => Fin.ext ?_)
  match a with
  | ⟨0, _⟩ => exact Nat.div_one _
  | ⟨1, _⟩ => rfl

theorem par11 (y : S1x4x1.Idx) : (val_main_v53 (F := Ideal) x7) y = (L x7) (y 1) 11 := by
  rw [val_main_v53_apply, val_main_v52_apply, val_main_v51_apply]
  refine congrArg x7 (funext fun a => Fin.ext ?_)
  match a with
  | ⟨0, _⟩ => exact Nat.div_one _
  | ⟨1, _⟩ => rfl

include hsrc in
/-- The message of an edge is its source's. -/
theorem take (y : S320000x128.Idx) : (val_main_v14 (F := Ideal) x0 x1 x3 x4) y = Z x0 x3 x4 (src (y 0)) (y 1) := by
  exact take_edges x1 src hsrc (val_main_v13 (F := Ideal) x0 x3 x4) y

include hsrc in
theorem msg (y : S320000x1x128.Idx) : (val_main_v15 (F := Ideal) x0 x1 x3 x4) y = Z x0 x3 x4 (src (y 0)) (y 2) := by
  rw [val_main_v15_apply, take (hsrc := hsrc)]
  rfl

include hsrc in
theorem comsg (y : S320000x1x128.Idx) : (val_main_v17 (F := Ideal) x0 x1 x3 x4) y = 1 - Z x0 x3 x4 (src (y 0)) (y 2) := by
  rw [val_main_v17_apply, val_main_v16_apply, val_main_cst_1_apply, msg (hsrc := hsrc)]
  exact congrArg (fun o => o - Z x0 x3 x4 (src (y 0)) (y 2)) Ideal.ofBits_one_f32

include hsrc in
theorem pow0 (y : S320000x4x128.Idx) : (val_main_v56 (F := Ideal) x0 x1 x3 x4 x7) y = rpow (L x7) (Z x0 x3 x4 (src (y 0)) (y 2)) (y 1) 0 := by
  rw [val_main_v56_apply, val_main_v54_apply, val_main_v55_apply, msg (hsrc := hsrc), par1]
  rfl

include hsrc hdst in
theorem sum0 (y : S10000x4x128.Idx) : (val_main_v59 (F := Ideal) x0 x1 x3 x4 x7) y = S x0 x3 x4 x7 src dst (y 0) (y 2) (y 1) 0 := by
  have hw : ∀ e : Fin 320000, ((val_main_v58 (F := Ideal) x1) (ix2 e (0 : Fin 1))).toInt = ((dst e).val : Int) := fun e => by
    rw [val_main_v58_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v57_apply, val_main_cst_2_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow0 x0 x1 x3 x4 x7 src hsrc (ix3 e j t)

include hsrc in
theorem pow1 (y : S320000x4x128.Idx) : (val_main_v62 (F := Ideal) x0 x1 x3 x4 x7) y = rpow (L x7) (Z x0 x3 x4 (src (y 0)) (y 2)) (y 1) 1 := by
  rw [val_main_v62_apply, val_main_v60_apply, val_main_v61_apply, comsg (hsrc := hsrc), par3]
  rfl

include hsrc hdst in
theorem sum1 (y : S10000x4x128.Idx) : (val_main_v65 (F := Ideal) x0 x1 x3 x4 x7) y = S x0 x3 x4 x7 src dst (y 0) (y 2) (y 1) 1 := by
  have hw : ∀ e : Fin 320000, ((val_main_v64 (F := Ideal) x1) (ix2 e (0 : Fin 1))).toInt = ((dst e).val : Int) := fun e => by
    rw [val_main_v64_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v63_apply, val_main_cst_3_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow1 x0 x1 x3 x4 x7 src hsrc (ix3 e j t)

include hsrc in
theorem pow2 (y : S320000x4x128.Idx) : (val_main_v68 (F := Ideal) x0 x1 x3 x4 x7) y = rpow (L x7) (Z x0 x3 x4 (src (y 0)) (y 2)) (y 1) 2 := by
  rw [val_main_v68_apply, val_main_v66_apply, val_main_v67_apply, msg (hsrc := hsrc), par5]
  rfl

include hsrc hdst in
theorem sum2 (y : S10000x4x128.Idx) : (val_main_v71 (F := Ideal) x0 x1 x3 x4 x7) y = S x0 x3 x4 x7 src dst (y 0) (y 2) (y 1) 2 := by
  have hw : ∀ e : Fin 320000, ((val_main_v70 (F := Ideal) x1) (ix2 e (0 : Fin 1))).toInt = ((dst e).val : Int) := fun e => by
    rw [val_main_v70_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v69_apply, val_main_cst_4_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow2 x0 x1 x3 x4 x7 src hsrc (ix3 e j t)

include hsrc in
theorem pow3 (y : S320000x4x128.Idx) : (val_main_v74 (F := Ideal) x0 x1 x3 x4 x7) y = rpow (L x7) (Z x0 x3 x4 (src (y 0)) (y 2)) (y 1) 3 := by
  rw [val_main_v74_apply, val_main_v72_apply, val_main_v73_apply, comsg (hsrc := hsrc), par7]
  rfl

include hsrc hdst in
theorem sum3 (y : S10000x4x128.Idx) : (val_main_v77 (F := Ideal) x0 x1 x3 x4 x7) y = S x0 x3 x4 x7 src dst (y 0) (y 2) (y 1) 3 := by
  have hw : ∀ e : Fin 320000, ((val_main_v76 (F := Ideal) x1) (ix2 e (0 : Fin 1))).toInt = ((dst e).val : Int) := fun e => by
    rw [val_main_v76_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v75_apply, val_main_cst_5_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow3 x0 x1 x3 x4 x7 src hsrc (ix3 e j t)

include hsrc hdst in
/-- The fraction of one head. -/
theorem frac (y : S10000x4x128.Idx) : (val_main_v106 (F := Ideal) x0 x1 x3 x4 x7) y = rterm (L x7) (S x0 x3 x4 x7 src dst (y 0) (y 2)) (y 1) := by
  rw [val_main_v106_apply, val_main_v90_apply, val_main_v83_apply, val_main_v82_apply, val_main_v81_apply, val_main_v79_apply, val_main_v78_apply, val_main_cst_6_apply, val_main_v80_apply, val_main_v89_apply, val_main_v88_apply, val_main_v87_apply, val_main_v85_apply, val_main_v84_apply, val_main_cst_7_apply, val_main_v86_apply, val_main_v105_apply, val_main_v103_apply, val_main_v96_apply, val_main_v95_apply, val_main_v94_apply, val_main_v92_apply, val_main_v91_apply, val_main_cst_8_apply, val_main_v93_apply, val_main_v102_apply, val_main_v101_apply, val_main_v100_apply, val_main_v98_apply, val_main_v97_apply, val_main_cst_9_apply, val_main_v99_apply, val_main_v104_apply, val_main_cst_10_apply,
    sum0 (hsrc := hsrc) (hdst := hdst), sum1 (hsrc := hsrc) (hdst := hdst), sum2 (hsrc := hsrc) (hdst := hdst), sum3 (hsrc := hsrc) (hdst := hdst), par0, par2, par4, par6, par8, par9, par10, par11]
  rfl

include hsrc hdst in
/-- What node `i` gathers. -/
theorem gath (i : Fin 10000) (t : Fin 128) : (val_main_v109 (F := Ideal) x0 x1 x3 x4 x7) (ix2 i t)
    = gathered src dst (L x7) (fun m => Z x0 x3 x4 m t) i.val := by
  rw [val_main_v109_apply, val_main_v108_apply, val_main_cst_12_apply, val_main_v107_apply, val_main_cst_11_apply]
  have hz : ((FloatOps.ofBits .f32 0x00000000#32 : Ideal .f32) : EReal) = 0 := Ideal.ofBits_zero_f32
  refine congrArg (fun o => Ideal.div o (Ideal.ofBits .f32 0x40800000#32)) ?_
  refine (congrArg (fun o : EReal => o + _) hz).trans ?_
  rw [zero_add]
  exact Finset.sum_congr rfl fun j _ => frac x0 x1 x3 x4 x7 src dst hsrc hdst (idx_main_v107 (ix2 i t) j)

include hsrc hdst in
/-- The bias added. -/
theorem biased (i : Fin 10000) (t : Fin 128) : (val_main_v112 (F := Ideal) x0 x1 x3 x4 x7 x10) (ix2 i t)
    = gathered src dst (L x7) (fun m => Z x0 x3 x4 m t) i.val + x10 (ix1 t) := by
  rw [val_main_v112_apply, gath (hsrc := hsrc) (hdst := hdst), val_main_v111_apply, val_main_v110_apply]
  exact congrArg (fun y => gathered src dst (L x7) (fun m => Z x0 x3 x4 m t) i.val + x10 y) (eq_ix1 _)

include hsrc hdst in
/-- The normalised value clipped below at zero. -/
theorem normed (i : Fin 10000) (t : Fin 128) : (val_main_v121 (F := Ideal) x0 x1 x3 x4 x7 x10 x13 x14) (ix2 i t)
    = max ((gathered src dst (L x7) (fun m => Z x0 x3 x4 m t) i.val + x10 (ix1 t)) * Ideal.ofBits .f32 0x3F7FFFAC#32
        * x13 (ix1 t) + x14 (ix1 t)) 0 := by
  rw [val_main_v121_apply, val_main_v120_apply, val_main_v117_apply, val_main_v114_apply, biased (hsrc := hsrc) (hdst := hdst), val_main_v113_apply, val_main_cst_13_apply, val_main_v116_apply, val_main_v115_apply, val_main_v119_apply, val_main_v118_apply]
  have hg : x13 (idx_main_v115 (idx_main_v116 (ix2 i t))) = x13 (ix1 t) := congrArg x13 (eq_ix1 _)
  have hb : x14 (idx_main_v118 (idx_main_v119 (ix2 i t))) = x14 (ix1 t) := congrArg x14 (eq_ix1 _)
  rw [hg, hb]
  exact congrArg (fun o : EReal => max _ o) Ideal.ofBits_zero_f32

include hsrc hdst in
/-- The layer's messages. -/
theorem layer (i : Fin 10000) (u : Fin 128) : (val_main_v128 (F := Ideal) x0 x1 x3 x4 x5 x7 x10 x13 x14) (ix2 i u)
    = nextLayer src dst (L x7) (fun t => x10 (ix1 t)) (fun t => x13 (ix1 t)) (fun t => x14 (ix1 t)) (fun t u => x5 (ix2 t u))
        (Z x0 x3 x4) i u := by
  rw [val_main_v128_apply, val_main_v127_apply, val_main_cst_15_apply, val_main_v126_apply, val_main_v125_apply, val_main_cst_14_apply, val_main_v124_apply, val_main_v123_apply, val_main_v122_apply]
  have hs : ∀ t : Fin 128, (val_main_v121 (F := Ideal) x0 x1 x3 x4 x7 x10 x13 x14) (lidx_main_v122 (ix2 i u) t) * x5 (ridx_main_v122 (ix2 i u) t)
      = max ((gathered src dst (L x7) (fun m => Z x0 x3 x4 m t) i.val + x10 (ix1 t)) * Ideal.ofBits .f32 0x3F7FFFAC#32
        * x13 (ix1 t) + x14 (ix1 t)) 0 * x5 (ix2 t u) := fun t => by
    have e1 : lidx_main_v122 (ix2 i u) t = ix2 i t := eq_ix2 _
    have e2 : ridx_main_v122 (ix2 i u) t = ix2 t u := eq_ix2 _
    rw [e1, e2, normed (hsrc := hsrc) (hdst := hdst)]
  rw [Finset.sum_congr rfl fun t _ => hs t]
  unfold nextLayer sigm
  have h1 : (FloatOps.ofBits .f32 0x3F800000#32 : Ideal .f32) = (1 : EReal) := Ideal.ofBits_one_f32
  rw [h1, zero_sub]
  rfl

end Cert.ReferenceIdeal.Read.Layer1
-- ==== Proof.ReferenceIdeal.Layer2.lean ====
module

public import proofs.«01_k».proof.Proof.ReferenceIdeal.Take

/-!
The reference's second gathering layer: what each node gathers from its neighbours, and what the layer makes of it.
-/

@[expose] public noncomputable section

namespace Cert.ReferenceIdeal.Read.Layer2

open Cert.ReferenceIdeal Cert.ReferenceIdeal.Gen Cert.Spec Idealize.ShloMosaic.ValueIdx
open Idealize.ShloMosaic hiding ix1 ix2 ix3 eq_ix1 eq_ix2 eq_ix3

variable
  (x0 : (⟨S10000x128, .f32⟩ : BufTy).Contents (Elt Ideal))
  (x1 : (⟨S2x320000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128x128, .f32⟩ : BufTy).Contents (Elt Ideal))
  (x7 : (⟨S4x12, .f32⟩ : BufTy).Contents (Elt Ideal))
  (x8 : (⟨S4x12, .f32⟩ : BufTy).Contents (Elt Ideal))
  (x10 : (⟨S128, .f32⟩ : BufTy).Contents (Elt Ideal))
  (x11 : (⟨S128, .f32⟩ : BufTy).Contents (Elt Ideal))
  (x13 : (⟨S128, .f32⟩ : BufTy).Contents (Elt Ideal))
  (x14 : (⟨S128, .f32⟩ : BufTy).Contents (Elt Ideal))
  (x15 : (⟨S128, .f32⟩ : BufTy).Contents (Elt Ideal))
  (x16 : (⟨S128, .f32⟩ : BufTy).Contents (Elt Ideal))
  (src dst : Fin 320000 → Fin 10000) (hsrc : ∀ e, x1 (ix2 0 e) = BitVec.ofNat 32 (src e).val)
  (hdst : ∀ e, x1 (ix2 1 e) = BitVec.ofNat 32 (dst e).val)

/-- The parameters as a table. -/
abbrev L (a : Fin 4) (b : Fin 12) : EReal := x8 (ix2 a b)

/-- The messages as a table. -/
abbrev Z (n : Fin 10000) (t : Fin 128) : EReal := (val_main_v128 (F := Ideal) x0 x1 x3 x4 x5 x7 x10 x13 x14) (ix2 n t)

/-- The sum over the edges into node `i`. -/
abbrev S (i : Fin 10000) (t : Fin 128) (j p : Fin 4) : EReal :=
  ∑ e ∈ Finset.univ.filter (fun e : Fin 320000 => (dst e).val = i.val), rpow (L x8) (Z x0 x1 x3 x4 x5 x7 x10 x13 x14 (src e) t) j p

theorem par0 (y : S1x4x1.Idx) : (val_main_v135 (F := Ideal) x8) y = (L x8) (y 1) 0 := by
  rw [val_main_v135_apply, val_main_v134_apply, val_main_v133_apply]
  refine congrArg x8 (funext fun a => Fin.ext ?_)
  match a with
  | ⟨0, _⟩ => exact Nat.div_one _
  | ⟨1, _⟩ => rfl

theorem par1 (y : S1x4x1.Idx) : (val_main_v138 (F := Ideal) x8) y = (L x8) (y 1) 1 := by
  rw [val_main_v138_apply, val_main_v137_apply, val_main_v136_apply]
  refine congrArg x8 (funext fun a => Fin.ext ?_)
  match a with
  | ⟨0, _⟩ => exact Nat.div_one _
  | ⟨1, _⟩ => rfl

theorem par2 (y : S1x4x1.Idx) : (val_main_v141 (F := Ideal) x8) y = (L x8) (y 1) 2 := by
  rw [val_main_v141_apply, val_main_v140_apply, val_main_v139_apply]
  refine congrArg x8 (funext fun a => Fin.ext ?_)
  match a with
  | ⟨0, _⟩ => exact Nat.div_one _
  | ⟨1, _⟩ => rfl

theorem par3 (y : S1x4x1.Idx) : (val_main_v144 (F := Ideal) x8) y = (L x8) (y 1) 3 := by
  rw [val_main_v144_apply, val_main_v143_apply, val_main_v142_apply]
  refine congrArg x8 (funext fun a => Fin.ext ?_)
  match a with
  | ⟨0, _⟩ => exact Nat.div_one _
  | ⟨1, _⟩ => rfl

theorem par4 (y : S1x4x1.Idx) : (val_main_v147 (F := Ideal) x8) y = (L x8) (y 1) 4 := by
  rw [val_main_v147_apply, val_main_v146_apply, val_main_v145_apply]
  refine congrArg x8 (funext fun a => Fin.ext ?_)
  match a with
  | ⟨0, _⟩ => exact Nat.div_one _
  | ⟨1, _⟩ => rfl

theorem par5 (y : S1x4x1.Idx) : (val_main_v150 (F := Ideal) x8) y = (L x8) (y 1) 5 := by
  rw [val_main_v150_apply, val_main_v149_apply, val_main_v148_apply]
  refine congrArg x8 (funext fun a => Fin.ext ?_)
  match a with
  | ⟨0, _⟩ => exact Nat.div_one _
  | ⟨1, _⟩ => rfl

theorem par6 (y : S1x4x1.Idx) : (val_main_v153 (F := Ideal) x8) y = (L x8) (y 1) 6 := by
  rw [val_main_v153_apply, val_main_v152_apply, val_main_v151_apply]
  refine congrArg x8 (funext fun a => Fin.ext ?_)
  match a with
  | ⟨0, _⟩ => exact Nat.div_one _
  | ⟨1, _⟩ => rfl

theorem par7 (y : S1x4x1.Idx) : (val_main_v156 (F := Ideal) x8) y = (L x8) (y 1) 7 := by
  rw [val_main_v156_apply, val_main_v155_apply, val_main_v154_apply]
  refine congrArg x8 (funext fun a => Fin.ext ?_)
  match a with
  | ⟨0, _⟩ => exact Nat.div_one _
  | ⟨1, _⟩ => rfl

theorem par8 (y : S1x4x1.Idx) : (val_main_v159 (F := Ideal) x8) y = (L x8) (y 1) 8 := by
  rw [val_main_v159_apply, val_main_v158_apply, val_main_v157_apply]
  refine congrArg x8 (funext fun a => Fin.ext ?_)
  match a with
  | ⟨0, _⟩ => exact Nat.div_one _
  | ⟨1, _⟩ => rfl

theorem par9 (y : S1x4x1.Idx) : (val_main_v162 (F := Ideal) x8) y = (L x8) (y 1) 9 := by
  rw [val_main_v162_apply, val_main_v161_apply, val_main_v160_apply]
  refine congrArg x8 (funext fun a => Fin.ext ?_)
  match a with
  | ⟨0, _⟩ => exact Nat.div_one _
  | ⟨1, _⟩ => rfl

theorem par10 (y : S1x4x1.Idx) : (val_main_v165 (F := Ideal) x8) y = (L x8) (y 1) 10 := by
  rw [val_main_v165_apply, val_main_v164_apply, val_main_v163_apply]
  refine congrArg x8 (funext fun a => Fin.ext ?_)
  match a with
  | ⟨0, _⟩ => exact Nat.div_one _
  | ⟨1, _⟩ => rfl

theorem par11 (y : S1x4x1.Idx) : (val_main_v168 (F := Ideal) x8) y = (L x8) (y 1) 11 := by
  rw [val_main_v168_apply, val_main_v167_apply, val_main_v166_apply]
  refine congrArg x8 (funext fun a => Fin.ext ?_)
  match a with
  | ⟨0, _⟩ => exact Nat.div_one _
  | ⟨1, _⟩ => rfl

include hsrc in
/-- The message of an edge is its source's. -/
theorem take (y : S320000x128.Idx) : (val_main_v129 (F := Ideal) x0 x1 x3 x4 x5 x7 x10 x13 x14) y = Z x0 x1 x3 x4 x5 x7 x10 x13 x14 (src (y 0)) (y 1) := by
  exact take_edges x1 src hsrc (val_main_v128 (F := Ideal) x0 x1 x3 x4 x5 x7 x10 x13 x14) y

include hsrc in
theorem msg (y : S320000x1x128.Idx) : (val_main_v130 (F := Ideal) x0 x1 x3 x4 x5 x7 x10 x13 x14) y = Z x0 x1 x3 x4 x5 x7 x10 x13 x14 (src (y 0)) (y 2) := by
  rw [val_main_v130_apply, take (hsrc := hsrc)]
  rfl

include hsrc in
theorem comsg (y : S320000x1x128.Idx) : (val_main_v132 (F := Ideal) x0 x1 x3 x4 x5 x7 x10 x13 x14) y = 1 - Z x0 x1 x3 x4 x5 x7 x10 x13 x14 (src (y 0)) (y 2) := by
  rw [val_main_v132_apply, val_main_v131_apply, val_main_cst_16_apply, msg (hsrc := hsrc)]
  exact congrArg (fun o => o - Z x0 x1 x3 x4 x5 x7 x10 x13 x14 (src (y 0)) (y 2)) Ideal.ofBits_one_f32

include hsrc in
theorem pow0 (y : S320000x4x128.Idx) : (val_main_v171 (F := Ideal) x0 x1 x3 x4 x5 x7 x8 x10 x13 x14) y = rpow (L x8) (Z x0 x1 x3 x4 x5 x7 x10 x13 x14 (src (y 0)) (y 2)) (y 1) 0 := by
  rw [val_main_v171_apply, val_main_v169_apply, val_main_v170_apply, msg (hsrc := hsrc), par1]
  rfl

include hsrc hdst in
theorem sum0 (y : S10000x4x128.Idx) : (val_main_v174 (F := Ideal) x0 x1 x3 x4 x5 x7 x8 x10 x13 x14) y = S x0 x1 x3 x4 x5 x7 x8 x10 x13 x14 src dst (y 0) (y 2) (y 1) 0 := by
  have hw : ∀ e : Fin 320000, ((val_main_v173 (F := Ideal) x1) (ix2 e (0 : Fin 1))).toInt = ((dst e).val : Int) := fun e => by
    rw [val_main_v173_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v172_apply, val_main_cst_17_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow0 x0 x1 x3 x4 x5 x7 x8 x10 x13 x14 src hsrc (ix3 e j t)

include hsrc in
theorem pow1 (y : S320000x4x128.Idx) : (val_main_v177 (F := Ideal) x0 x1 x3 x4 x5 x7 x8 x10 x13 x14) y = rpow (L x8) (Z x0 x1 x3 x4 x5 x7 x10 x13 x14 (src (y 0)) (y 2)) (y 1) 1 := by
  rw [val_main_v177_apply, val_main_v175_apply, val_main_v176_apply, comsg (hsrc := hsrc), par3]
  rfl

include hsrc hdst in
theorem sum1 (y : S10000x4x128.Idx) : (val_main_v180 (F := Ideal) x0 x1 x3 x4 x5 x7 x8 x10 x13 x14) y = S x0 x1 x3 x4 x5 x7 x8 x10 x13 x14 src dst (y 0) (y 2) (y 1) 1 := by
  have hw : ∀ e : Fin 320000, ((val_main_v179 (F := Ideal) x1) (ix2 e (0 : Fin 1))).toInt = ((dst e).val : Int) := fun e => by
    rw [val_main_v179_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v178_apply, val_main_cst_18_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow1 x0 x1 x3 x4 x5 x7 x8 x10 x13 x14 src hsrc (ix3 e j t)

include hsrc in
theorem pow2 (y : S320000x4x128.Idx) : (val_main_v183 (F := Ideal) x0 x1 x3 x4 x5 x7 x8 x10 x13 x14) y = rpow (L x8) (Z x0 x1 x3 x4 x5 x7 x10 x13 x14 (src (y 0)) (y 2)) (y 1) 2 := by
  rw [val_main_v183_apply, val_main_v181_apply, val_main_v182_apply, msg (hsrc := hsrc), par5]
  rfl

include hsrc hdst in
theorem sum2 (y : S10000x4x128.Idx) : (val_main_v186 (F := Ideal) x0 x1 x3 x4 x5 x7 x8 x10 x13 x14) y = S x0 x1 x3 x4 x5 x7 x8 x10 x13 x14 src dst (y 0) (y 2) (y 1) 2 := by
  have hw : ∀ e : Fin 320000, ((val_main_v185 (F := Ideal) x1) (ix2 e (0 : Fin 1))).toInt = ((dst e).val : Int) := fun e => by
    rw [val_main_v185_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v184_apply, val_main_cst_19_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow2 x0 x1 x3 x4 x5 x7 x8 x10 x13 x14 src hsrc (ix3 e j t)

include hsrc in
theorem pow3 (y : S320000x4x128.Idx) : (val_main_v189 (F := Ideal) x0 x1 x3 x4 x5 x7 x8 x10 x13 x14) y = rpow (L x8) (Z x0 x1 x3 x4 x5 x7 x10 x13 x14 (src (y 0)) (y 2)) (y 1) 3 := by
  rw [val_main_v189_apply, val_main_v187_apply, val_main_v188_apply, comsg (hsrc := hsrc), par7]
  rfl

include hsrc hdst in
theorem sum3 (y : S10000x4x128.Idx) : (val_main_v192 (F := Ideal) x0 x1 x3 x4 x5 x7 x8 x10 x13 x14) y = S x0 x1 x3 x4 x5 x7 x8 x10 x13 x14 src dst (y 0) (y 2) (y 1) 3 := by
  have hw : ∀ e : Fin 320000, ((val_main_v191 (F := Ideal) x1) (ix2 e (0 : Fin 1))).toInt = ((dst e).val : Int) := fun e => by
    rw [val_main_v191_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v190_apply, val_main_cst_20_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow3 x0 x1 x3 x4 x5 x7 x8 x10 x13 x14 src hsrc (ix3 e j t)

include hsrc hdst in
/-- The fraction of one head. -/
theorem frac (y : S10000x4x128.Idx) : (val_main_v221 (F := Ideal) x0 x1 x3 x4 x5 x7 x8 x10 x13 x14) y = rterm (L x8) (S x0 x1 x3 x4 x5 x7 x8 x10 x13 x14 src dst (y 0) (y 2)) (y 1) := by
  rw [val_main_v221_apply, val_main_v205_apply, val_main_v198_apply, val_main_v197_apply, val_main_v196_apply, val_main_v194_apply, val_main_v193_apply, val_main_cst_21_apply, val_main_v195_apply, val_main_v204_apply, val_main_v203_apply, val_main_v202_apply, val_main_v200_apply, val_main_v199_apply, val_main_cst_22_apply, val_main_v201_apply, val_main_v220_apply, val_main_v218_apply, val_main_v211_apply, val_main_v210_apply, val_main_v209_apply, val_main_v207_apply, val_main_v206_apply, val_main_cst_23_apply, val_main_v208_apply, val_main_v217_apply, val_main_v216_apply, val_main_v215_apply, val_main_v213_apply, val_main_v212_apply, val_main_cst_24_apply, val_main_v214_apply, val_main_v219_apply, val_main_cst_25_apply,
    sum0 (hsrc := hsrc) (hdst := hdst), sum1 (hsrc := hsrc) (hdst := hdst), sum2 (hsrc := hsrc) (hdst := hdst), sum3 (hsrc := hsrc) (hdst := hdst), par0, par2, par4, par6, par8, par9, par10, par11]
  rfl

include hsrc hdst in
/-- What node `i` gathers. -/
theorem gath (i : Fin 10000) (t : Fin 128) : (val_main_v224 (F := Ideal) x0 x1 x3 x4 x5 x7 x8 x10 x13 x14) (ix2 i t)
    = gathered src dst (L x8) (fun m => Z x0 x1 x3 x4 x5 x7 x10 x13 x14 m t) i.val := by
  rw [val_main_v224_apply, val_main_v223_apply, val_main_cst_27_apply, val_main_v222_apply, val_main_cst_26_apply]
  have hz : ((FloatOps.ofBits .f32 0x00000000#32 : Ideal .f32) : EReal) = 0 := Ideal.ofBits_zero_f32
  refine congrArg (fun o => Ideal.div o (Ideal.ofBits .f32 0x40800000#32)) ?_
  refine (congrArg (fun o : EReal => o + _) hz).trans ?_
  rw [zero_add]
  exact Finset.sum_congr rfl fun j _ => frac x0 x1 x3 x4 x5 x7 x8 x10 x13 x14 src dst hsrc hdst (idx_main_v222 (ix2 i t) j)

include hsrc hdst in
/-- The bias added. -/
theorem biased (i : Fin 10000) (t : Fin 128) : (val_main_v227 (F := Ideal) x0 x1 x3 x4 x5 x7 x8 x10 x11 x13 x14) (ix2 i t)
    = gathered src dst (L x8) (fun m => Z x0 x1 x3 x4 x5 x7 x10 x13 x14 m t) i.val + x11 (ix1 t) := by
  rw [val_main_v227_apply, gath (hsrc := hsrc) (hdst := hdst), val_main_v226_apply, val_main_v225_apply]
  exact congrArg (fun y => gathered src dst (L x8) (fun m => Z x0 x1 x3 x4 x5 x7 x10 x13 x14 m t) i.val + x11 y) (eq_ix1 _)

include hsrc hdst in
/-- The normalised value clipped below at zero. -/
theorem normed (i : Fin 10000) (t : Fin 128) : (val_main_v236 (F := Ideal) x0 x1 x3 x4 x5 x7 x8 x10 x11 x13 x14 x15 x16) (ix2 i t)
    = max ((gathered src dst (L x8) (fun m => Z x0 x1 x3 x4 x5 x7 x10 x13 x14 m t) i.val + x11 (ix1 t)) * Ideal.ofBits .f32 0x3F7FFFAC#32
        * x15 (ix1 t) + x16 (ix1 t)) 0 := by
  rw [val_main_v236_apply, val_main_v235_apply, val_main_v232_apply, val_main_v229_apply, biased (hsrc := hsrc) (hdst := hdst), val_main_v228_apply, val_main_cst_28_apply, val_main_v231_apply, val_main_v230_apply, val_main_v234_apply, val_main_v233_apply]
  have hg : x15 (idx_main_v230 (idx_main_v231 (ix2 i t))) = x15 (ix1 t) := congrArg x15 (eq_ix1 _)
  have hb : x16 (idx_main_v233 (idx_main_v234 (ix2 i t))) = x16 (ix1 t) := congrArg x16 (eq_ix1 _)
  rw [hg, hb]
  exact congrArg (fun o : EReal => max _ o) Ideal.ofBits_zero_f32

include hsrc hdst in
/-- The layer's messages. -/
theorem layer (i : Fin 10000) (u : Fin 128) : (val_main_v243 (F := Ideal) x0 x1 x3 x4 x5 x6 x7 x8 x10 x11 x13 x14 x15 x16) (ix2 i u)
    = nextLayer src dst (L x8) (fun t => x11 (ix1 t)) (fun t => x15 (ix1 t)) (fun t => x16 (ix1 t)) (fun t u => x6 (ix2 t u))
        (Z x0 x1 x3 x4 x5 x7 x10 x13 x14) i u := by
  rw [val_main_v243_apply, val_main_v242_apply, val_main_cst_30_apply, val_main_v241_apply, val_main_v240_apply, val_main_cst_29_apply, val_main_v239_apply, val_main_v238_apply, val_main_v237_apply]
  have hs : ∀ t : Fin 128, (val_main_v236 (F := Ideal) x0 x1 x3 x4 x5 x7 x8 x10 x11 x13 x14 x15 x16) (lidx_main_v237 (ix2 i u) t) * x6 (ridx_main_v237 (ix2 i u) t)
      = max ((gathered src dst (L x8) (fun m => Z x0 x1 x3 x4 x5 x7 x10 x13 x14 m t) i.val + x11 (ix1 t)) * Ideal.ofBits .f32 0x3F7FFFAC#32
        * x15 (ix1 t) + x16 (ix1 t)) 0 * x6 (ix2 t u) := fun t => by
    have e1 : lidx_main_v237 (ix2 i u) t = ix2 i t := eq_ix2 _
    have e2 : ridx_main_v237 (ix2 i u) t = ix2 t u := eq_ix2 _
    rw [e1, e2, normed (hsrc := hsrc) (hdst := hdst)]
  rw [Finset.sum_congr rfl fun t _ => hs t]
  unfold nextLayer sigm
  have h1 : (FloatOps.ofBits .f32 0x3F800000#32 : Ideal .f32) = (1 : EReal) := Ideal.ofBits_one_f32
  rw [h1, zero_sub]
  rfl

end Cert.ReferenceIdeal.Read.Layer2
-- ==== Proof.ReferenceIdeal.Layer3.lean ====
module

public import proofs.«01_k».proof.Proof.ReferenceIdeal.Take

/-!
The reference's third gathering layer: what each node gathers from its neighbours, and what the layer makes of it.
-/

@[expose] public noncomputable section

namespace Cert.ReferenceIdeal.Read.Layer3

open Cert.ReferenceIdeal Cert.ReferenceIdeal.Gen Cert.Spec Idealize.ShloMosaic.ValueIdx
open Idealize.ShloMosaic hiding ix1 ix2 ix3 eq_ix1 eq_ix2 eq_ix3

variable
  (x0 : (⟨S10000x128, .f32⟩ : BufTy).Contents (Elt Ideal))
  (x1 : (⟨S2x320000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128x128, .f32⟩ : BufTy).Contents (Elt Ideal))
  (x7 : (⟨S4x12, .f32⟩ : BufTy).Contents (Elt Ideal))
  (x8 : (⟨S4x12, .f32⟩ : BufTy).Contents (Elt Ideal))
  (x9 : (⟨S4x12, .f32⟩ : BufTy).Contents (Elt Ideal))
  (x10 : (⟨S128, .f32⟩ : BufTy).Contents (Elt Ideal))
  (x11 : (⟨S128, .f32⟩ : BufTy).Contents (Elt Ideal))
  (x12 : (⟨S128, .f32⟩ : BufTy).Contents (Elt Ideal))
  (x13 : (⟨S128, .f32⟩ : BufTy).Contents (Elt Ideal))
  (x14 : (⟨S128, .f32⟩ : BufTy).Contents (Elt Ideal))
  (x15 : (⟨S128, .f32⟩ : BufTy).Contents (Elt Ideal))
  (x16 : (⟨S128, .f32⟩ : BufTy).Contents (Elt Ideal))
  (src dst : Fin 320000 → Fin 10000) (hsrc : ∀ e, x1 (ix2 0 e) = BitVec.ofNat 32 (src e).val)
  (hdst : ∀ e, x1 (ix2 1 e) = BitVec.ofNat 32 (dst e).val)

/-- The parameters as a table. -/
abbrev L (a : Fin 4) (b : Fin 12) : EReal := x9 (ix2 a b)

/-- The messages as a table. -/
abbrev Z (n : Fin 10000) (t : Fin 128) : EReal := (val_main_v243 (F := Ideal) x0 x1 x3 x4 x5 x6 x7 x8 x10 x11 x13 x14 x15 x16) (ix2 n t)

/-- The sum over the edges into node `i`. -/
abbrev S (i : Fin 10000) (t : Fin 128) (j p : Fin 4) : EReal :=
  ∑ e ∈ Finset.univ.filter (fun e : Fin 320000 => (dst e).val = i.val), rpow (L x9) (Z x0 x1 x3 x4 x5 x6 x7 x8 x10 x11 x13 x14 x15 x16 (src e) t) j p

theorem par0 (y : S1x4x1.Idx) : (val_main_v250 (F := Ideal) x9) y = (L x9) (y 1) 0 := by
  rw [val_main_v250_apply, val_main_v249_apply, val_main_v248_apply]
  refine congrArg x9 (funext fun a => Fin.ext ?_)
  match a with
  | ⟨0, _⟩ => exact Nat.div_one _
  | ⟨1, _⟩ => rfl

theorem par1 (y : S1x4x1.Idx) : (val_main_v253 (F := Ideal) x9) y = (L x9) (y 1) 1 := by
  rw [val_main_v253_apply, val_main_v252_apply, val_main_v251_apply]
  refine congrArg x9 (funext fun a => Fin.ext ?_)
  match a with
  | ⟨0, _⟩ => exact Nat.div_one _
  | ⟨1, _⟩ => rfl

theorem par2 (y : S1x4x1.Idx) : (val_main_v256 (F := Ideal) x9) y = (L x9) (y 1) 2 := by
  rw [val_main_v256_apply, val_main_v255_apply, val_main_v254_apply]
  refine congrArg x9 (funext fun a => Fin.ext ?_)
  match a with
  | ⟨0, _⟩ => exact Nat.div_one _
  | ⟨1, _⟩ => rfl

theorem par3 (y : S1x4x1.Idx) : (val_main_v259 (F := Ideal) x9) y = (L x9) (y 1) 3 := by
  rw [val_main_v259_apply, val_main_v258_apply, val_main_v257_apply]
  refine congrArg x9 (funext fun a => Fin.ext ?_)
  match a with
  | ⟨0, _⟩ => exact Nat.div_one _
  | ⟨1, _⟩ => rfl

theorem par4 (y : S1x4x1.Idx) : (val_main_v262 (F := Ideal) x9) y = (L x9) (y 1) 4 := by
  rw [val_main_v262_apply, val_main_v261_apply, val_main_v260_apply]
  refine congrArg x9 (funext fun a => Fin.ext ?_)
  match a with
  | ⟨0, _⟩ => exact Nat.div_one _
  | ⟨1, _⟩ => rfl

theorem par5 (y : S1x4x1.Idx) : (val_main_v265 (F := Ideal) x9) y = (L x9) (y 1) 5 := by
  rw [val_main_v265_apply, val_main_v264_apply, val_main_v263_apply]
  refine congrArg x9 (funext fun a => Fin.ext ?_)
  match a with
  | ⟨0, _⟩ => exact Nat.div_one _
  | ⟨1, _⟩ => rfl

theorem par6 (y : S1x4x1.Idx) : (val_main_v268 (F := Ideal) x9) y = (L x9) (y 1) 6 := by
  rw [val_main_v268_apply, val_main_v267_apply, val_main_v266_apply]
  refine congrArg x9 (funext fun a => Fin.ext ?_)
  match a with
  | ⟨0, _⟩ => exact Nat.div_one _
  | ⟨1, _⟩ => rfl

theorem par7 (y : S1x4x1.Idx) : (val_main_v271 (F := Ideal) x9) y = (L x9) (y 1) 7 := by
  rw [val_main_v271_apply, val_main_v270_apply, val_main_v269_apply]
  refine congrArg x9 (funext fun a => Fin.ext ?_)
  match a with
  | ⟨0, _⟩ => exact Nat.div_one _
  | ⟨1, _⟩ => rfl

theorem par8 (y : S1x4x1.Idx) : (val_main_v274 (F := Ideal) x9) y = (L x9) (y 1) 8 := by
  rw [val_main_v274_apply, val_main_v273_apply, val_main_v272_apply]
  refine congrArg x9 (funext fun a => Fin.ext ?_)
  match a with
  | ⟨0, _⟩ => exact Nat.div_one _
  | ⟨1, _⟩ => rfl

theorem par9 (y : S1x4x1.Idx) : (val_main_v277 (F := Ideal) x9) y = (L x9) (y 1) 9 := by
  rw [val_main_v277_apply, val_main_v276_apply, val_main_v275_apply]
  refine congrArg x9 (funext fun a => Fin.ext ?_)
  match a with
  | ⟨0, _⟩ => exact Nat.div_one _
  | ⟨1, _⟩ => rfl

theorem par10 (y : S1x4x1.Idx) : (val_main_v280 (F := Ideal) x9) y = (L x9) (y 1) 10 := by
  rw [val_main_v280_apply, val_main_v279_apply, val_main_v278_apply]
  refine congrArg x9 (funext fun a => Fin.ext ?_)
  match a with
  | ⟨0, _⟩ => exact Nat.div_one _
  | ⟨1, _⟩ => rfl

theorem par11 (y : S1x4x1.Idx) : (val_main_v283 (F := Ideal) x9) y = (L x9) (y 1) 11 := by
  rw [val_main_v283_apply, val_main_v282_apply, val_main_v281_apply]
  refine congrArg x9 (funext fun a => Fin.ext ?_)
  match a with
  | ⟨0, _⟩ => exact Nat.div_one _
  | ⟨1, _⟩ => rfl

include hsrc in
/-- The message of an edge is its source's. -/
theorem take (y : S320000x128.Idx) : (val_main_v244 (F := Ideal) x0 x1 x3 x4 x5 x6 x7 x8 x10 x11 x13 x14 x15 x16) y = Z x0 x1 x3 x4 x5 x6 x7 x8 x10 x11 x13 x14 x15 x16 (src (y 0)) (y 1) := by
  exact take_edges x1 src hsrc (val_main_v243 (F := Ideal) x0 x1 x3 x4 x5 x6 x7 x8 x10 x11 x13 x14 x15 x16) y

include hsrc in
theorem msg (y : S320000x1x128.Idx) : (val_main_v245 (F := Ideal) x0 x1 x3 x4 x5 x6 x7 x8 x10 x11 x13 x14 x15 x16) y = Z x0 x1 x3 x4 x5 x6 x7 x8 x10 x11 x13 x14 x15 x16 (src (y 0)) (y 2) := by
  rw [val_main_v245_apply, take (hsrc := hsrc)]
  rfl

include hsrc in
theorem comsg (y : S320000x1x128.Idx) : (val_main_v247 (F := Ideal) x0 x1 x3 x4 x5 x6 x7 x8 x10 x11 x13 x14 x15 x16) y = 1 - Z x0 x1 x3 x4 x5 x6 x7 x8 x10 x11 x13 x14 x15 x16 (src (y 0)) (y 2) := by
  rw [val_main_v247_apply, val_main_v246_apply, val_main_cst_31_apply, msg (hsrc := hsrc)]
  exact congrArg (fun o => o - Z x0 x1 x3 x4 x5 x6 x7 x8 x10 x11 x13 x14 x15 x16 (src (y 0)) (y 2)) Ideal.ofBits_one_f32

include hsrc in
theorem pow0 (y : S320000x4x128.Idx) : (val_main_v286 (F := Ideal) x0 x1 x3 x4 x5 x6 x7 x8 x9 x10 x11 x13 x14 x15 x16) y = rpow (L x9) (Z x0 x1 x3 x4 x5 x6 x7 x8 x10 x11 x13 x14 x15 x16 (src (y 0)) (y 2)) (y 1) 0 := by
  rw [val_main_v286_apply, val_main_v284_apply, val_main_v285_apply, msg (hsrc := hsrc), par1]
  rfl

include hsrc hdst in
theorem sum0 (y : S10000x4x128.Idx) : (val_main_v289 (F := Ideal) x0 x1 x3 x4 x5 x6 x7 x8 x9 x10 x11 x13 x14 x15 x16) y = S x0 x1 x3 x4 x5 x6 x7 x8 x9 x10 x11 x13 x14 x15 x16 src dst (y 0) (y 2) (y 1) 0 := by
  have hw : ∀ e : Fin 320000, ((val_main_v288 (F := Ideal) x1) (ix2 e (0 : Fin 1))).toInt = ((dst e).val : Int) := fun e => by
    rw [val_main_v288_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v287_apply, val_main_cst_32_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow0 x0 x1 x3 x4 x5 x6 x7 x8 x9 x10 x11 x13 x14 x15 x16 src hsrc (ix3 e j t)

include hsrc in
theorem pow1 (y : S320000x4x128.Idx) : (val_main_v292 (F := Ideal) x0 x1 x3 x4 x5 x6 x7 x8 x9 x10 x11 x13 x14 x15 x16) y = rpow (L x9) (Z x0 x1 x3 x4 x5 x6 x7 x8 x10 x11 x13 x14 x15 x16 (src (y 0)) (y 2)) (y 1) 1 := by
  rw [val_main_v292_apply, val_main_v290_apply, val_main_v291_apply, comsg (hsrc := hsrc), par3]
  rfl

include hsrc hdst in
theorem sum1 (y : S10000x4x128.Idx) : (val_main_v295 (F := Ideal) x0 x1 x3 x4 x5 x6 x7 x8 x9 x10 x11 x13 x14 x15 x16) y = S x0 x1 x3 x4 x5 x6 x7 x8 x9 x10 x11 x13 x14 x15 x16 src dst (y 0) (y 2) (y 1) 1 := by
  have hw : ∀ e : Fin 320000, ((val_main_v294 (F := Ideal) x1) (ix2 e (0 : Fin 1))).toInt = ((dst e).val : Int) := fun e => by
    rw [val_main_v294_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v293_apply, val_main_cst_33_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow1 x0 x1 x3 x4 x5 x6 x7 x8 x9 x10 x11 x13 x14 x15 x16 src hsrc (ix3 e j t)

include hsrc in
theorem pow2 (y : S320000x4x128.Idx) : (val_main_v298 (F := Ideal) x0 x1 x3 x4 x5 x6 x7 x8 x9 x10 x11 x13 x14 x15 x16) y = rpow (L x9) (Z x0 x1 x3 x4 x5 x6 x7 x8 x10 x11 x13 x14 x15 x16 (src (y 0)) (y 2)) (y 1) 2 := by
  rw [val_main_v298_apply, val_main_v296_apply, val_main_v297_apply, msg (hsrc := hsrc), par5]
  rfl

include hsrc hdst in
theorem sum2 (y : S10000x4x128.Idx) : (val_main_v301 (F := Ideal) x0 x1 x3 x4 x5 x6 x7 x8 x9 x10 x11 x13 x14 x15 x16) y = S x0 x1 x3 x4 x5 x6 x7 x8 x9 x10 x11 x13 x14 x15 x16 src dst (y 0) (y 2) (y 1) 2 := by
  have hw : ∀ e : Fin 320000, ((val_main_v300 (F := Ideal) x1) (ix2 e (0 : Fin 1))).toInt = ((dst e).val : Int) := fun e => by
    rw [val_main_v300_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v299_apply, val_main_cst_34_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow2 x0 x1 x3 x4 x5 x6 x7 x8 x9 x10 x11 x13 x14 x15 x16 src hsrc (ix3 e j t)

include hsrc in
theorem pow3 (y : S320000x4x128.Idx) : (val_main_v304 (F := Ideal) x0 x1 x3 x4 x5 x6 x7 x8 x9 x10 x11 x13 x14 x15 x16) y = rpow (L x9) (Z x0 x1 x3 x4 x5 x6 x7 x8 x10 x11 x13 x14 x15 x16 (src (y 0)) (y 2)) (y 1) 3 := by
  rw [val_main_v304_apply, val_main_v302_apply, val_main_v303_apply, comsg (hsrc := hsrc), par7]
  rfl

include hsrc hdst in
theorem sum3 (y : S10000x4x128.Idx) : (val_main_v307 (F := Ideal) x0 x1 x3 x4 x5 x6 x7 x8 x9 x10 x11 x13 x14 x15 x16) y = S x0 x1 x3 x4 x5 x6 x7 x8 x9 x10 x11 x13 x14 x15 x16 src dst (y 0) (y 2) (y 1) 3 := by
  have hw : ∀ e : Fin 320000, ((val_main_v306 (F := Ideal) x1) (ix2 e (0 : Fin 1))).toInt = ((dst e).val : Int) := fun e => by
    rw [val_main_v306_apply, dst_word]
    refine (congrArg BitVec.toInt (hdst e)).trans ?_
    exact StableHlo.Predicate.toInt_ofNat_small _ (by have := (dst e).isLt; omega)
  obtain ⟨i, j, t, rfl⟩ : ∃ (i : Fin 10000) (j : Fin 4) (t : Fin 128), y = ix3 i j t := ⟨y 0, y 1, y 2, eq_ix3 y⟩
  refine (scatter_row scatter_S10000x4x128_S320000x1_S320000x4x128_12_0_0_1 rfl rfl rfl rfl _ _ _ i j t).trans ?_
  rw [val_main_v305_apply, val_main_cst_35_apply]
  refine (congrArg (fun o : EReal => o + _) Ideal.ofBits_zero_f32).trans ?_
  rw [zero_add]
  refine Finset.sum_congr (Finset.filter_congr fun e _ => ?_) fun e _ => ?_
  · rw [hw]
    exact Int.natCast_inj
  · exact pow3 x0 x1 x3 x4 x5 x6 x7 x8 x9 x10 x11 x13 x14 x15 x16 src hsrc (ix3 e j t)

include hsrc hdst in
/-- The fraction of one head. -/
theorem frac (y : S10000x4x128.Idx) : (val_main_v336 (F := Ideal) x0 x1 x3 x4 x5 x6 x7 x8 x9 x10 x11 x13 x14 x15 x16) y = rterm (L x9) (S x0 x1 x3 x4 x5 x6 x7 x8 x9 x10 x11 x13 x14 x15 x16 src dst (y 0) (y 2)) (y 1) := by
  rw [val_main_v336_apply, val_main_v320_apply, val_main_v313_apply, val_main_v312_apply, val_main_v311_apply, val_main_v309_apply, val_main_v308_apply, val_main_cst_36_apply, val_main_v310_apply, val_main_v319_apply, val_main_v318_apply, val_main_v317_apply, val_main_v315_apply, val_main_v314_apply, val_main_cst_37_apply, val_main_v316_apply, val_main_v335_apply, val_main_v333_apply, val_main_v326_apply, val_main_v325_apply, val_main_v324_apply, val_main_v322_apply, val_main_v321_apply, val_main_cst_38_apply, val_main_v323_apply, val_main_v332_apply, val_main_v331_apply, val_main_v330_apply, val_main_v328_apply, val_main_v327_apply, val_main_cst_39_apply, val_main_v329_apply, val_main_v334_apply, val_main_cst_40_apply,
    sum0 (hsrc := hsrc) (hdst := hdst), sum1 (hsrc := hsrc) (hdst := hdst), sum2 (hsrc := hsrc) (hdst := hdst), sum3 (hsrc := hsrc) (hdst := hdst), par0, par2, par4, par6, par8, par9, par10, par11]
  rfl

include hsrc hdst in
/-- What node `i` gathers. -/
theorem gath (i : Fin 10000) (t : Fin 128) : (val_main_v339 (F := Ideal) x0 x1 x3 x4 x5 x6 x7 x8 x9 x10 x11 x13 x14 x15 x16) (ix2 i t)
    = gathered src dst (L x9) (fun m => Z x0 x1 x3 x4 x5 x6 x7 x8 x10 x11 x13 x14 x15 x16 m t) i.val := by
  rw [val_main_v339_apply, val_main_v338_apply, val_main_cst_42_apply, val_main_v337_apply, val_main_cst_41_apply]
  have hz : ((FloatOps.ofBits .f32 0x00000000#32 : Ideal .f32) : EReal) = 0 := Ideal.ofBits_zero_f32
  refine congrArg (fun o => Ideal.div o (Ideal.ofBits .f32 0x40800000#32)) ?_
  refine (congrArg (fun o : EReal => o + _) hz).trans ?_
  rw [zero_add]
  exact Finset.sum_congr rfl fun j _ => frac x0 x1 x3 x4 x5 x6 x7 x8 x9 x10 x11 x13 x14 x15 x16 src dst hsrc hdst (idx_main_v337 (ix2 i t) j)

include hsrc hdst in
/-- The bias added. -/
theorem biased (i : Fin 10000) (t : Fin 128) : (val_main_v342 (F := Ideal) x0 x1 x3 x4 x5 x6 x7 x8 x9 x10 x11 x12 x13 x14 x15 x16) (ix2 i t)
    = gathered src dst (L x9) (fun m => Z x0 x1 x3 x4 x5 x6 x7 x8 x10 x11 x13 x14 x15 x16 m t) i.val + x12 (ix1 t) := by
  rw [val_main_v342_apply, gath (hsrc := hsrc) (hdst := hdst), val_main_v341_apply, val_main_v340_apply]
  exact congrArg (fun y => gathered src dst (L x9) (fun m => Z x0 x1 x3 x4 x5 x6 x7 x8 x10 x11 x13 x14 x15 x16 m t) i.val + x12 y) (eq_ix1 _)

end Cert.ReferenceIdeal.Read.Layer3
-- ==== Proof.ReferenceIdeal.Result.lean ====
module

public import proofs.«01_k».proof.Proof.ReferenceIdeal.Layer1
public import proofs.«01_k».proof.Proof.ReferenceIdeal.Layer2
public import proofs.«01_k».proof.Proof.ReferenceIdeal.Layer3

/-!
The reference's result, read at an index: the network's value at the asked node.
-/

@[expose] public noncomputable section

namespace Cert.ReferenceIdeal.Read

open Cert.ReferenceIdeal Cert.ReferenceIdeal.Gen Cert.Spec Idealize.ShloMosaic.ValueIdx
open Idealize.ShloMosaic hiding ix1 ix2 ix3 eq_ix1 eq_ix2 eq_ix3

variable
  (x0 : (⟨S10000x128, .f32⟩ : BufTy).Contents (Elt Ideal))
  (x1 : (⟨S2x320000, .i32⟩ : BufTy).Contents (Elt Ideal))
  (x2 : (⟨S2048, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128x128, .f32⟩ : BufTy).Contents (Elt Ideal))
  (x7 : (⟨S4x12, .f32⟩ : BufTy).Contents (Elt Ideal))
  (x8 : (⟨S4x12, .f32⟩ : BufTy).Contents (Elt Ideal))
  (x9 : (⟨S4x12, .f32⟩ : BufTy).Contents (Elt Ideal))
  (x10 : (⟨S128, .f32⟩ : BufTy).Contents (Elt Ideal))
  (x11 : (⟨S128, .f32⟩ : BufTy).Contents (Elt Ideal))
  (x12 : (⟨S128, .f32⟩ : BufTy).Contents (Elt Ideal))
  (x13 : (⟨S128, .f32⟩ : BufTy).Contents (Elt Ideal))
  (x14 : (⟨S128, .f32⟩ : BufTy).Contents (Elt Ideal))
  (x15 : (⟨S128, .f32⟩ : BufTy).Contents (Elt Ideal))
  (x16 : (⟨S128, .f32⟩ : BufTy).Contents (Elt Ideal))
  (src dst : Fin 320000 → Fin 10000) (hsrc : ∀ e, x1 (ix2 0 e) = BitVec.ofNat 32 (src e).val)
  (hdst : ∀ e, x1 (ix2 1 e) = BitVec.ofNat 32 (dst e).val)
  (out : Fin 2048 → Fin 10000) (hout : ∀ e, x2 (ix1 e) = BitVec.ofNat 32 (out e).val)

/-- The first layer's messages. -/
theorem first (i : Fin 10000) (u : Fin 128) : val_main_v13 (F := Ideal) x0 x3 x4 (ix2 i u)
    = firstLayer (fun n k => x0 (ix2 n k)) (fun k u => x3 (ix2 k u)) (fun u => x4 (ix1 u)) i u := by
  rw [val_main_v13_apply, val_main_v12_apply, val_main_cst_0_apply, val_main_v11_apply, val_main_v10_apply,
    val_main_cst_apply, val_main_v9_apply, val_main_v8_apply, val_main_v7_apply, val_main_v4_apply, val_main_v6_apply,
    val_main_v5_apply]
  have hs : ∀ k : Fin 128, x0 (lidx_main_v4 (ix2 i u) k) * x3 (ridx_main_v4 (ix2 i u) k) = x0 (ix2 i k) * x3 (ix2 k u) := fun k => by
    have e1 : lidx_main_v4 (ix2 i u) k = ix2 i k := eq_ix2 _
    have e2 : ridx_main_v4 (ix2 i u) k = ix2 k u := eq_ix2 _
    rw [e1, e2]
  have hb : x4 (idx_main_v5 (idx_main_v6 (ix2 i u))) = x4 (ix1 u) := congrArg x4 (eq_ix1 _)
  rw [Finset.sum_congr rfl fun k _ => hs k, hb]
  unfold firstLayer sigm
  have h1 : (FloatOps.ofBits .f32 0x3F800000#32 : Ideal .f32) = (1 : EReal) := Ideal.ofBits_one_f32
  rw [h1, zero_sub]
  rfl

include hsrc hdst hout in
/-- The reference's result is the network's value at the asked node. -/
theorem result (y : S2048x128.Idx) : val_main_v343 (F := Ideal) x0 x1 x2 x3 x4 x5 x6 x7 x8 x9 x10 x11 x12 x13 x14 x15 x16 y
    = network src dst (fun n k => x0 (ix2 n k)) (fun k u => x3 (ix2 k u)) (fun k u => x5 (ix2 k u)) (fun k u => x6 (ix2 k u))
        (fun u => x4 (ix1 u)) (fun a b => x7 (ix2 a b)) (fun a b => x8 (ix2 a b)) (fun a b => x9 (ix2 a b))
        (fun u => x10 (ix1 u)) (fun u => x11 (ix1 u)) (fun u => x12 (ix1 u)) (fun u => x13 (ix1 u)) (fun u => x14 (ix1 u))
        (fun u => x15 (ix1 u)) (fun u => x16 (ix1 u)) (out (y 0)) (y 1) := by
  have z0 : Layer1.Z x0 x3 x4 = firstLayer (fun n k => x0 (ix2 n k)) (fun k u => x3 (ix2 k u)) (fun u => x4 (ix1 u)) :=
    funext fun i => funext fun u => first x0 x3 x4 i u
  have z1 : Layer2.Z x0 x1 x3 x4 x5 x7 x10 x13 x14 = _ :=
    funext fun i => funext fun u => Layer1.layer x0 x1 x3 x4 x5 x7 x10 x13 x14 src dst hsrc hdst i u
  have z2 : Layer3.Z x0 x1 x3 x4 x5 x6 x7 x8 x10 x11 x13 x14 x15 x16 = _ :=
    funext fun i => funext fun u => Layer2.layer x0 x1 x3 x4 x5 x6 x7 x8 x10 x11 x13 x14 x15 x16 src dst hsrc hdst i u
  refine (take_out x2 out hout (val_main_v342 (F := Ideal) x0 x1 x3 x4 x5 x6 x7 x8 x9 x10 x11 x12 x13 x14 x15 x16) y).trans ?_
  refine (Layer3.biased x0 x1 x3 x4 x5 x6 x7 x8 x9 x10 x11 x12 x13 x14 x15 x16 src dst hsrc hdst (out (y 0)) (y 1)).trans ?_
  rw [z2, z1, z0]
  rfl

end Cert.ReferenceIdeal.Read
-- ==== Proof.Spec.Inputs.lean ====
module

public import proofs.«01_k».proof.Proof.Gen.Pre_inputs_in_range
public import Idealize.ShloMosaic.Lib.ReduceAll
public import Idealize.ShloMosaic.Lib.WordCmp
public import Idealize.ShloMosaic.Lib.Affine
public import Idealize.ShloMosaic.Lib.ValueIdx
public import Idealize.ShloMosaic.Lib.IdealHost
public import Idealize.ShloMosaic.Lib.Pointwise.Select

/-!
What the precondition says of the arguments: every node number is below 10000, every exponent of a message is nonnegative.
-/

@[expose] public noncomputable section

namespace Cert.Pre_inputs_in_range.Inputs

open Cert.Pre_inputs_in_range Cert.Pre_inputs_in_range.Gen Idealize.ShloMosaic.ValueIdx
open Idealize.ShloMosaic hiding ix1 ix2 ix3 eq_ix1 eq_ix2 eq_ix3

/-- A word that passes the two comparisons is a node number. -/
theorem word (w : BitVec 32) (h : IntOp.andi (IntOp.cmpi .sge w 0#32) (IntOp.cmpi .slt w 10000#32) = 1#1) :
    ∃ n : Fin 10000, w = BitVec.ofNat 32 n.val := by
  have h0 : (0#32).toInt = 0 := rfl
  have h9 : (10000#32).toInt = 10000 := rfl
  rw [WordCmp.cmpi_sge_eq, WordCmp.cmpi_slt_eq, WordCmp.andi_ofBool, WordCmp.ofBool_eq_one_iff, Bool.and_eq_true,
    decide_eq_true_iff, decide_eq_true_iff, h0, h9] at h
  have e : (w.toNat : Int) = w.toInt := by
    have := BitVec.toInt_eq_toNat_cond w
    have hw := w.isLt
    split at this <;> omega
  refine ⟨⟨w.toNat, by omega⟩, ?_⟩
  exact BitVec.eq_of_toNat_eq (by rw [BitVec.toNat_ofNat]; exact (Nat.mod_eq_of_lt w.isLt).symm)

/-- The exponents' comparison, read at one aggregator and power. -/
theorem exponent (L : FVec Ideal S4x12 .f32)
    (h : ∀ i, cmpf .oge (Host.slice S4x4 ![0, 1] ![1, 2] L slicesBy_S4x12_S4x4_0s1_1s2)
      (broadcastInDim S4x4 ![] bcast_S_S4x4 (constant S_ .f32 0x00000000#32)) i = 1#1) (j p : Fin 4) :
    0 ≤ (L (ix2 j ((![1, 3, 5, 7] : Fin 4 → Fin 12) p)) : EReal) := by
  have e : Ideal.cmp .oge (Host.slice S4x4 ![0, 1] ![1, 2] L slicesBy_S4x12_S4x4_0s1_1s2 (ix2 j p)) (Ideal.ofBits .f32 0x00000000#32) = 1 :=
    h (ix2 j p)
  have e2 := (Ideal.cmp_oge_eq_one _ _).mp e
  rw [Ideal.ofBits_zero_f32] at e2
  refine e2.trans (le_of_eq (congrArg L (funext fun a => Fin.ext ?_)))
  match a with
  | ⟨0, _⟩ => show 0 + 1 * j.val = j.val; omega
  | ⟨1, _⟩ => show 1 + 2 * p.val = ((![1, 3, 5, 7] : Fin 4 → Fin 12) p).val; fin_cases p <;> rfl

variable (x0 : FVec Ideal S10000x128 .f32) (x1 : IVec S2x320000 32) (x2 : IVec S2048 32) (x3 : FVec Ideal S128x128 .f32)
  (x4 : FVec Ideal S128 .f32) (x5 x6 : FVec Ideal S128x128 .f32) (x7 x8 x9 : FVec Ideal S4x12 .f32)
  (x10 x11 x12 x13 x14 x15 x16 : FVec Ideal S128 .f32)

/-- The precondition, taken apart. -/
theorem facts_of (h : Cert.Pre_inputs_in_range.fn (F := Ideal) x0 x1 x2 x3 x4 x5 x6 x7 x8 x9 x10 x11 x12 x13 x14 x15 x16 = fun _ => 1#1) :
    (∀ a e, ∃ n : Fin 10000, x1 (ix2 a e) = BitVec.ofNat 32 n.val) ∧ (∀ e, ∃ n : Fin 10000, x2 (ix1 e) = BitVec.ofNat 32 n.val)
      ∧ (∀ j p : Fin 4, 0 ≤ (x7 (ix2 j ((![1, 3, 5, 7] : Fin 4 → Fin 12) p)) : EReal))
      ∧ (∀ j p : Fin 4, 0 ≤ (x8 (ix2 j ((![1, 3, 5, 7] : Fin 4 → Fin 12) p)) : EReal))
      ∧ (∀ j p : Fin 4, 0 ≤ (x9 (ix2 j ((![1, 3, 5, 7] : Fin 4 → Fin 12) p)) : EReal)) := by
  haveI : Subsingleton S_.Idx := ⟨fun a b => funext fun i => i.elim0⟩
  obtain ⟨h4, h9⟩ := IntOp.andi_eq_one.mp (congrFun h (fun i => i.elim0))
  obtain ⟨h3, h8⟩ := IntOp.andi_eq_one.mp h4
  obtain ⟨h2, h7⟩ := IntOp.andi_eq_one.mp h3
  obtain ⟨h1, hx⟩ := IntOp.andi_eq_one.mp h2
  refine ⟨fun a e => word _ (Host.reduce_andi_all _ _ _ _ _ h1 (ix2 a e)), fun e => word _ (Host.reduce_andi_all _ _ _ _ _ hx (ix1 e)),
    exponent x7 (Host.reduce_andi_all _ _ _ _ _ h7), exponent x8 (Host.reduce_andi_all _ _ _ _ _ h8),
    exponent x9 (Host.reduce_andi_all _ _ _ _ _ h9)⟩

end Cert.Pre_inputs_in_range.Inputs
-- ==== Proof.Equation.lean ====
module

public import proofs.«01_k».proof.Defs
public import proofs.«01_k».proof.Proof.KernelIdeal.Value
public import proofs.«01_k».proof.Proof.ReferenceIdeal.Result
public import proofs.«01_k».proof.Proof.Spec.Inputs

/-!
The equation: under the precondition the kernel's result and the reference's are the same network's value.
-/

@[expose] public noncomputable section

namespace Cert.Equation

open Idealize.ShloMosaic.ValueIdx Idealize.SL.Sem
open Idealize.ShloMosaic hiding ix1 ix2 ix3 eq_ix1 eq_ix2 eq_ix3

attribute [local instance] Cert.Pre_inputs_in_range.Gen.facts Cert.KernelIdeal.Gen.facts Cert.ReferenceIdeal.Gen.facts

/-- With arguments that satisfy the precondition, the reference's result from them is what the kernel leaves. -/
theorem results_eq (m : (ℓ : Loc Cert.KernelIdeal.nD Cert.KernelIdeal.τ Cert.KernelIdeal.sig) → Buf (Elt Ideal) ℓ) (c : Dev Cert.KernelIdeal.nD)
    (hpre : Cert.Pre_KernelIdeal_inputs_in_range m)
    (x0 : (⟨Cert.ReferenceIdeal.S10000x128, .f32⟩ : BufTy).Contents (Elt Ideal))
    (x1 : (⟨Cert.ReferenceIdeal.S2x320000, .i32⟩ : BufTy).Contents (Elt Ideal))
    (x2 : (⟨Cert.ReferenceIdeal.S2048, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128x128, .f32⟩ : BufTy).Contents (Elt Ideal))
    (x7 : (⟨Cert.ReferenceIdeal.S4x12, .f32⟩ : BufTy).Contents (Elt Ideal))
    (x8 : (⟨Cert.ReferenceIdeal.S4x12, .f32⟩ : BufTy).Contents (Elt Ideal))
    (x9 : (⟨Cert.ReferenceIdeal.S4x12, .f32⟩ : BufTy).Contents (Elt Ideal))
    (x10 : (⟨Cert.ReferenceIdeal.S128, .f32⟩ : BufTy).Contents (Elt Ideal))
    (x11 : (⟨Cert.ReferenceIdeal.S128, .f32⟩ : BufTy).Contents (Elt Ideal))
    (x12 : (⟨Cert.ReferenceIdeal.S128, .f32⟩ : BufTy).Contents (Elt Ideal))
    (x13 : (⟨Cert.ReferenceIdeal.S128, .f32⟩ : BufTy).Contents (Elt Ideal))
    (x14 : (⟨Cert.ReferenceIdeal.S128, .f32⟩ : BufTy).Contents (Elt Ideal))
    (x15 : (⟨Cert.ReferenceIdeal.S128, .f32⟩ : BufTy).Contents (Elt Ideal))
    (x16 : (⟨Cert.ReferenceIdeal.S128, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11))
    (h12 : x12 = m ((c.tc : Thread Cert.KernelIdeal.nD Cert.KernelIdeal.τ).loc Cert.KernelIdeal.main_arg12))
    (h13 : x13 = m ((c.tc : Thread Cert.KernelIdeal.nD Cert.KernelIdeal.τ).loc Cert.KernelIdeal.main_arg13))
    (h14 : x14 = m ((c.tc : Thread Cert.KernelIdeal.nD Cert.KernelIdeal.τ).loc Cert.KernelIdeal.main_arg14))
    (h15 : x15 = m ((c.tc : Thread Cert.KernelIdeal.nD Cert.KernelIdeal.τ).loc Cert.KernelIdeal.main_arg15))
    (h16 : x16 = m ((c.tc : Thread Cert.KernelIdeal.nD Cert.KernelIdeal.τ).loc Cert.KernelIdeal.main_arg16)) :
    Cert.ReferenceIdeal.Read.val_main_v343 (F := Ideal) x0 x1 x2 x3 x4 x5 x6 x7 x8 x9 x10 x11 x12 x13 x14 x15 x16
      = Cert.KernelIdeal.Gen.V12 m (Cert.KernelIdeal.Launch.outs4 m) c (Proc.devRef .tc Cert.KernelIdeal.main_v35) := by
  obtain ⟨hnode, hask, hL0, hL1, hL2⟩ := Cert.Pre_inputs_in_range.Inputs.facts_of _ _ _ _ _ _ _ _ _ _ _ _ _ _ _ _ _ (hpre c)
  choose src hsrc using hnode 0
  choose dst hdst using hnode 1
  choose out hout using hask
  subst h0 h1 h2 h3 h4 h5 h6 h7 h8 h9 h10 h11 h12 h13 h14 h15 h16
  funext y
  exact (Cert.ReferenceIdeal.Read.result _ _ _ _ _ _ _ _ _ _ _ _ _ _ _ _ _ src dst hsrc hdst out hout y).trans
    (Cert.KernelIdeal.Value.result m c src dst hsrc hdst hL0 hL1 hL2 out hout y).symm

/-- The kernel and the reference end with equal results and unchanged arguments. -/
theorem algebraic : Cert.algebraic_KernelIdeal_ReferenceIdeal_pre_inputs_in_range := by
  intro m g m' g' hpre hargs
  refine ⟨fun c => Cert.KernelIdeal.Gen.V12 m (Cert.KernelIdeal.Launch.outs4 m) c (Proc.devRef .tc Cert.KernelIdeal.main_v35), Cert.KernelIdeal.Launch.result m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7, h8, h9, h10, h11, h12, h13, h14, h15, h16⟩ := hargs c
  refine (Cert.ReferenceIdeal.Read.val_main_v343_eq (F := Ideal) (StableHlo.launchContents m' c)).trans ?_
  exact results_eq m c hpre _ _ _ _ _ _ _ _ _ _ _ _ _ _ _ _ _ h0 h1 h2 h3 h4 h5 h6 h7 h8 h9 h10 h11 h12 h13 h14 h15 h16

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_in_range
public import proofs.«01_k».proof.Proof.Gen.Own.Kernel.K0.Frame
public import proofs.«01_k».proof.Proof.Gen.Own.Kernel.RegionsD
public import proofs.«01_k».proof.Proof.Gen.Own.KernelIdeal.K0.Frame
public import proofs.«01_k».proof.Proof.Gen.Own.KernelIdeal.RegionsD
public import proofs.«01_k».proof.Proof.Kernel.Launch
public import proofs.«01_k».proof.Proof.KernelIdeal.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as printed runs, leaves its arguments unchanged and every counter at zero. -/
theorem frame_kernel : Cert.quiescent_Kernel (hKernel := Cert.Kernel.Gen.facts) := fun m g _ => Cert.Kernel.Launch.frame m g

/-- So does its idealization. -/
theorem frame_ideal : Cert.quiescent_KernelIdeal (hKernelIdeal := Cert.KernelIdeal.Gen.facts) := fun m g _ => Cert.KernelIdeal.Launch.frame m g

/-- The reference runs, leaves its arguments unchanged, and declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- All the claims together; the frames under the precondition are the frames. -/
theorem claim : Cert.Claim :=
  ⟨Cert.Kernel.Gen.facts, Cert.KernelIdeal.Gen.facts, Cert.ReferenceIdeal.Gen.facts, Cert.Pre_inputs_in_range.Gen.facts,
    frame_kernel, frame_ideal, fun m g _ => frame_ideal m g trivial, frame_reference, fun m g _ => frame_reference m g trivial,
    trivial, Cert.Equation.algebraic⟩

end Cert.Proof

end
